-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_scores [hPre_distinct_scores : Cert.Pre_distinct_scores.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_scores [hPre_distinct_scores : Cert.Pre_distinct_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_distinct_scores [hKernelIdeal : Cert.KernelIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_distinct_scores [hReferenceIdeal : Cert.ReferenceIdeal.Facts] [hPre_distinct_scores : Cert.Pre_distinct_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "floor" .f32 0xEFA18F08#32 ⊥
  ∧ IdealRules.named_const.Statement Cert.KernelIdeal.κ "big" .f32 0x7149F2CA#32 ⊤

def algebraic_KernelIdeal_ReferenceIdeal_pre_distinct_scores [hKernelIdeal : Cert.KernelIdeal.Facts] [hReferenceIdeal : Cert.ReferenceIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_distinct_scores : Cert.Pre_distinct_scores.Facts),
    quiescent_Kernel (hKernel := hKernel)
    ∧ quiescent_KernelIdeal (hKernelIdeal := hKernelIdeal)
    ∧ quiescent_KernelIdeal_pre_distinct_scores (hKernelIdeal := hKernelIdeal) (hPre_distinct_scores := hPre_distinct_scores)
    ∧ quiescent_ReferenceIdeal (hReferenceIdeal := hReferenceIdeal)
    ∧ quiescent_ReferenceIdeal_pre_distinct_scores (hReferenceIdeal := hReferenceIdeal) (hPre_distinct_scores := hPre_distinct_scores)
    ∧ preserves_Kernel_KernelIdeal
    ∧ algebraic_KernelIdeal_ReferenceIdeal_pre_distinct_scores (hKernelIdeal := hKernelIdeal) (hReferenceIdeal := hReferenceIdeal) (hPre_distinct_scores := hPre_distinct_scores)
-- ==== Pre_distinct_scores.lean ====
abbrev S1x2048x768 : Shape := ⟨3, ![1, 2048, 768]⟩
abbrev S384x768 : Shape := ⟨2, ![384, 768]⟩
abbrev S768x384 : Shape := ⟨2, ![768, 384]⟩
abbrev S64x768 : Shape := ⟨2, ![64, 768]⟩
abbrev S64 : Shape := ⟨1, ![64]⟩
abbrev S3x64 : Shape := ⟨2, ![3, 64]⟩
abbrev S3 : Shape := ⟨1, ![3]⟩
abbrev S12 : Shape := ⟨1, ![12]⟩
abbrev S2x1024x384 : Shape := ⟨3, ![2, 1024, 384]⟩
abbrev S768x2048 : Shape := ⟨2, ![768, 2048]⟩
abbrev S2048x768 : Shape := ⟨2, ![2048, 768]⟩
abbrev S2048x384 : Shape := ⟨2, ![2048, 384]⟩
abbrev S2048x12x64 : Shape := ⟨3, ![2048, 12, 64]⟩
abbrev S12x2048x64 : Shape := ⟨3, ![12, 2048, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S12x2048x16 : Shape := ⟨3, ![12, 2048, 16]⟩
abbrev S1x2048x16 : Shape := ⟨3, ![1, 2048, 16]⟩
abbrev S12x2048x32 : Shape := ⟨3, ![12, 2048, 32]⟩
abbrev S12x2048 : Shape := ⟨2, ![12, 2048]⟩
abbrev S12x2048x1 : Shape := ⟨3, ![12, 2048, 1]⟩
abbrev S1x1x64 : Shape := ⟨3, ![1, 1, 64]⟩
abbrev S768x64 : Shape := ⟨2, ![768, 64]⟩
abbrev S2048x64 : Shape := ⟨2, ![2048, 64]⟩
abbrev S2048x32 : Shape := ⟨2, ![2048, 32]⟩
abbrev S1x64 : Shape := ⟨2, ![1, 64]⟩
abbrev S64x32x64 : Shape := ⟨3, ![64, 32, 64]⟩
abbrev S64x64 : Shape := ⟨2, ![64, 64]⟩
abbrev S12x2048x64x64 : Shape := ⟨4, ![12, 2048, 64, 64]⟩
abbrev S12x2048x64x1 : Shape := ⟨4, ![12, 2048, 64, 1]⟩
abbrev S12x2048x1x64 : Shape := ⟨4, ![12, 2048, 1, 64]⟩

class Facts : Prop where
  shapeCasts_S1x2048x768_S2048x768 : S1x2048x768.ShapeCasts S2048x768
  transposes_S384x768_S768x384_1_0 : S384x768.Transposes [1, 0] S768x384
  transposes_S768x384_S384x768_1_0 : S768x384.Transposes [1, 0] S384x768
  shapeCasts_S2048x768_S2048x12x64 : S2048x768.ShapeCasts S2048x12x64
  transposes_S2048x12x64_S12x2048x64_1_0_2 : S2048x12x64.Transposes [1, 0, 2] S12x2048x64
  bcast_S_S16 : S_.BroadcastsInDim S16 (![] : Fin 0 → Fin S16.rank)
  bcast_S2048_S2048x1_0 : S2048.BroadcastsInDim S2048x1 (![0] : Fin 1 → Fin S2048x1.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  slices_S12x2048x64_S12x2048x16_0_0_0 : S12x2048x64.Slices ![0, 0, 0] S12x2048x16
  slices_S12x2048x64_S12x2048x16_0_0_16 : S12x2048x64.Slices ![0, 0, 16] S12x2048x16
  bcast_S2048x16_S1x2048x16_1_2 : S2048x16.BroadcastsInDim S1x2048x16 (![1, 2] : Fin 2 → Fin S1x2048x16.rank)
  bcast_S1x2048x16_S12x2048x16_0_1_2 : S1x2048x16.BroadcastsInDim S12x2048x16 (![0, 1, 2] : Fin 3 → Fin S12x2048x16.rank)
  slices_S12x2048x64_S12x2048x32_0_0_32 : S12x2048x64.Slices ![0, 0, 32] S12x2048x32
  concatenates_S12x2048x16_S12x2048x16_S12x2048x32_S12x2048x64_d2 : Shape.Concatenates [S12x2048x16, S12x2048x16, S12x2048x32] S12x2048x64 2
  reducesTo_S12x2048x64_S12x2048_d2 : S12x2048x64.ReducesTo [2] S12x2048
  h_S_ : 0 < S_.numel
  bcast_S12x2048_S12x2048x1_0_1 : S12x2048.BroadcastsInDim S12x2048x1 (![0, 1] : Fin 2 → Fin S12x2048x1.rank)
  bcast_S_S12x2048x1 : S_.BroadcastsInDim S12x2048x1 (![] : Fin 0 → Fin S12x2048x1.rank)
  bcast_S12x2048x1_S12x2048x64_0_1_2 : S12x2048x1.BroadcastsInDim S12x2048x64 (![0, 1, 2] : Fin 3 → Fin S12x2048x64.rank)
  bcast_S64_S1x1x64_2 : S64.BroadcastsInDim S1x1x64 (![2] : Fin 1 → Fin S1x1x64.rank)
  bcast_S1x1x64_S12x2048x64_0_1_2 : S1x1x64.BroadcastsInDim S12x2048x64 (![0, 1, 2] : Fin 3 → Fin S12x2048x64.rank)
  transposes_S64x768_S768x64_1_0 : S64x768.Transposes [1, 0] S768x64
  slices_S2048x64_S2048x16_0_0 : S2048x64.Slices ![0, 0] S2048x16
  slices_S2048x64_S2048x16_0_16 : S2048x64.Slices ![0, 16] S2048x16
  slices_S2048x64_S2048x32_0_32 : S2048x64.Slices ![0, 32] S2048x32
  concatenates_S2048x16_S2048x16_S2048x32_S2048x64_d1 : Shape.Concatenates [S2048x16, S2048x16, S2048x32] S2048x64 1
  reducesTo_S2048x64_S2048_d1 : S2048x64.ReducesTo [1] S2048
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  shapeCasts_S2048x64_S64x32x64 : S2048x64.ShapeCasts S64x32x64
  reducesTo_S64x32x64_S64x64_d1 : S64x32x64.ReducesTo [1] S64x64
  bcast_S_S64x64 : S_.BroadcastsInDim S64x64 (![] : Fin 0 → Fin S64x64.rank)
  bcast_S_S12x2048x64 : S_.BroadcastsInDim S12x2048x64 (![] : Fin 0 → Fin S12x2048x64.rank)
  bcast_S_S12x2048x64x64 : S_.BroadcastsInDim S12x2048x64x64 (![] : Fin 0 → Fin S12x2048x64x64.rank)
  bcast_S_S64 : S_.BroadcastsInDim S64 (![] : Fin 0 → Fin S64.rank)
  reducesTo_S64_S_d0 : S64.ReducesTo [0] S_
  bcast_S_S12 : S_.BroadcastsInDim S12 (![] : Fin 0 → Fin S12.rank)
  reducesTo_S12_S_d0 : S12.ReducesTo [0] S_
  bcast_S12x2048x64_S12x2048x64x1_0_1_2 : S12x2048x64.BroadcastsInDim S12x2048x64x1 (![0, 1, 2] : Fin 3 → Fin S12x2048x64x1.rank)
  bcast_S12x2048x64_S12x2048x1x64_0_1_3 : S12x2048x64.BroadcastsInDim S12x2048x1x64 (![0, 1, 3] : Fin 3 → Fin S12x2048x1x64.rank)
  bcast_S12x2048x64x1_S12x2048x64x64_0_1_2_3 : S12x2048x64x1.BroadcastsInDim S12x2048x64x64 (![0, 1, 2, 3] : Fin 4 → Fin S12x2048x64x64.rank)
  bcast_S12x2048x1x64_S12x2048x64x64_0_1_2_3 : S12x2048x1x64.BroadcastsInDim S12x2048x64x64 (![0, 1, 2, 3] : Fin 4 → Fin S12x2048x64x64.rank)
  reducesTo_S12x2048x64x64_S_d0_1_2_3 : S12x2048x64x64.ReducesTo [0, 1, 2, 3] S_
  dot_S2048x768_S768x384_S2048x384_1_0_0_1_n_n_wf : DotDims.WF S2048x768 S768x384 S2048x384 [1] [0] [0] [1] [] []
  dot_S2048x384_S384x768_S2048x768_1_0_0_1_n_n_wf : DotDims.WF S2048x384 S384x768 S2048x768 [1] [0] [0] [1] [] []
  dot_S2048x768_S768x64_S2048x64_1_0_0_1_n_n_wf : DotDims.WF S2048x768 S768x64 S2048x64 [1] [0] [0] [1] [] []
  dot_S12x2048x64_S64x64_S12x2048x64_2_1_01_0_n_n_wf : DotDims.WF S12x2048x64 S64x64 S12x2048x64 [2] [1] [0, 1] [0] [] []

variable [Facts]

def dot_S2048x768_S768x384_S2048x384_1_0_0_1_n_n : DotDims S2048x768 S768x384 S2048x384 where
  lhsContracting := [1]
  rhsContracting := [0]
  lhsNonContracting := [0]
  rhsNonContracting := [1]
  lhsBatch := []
  rhsBatch := []
  wf := dot_S2048x768_S768x384_S2048x384_1_0_0_1_n_n_wf
def dot_S2048x384_S384x768_S2048x768_1_0_0_1_n_n : DotDims S2048x384 S384x768 S2048x768 where
  lhsContracting := [1]
  rhsContracting := [0]
  lhsNonContracting := [0]
  rhsNonContracting := [1]
  lhsBatch := []
  rhsBatch := []
  wf := dot_S2048x384_S384x768_S2048x768_1_0_0_1_n_n_wf
def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S12x2048x64_S64x64_S12x2048x64_2_1_01_0_n_n : DotDims S12x2048x64 S64x64 S12x2048x64 where
  lhsContracting := [2]
  rhsContracting := [1]
  lhsNonContracting := [0, 1]
  rhsNonContracting := [0]
  lhsBatch := []
  rhsBatch := []
  wf := dot_S12x2048x64_S64x64_S12x2048x64_2_1_01_0_n_n_wf
def fn_part9 {F : FTy → Type} [FloatOps F] (main_v169 : IVec S_ 1) (main_v176 : IVec S12x2048x64x64 1) : IVec S_ 1 :=
  let main_c_37 : IVec S_ 1 := constantI S_ 1 1#1
  let main_v177 : IVec S_ 1 := (fun x v => Host.reduce IntOp.andi x v reducesTo_S12x2048x64x64_S_d0_1_2_3 h_S_) main_v176 main_c_37
  let main_v178 : IVec S_ 1 := andi main_v169 main_v177
  main_v178

def fn_part8 {F : FTy → Type} [FloatOps F] (main_arg6 : FVec F S64 .f32) (main_arg9 : FVec F S12 .f32) (main_v141 : FVec F S12x2048x64 .f32) (main_v156 : IVec S12x2048x64x64 1) (main_v157 : FVec F S64 .f32) (main_cst_31 : FVec F S_ .f32) : IVec S_ 1 :=
  let main_v158 : FVec F S64 .f32 := broadcastInDim S64 ![] bcast_S_S64 main_cst_31
  let main_v159 : IVec S64 1 := cmpf .olt main_v157 main_v158
  let main_c_32 : IVec S_ 1 := constantI S_ 1 1#1
  let main_v160 : IVec S_ 1 := (fun x v => Host.reduce IntOp.andi x v reducesTo_S64_S_d0 h_S_) main_v159 main_c_32
  let main_v161 : FVec F S64 .f32 := Host.absf main_arg6
  let main_cst_33 : FVec F S_ .f32 := constant S_ .f32 0x7F800000#32
  let main_v162 : FVec F S64 .f32 := broadcastInDim S64 ![] bcast_S_S64 main_cst_33
  let main_v163 : IVec S64 1 := cmpf .olt main_v161 main_v162
  let main_c_34 : IVec S_ 1 := constantI S_ 1 1#1
  let main_v164 : IVec S_ 1 := (fun x v => Host.reduce IntOp.andi x v reducesTo_S64_S_d0 h_S_) main_v163 main_c_34
  let main_v165 : IVec S_ 1 := andi main_v160 main_v164
  let main_cst_35 : FVec F S_ .f32 := constant S_ .f32 0x7F800000#32
  let main_v166 : FVec F S12 .f32 := broadcastInDim S12 ![] bcast_S_S12 main_cst_35
  let main_v167 : IVec S12 1 := cmpf .olt main_arg9 main_v166
  let main_c_36 : IVec S_ 1 := constantI S_ 1 1#1
  let main_v168 : IVec S_ 1 := (fun x v => Host.reduce IntOp.andi x v reducesTo_S12_S_d0 h_S_) main_v167 main_c_36
  let main_v169 : IVec S_ 1 := andi main_v165 main_v168
  let main_v170 : FVec F S12x2048x64x1 .f32 := broadcastInDim S12x2048x64x1 ![0, 1, 2] bcast_S12x2048x64_S12x2048x64x1_0_1_2 main_v141
  let main_v171 : FVec F S12x2048x1x64 .f32 := broadcastInDim S12x2048x1x64 ![0, 1, 3] bcast_S12x2048x64_S12x2048x1x64_0_1_3 main_v141
  let main_v172 : FVec F S12x2048x64x64 .f32 := broadcastInDim S12x2048x64x64 ![0, 1, 2, 3] bcast_S12x2048x64x1_S12x2048x64x64_0_1_2_3 main_v170
  let main_v173 : FVec F S12x2048x64x64 .f32 := broadcastInDim S12x2048x64x64 ![0, 1, 2, 3] bcast_S12x2048x1x64_S12x2048x64x64_0_1_2_3 main_v171
  let main_v174 : IVec S12x2048x64x64 1 := cmpf .une main_v172 main_v173
  let main_v175 : IVec S12x2048x64x64 1 := noti main_v156
  let main_v176 : IVec S12x2048x64x64 1 := ori main_v174 main_v175
  fn_part9 (F := F) main_v169 main_v176

def fn_part7 {F : FTy → Type} [FloatOps F] (main_arg5 : FVec F S64 .f32) (main_arg6 : FVec F S64 .f32) (main_arg9 : FVec F S12 .f32) (main_v139 : FVec F S12x2048x64 .f32) : IVec S_ 1 :=
  let main_cst_27 : FVec F S_ .f32 := constant S_ .f32 0x41000000#32
  let main_v140 : FVec F S12x2048x64 .f32 := broadcastInDim S12x2048x64 ![] bcast_S_S12x2048x64 main_cst_27
  let main_v141 : FVec F S12x2048x64 .f32 := Host.divf main_v139 main_v140
  let main_v142 : IVec S12x2048x64x64 32 := iotaInDim S12x2048x64x64 32 1
  let main_v143 : IVec S12x2048x64x64 32 := iotaInDim S12x2048x64x64 32 2
  let main_v144 : IVec S12x2048x64x64 32 := iotaInDim S12x2048x64x64 32 3
  let main_v145 : IVec S12x2048x64x64 1 := cmpi .slt main_v143 main_v144
  let main_c : IVec S_ 32 := constantI S_ 32 1#32
  let main_v146 : IVec S12x2048x64x64 32 := broadcastInDim S12x2048x64x64 ![] bcast_S_S12x2048x64x64 main_c
  let main_v147 : IVec S12x2048x64x64 32 := addi main_v144 main_v146
  let main_c_28 : IVec S_ 32 := constantI S_ 32 32#32
  let main_v148 : IVec S12x2048x64x64 32 := broadcastInDim S12x2048x64x64 ![] bcast_S_S12x2048x64x64 main_c_28
  let main_v149 : IVec S12x2048x64x64 32 := muli main_v147 main_v148
  let main_c_29 : IVec S_ 32 := constantI S_ 32 1#32
  let main_v150 : IVec S12x2048x64x64 32 := broadcastInDim S12x2048x64x64 ![] bcast_S_S12x2048x64x64 main_c_29
  let main_v151 : IVec S12x2048x64x64 32 := subi main_v149 main_v150
  let main_v152 : IVec S12x2048x64x64 1 := cmpi .sle main_v151 main_v142
  let main_v153 : IVec S12x2048x64x64 1 := andi main_v145 main_v152
  let main_c_30 : IVec S_ 32 := constantI S_ 32 543#32
  let main_v154 : IVec S12x2048x64x64 32 := broadcastInDim S12x2048x64x64 ![] bcast_S_S12x2048x64x64 main_c_30
  let main_v155 : IVec S12x2048x64x64 1 := cmpi .sge main_v142 main_v154
  let main_v156 : IVec S12x2048x64x64 1 := andi main_v153 main_v155
  let main_v157 : FVec F S64 .f32 := Host.absf main_arg5
  let main_cst_31 : FVec F S_ .f32 := constant S_ .f32 0x7F800000#32
  fn_part8 (F := F) main_arg6 main_arg9 main_v141 main_v156 main_v157 main_cst_31

def fn_part6 {F : FTy → Type} [FloatOps F] (main_arg5 : FVec F S64 .f32) (main_arg6 : FVec F S64 .f32) (main_arg9 : FVec F S12 .f32) (main_v73 : FVec F S12x2048x64 .f32) (main_v116 : FVec F S2048x16 .f32) (main_v119 : FVec F S2048x16 .f32) (main_v120 : FVec F S2048x32 .f32) : IVec S_ 1 :=
  let main_v121 : FVec F S2048x64 .f32 := concatenate S2048x64 1 [⟨S2048x16, main_v116⟩, ⟨S2048x16, main_v119⟩, ⟨S2048x32, main_v120⟩] concatenates_S2048x16_S2048x16_S2048x32_S2048x64_d1
  let main_v122 : FVec F S2048x64 .f32 := mulf main_v121 main_v121
  let main_cst_22 : FVec F S_ .f32 := constant S_ .f32 0x00000000#32
  let main_v123 : FVec F S2048 .f32 := (fun x v => Host.reduceAdd x v reducesTo_S2048x64_S2048_d1 h_S_) main_v122 main_cst_22
  let main_v124 : FVec F S2048x1 .f32 := broadcastInDim S2048x1 ![0] bcast_S2048_S2048x1_0 main_v123
  let main_cst_23 : FVec F S_ .f32 := constant S_ .f32 0x42800000#32
  let main_v125 : FVec F S2048x1 .f32 := broadcastInDim S2048x1 ![] bcast_S_S2048x1 main_cst_23
  let main_v126 : FVec F S2048x1 .f32 := Host.divf main_v124 main_v125
  let main_cst_24 : FVec F S_ .f32 := constant S_ .f32 0x358637BD#32
  let main_v127 : FVec F S2048x1 .f32 := broadcastInDim S2048x1 ![] bcast_S_S2048x1 main_cst_24
  let main_v128 : FVec F S2048x1 .f32 := addf main_v126 main_v127
  let main_v129 : FVec F S2048x1 .f32 := Host.rsqrt main_v128
  let main_v130 : FVec F S2048x64 .f32 := broadcastInDim S2048x64 ![0, 1] bcast_S2048x1_S2048x64_0_1 main_v129
  let main_v131 : FVec F S2048x64 .f32 := mulf main_v121 main_v130
  let main_v132 : FVec F S1x64 .f32 := broadcastInDim S1x64 ![1] bcast_S64_S1x64_1 main_arg6
  let main_v133 : FVec F S2048x64 .f32 := broadcastInDim S2048x64 ![0, 1] bcast_S1x64_S2048x64_0_1 main_v132
  let main_v134 : FVec F S2048x64 .f32 := mulf main_v131 main_v133
  let main_v135 : FVec F S64x32x64 .f32 := shapeCast S64x32x64 main_v134 shapeCasts_S2048x64_S64x32x64
  let main_cst_25 : FVec F S_ .f32 := constant S_ .f32 0x00000000#32
  let main_v136 : FVec F S64x64 .f32 := (fun x v => Host.reduceAdd x v reducesTo_S64x32x64_S64x64_d1 h_S_) main_v135 main_cst_25
  let main_cst_26 : FVec F S_ .f32 := constant S_ .f32 0x42000000#32
  let main_v137 : FVec F S64x64 .f32 := broadcastInDim S64x64 ![] bcast_S_S64x64 main_cst_26
  let main_v138 : FVec F S64x64 .f32 := Host.divf main_v136 main_v137
  let main_v139 : FVec F S12x2048x64 .f32 := (fun l r => Host.dotGeneral dot_S12x2048x64_S64x64_S12x2048x64_2_1_01_0_n_n none l r) main_v73 main_v138
  fn_part7 (F := F) main_arg5 main_arg6 main_arg9 main_v139

def fn_part5 {F : FTy → Type} [FloatOps F] (main_arg5 : FVec F S64 .f32) (main_arg6 : FVec F S64 .f32) (main_arg9 : FVec F S12 .f32) (main_v73 : FVec F S12x2048x64 .f32) (main_v75 : FVec F S2048x64 .f32) (main_v93 : FVec F S2048x16 .f32) (main_v94 : FVec F S2048 .f32) (main_v99 : FVec F S16 .f32) : IVec S_ 1 :=
  let main_cst_19 : FVec F S_ .f32 := constant S_ .f32 0x42000000#32
  let main_v100 : FVec F S16 .f32 := broadcastInDim S16 ![] bcast_S_S16 main_cst_19
  let main_v101 : FVec F S16 .f32 := Host.divf main_v99 main_v100
  let main_cst_20 : FVec F S_ .f32 := constant S_ .f32 0x461C4000#32
  let main_v102 : FVec F S16 .f32 := broadcastInDim S16 ![] bcast_S_S16 main_cst_20
  let main_v103 : FVec F S16 .f32 := Host.powf main_v102 main_v101
  let main_cst_21 : FVec F S_ .f32 := constant S_ .f32 0x3F800000#32
  let main_v104 : FVec F S16 .f32 := broadcastInDim S16 ![] bcast_S_S16 main_cst_21
  let main_v105 : FVec F S16 .f32 := Host.divf main_v104 main_v103
  let main_v106 : FVec F S2048x1 .f32 := broadcastInDim S2048x1 ![0] bcast_S2048_S2048x1_0 main_v94
  let main_v107 : FVec F S1x16 .f32 := broadcastInDim S1x16 ![1] bcast_S16_S1x16_1 main_v105
  let main_v108 : FVec F S2048x16 .f32 := broadcastInDim S2048x16 ![0, 1] bcast_S2048x1_S2048x16_0_1 main_v106
  let main_v109 : FVec F S2048x16 .f32 := broadcastInDim S2048x16 ![0, 1] bcast_S1x16_S2048x16_0_1 main_v107
  let main_v110 : FVec F S2048x16 .f32 := mulf main_v108 main_v109
  let main_v111 : FVec F S2048x16 .f32 := Host.sin main_v110
  let main_v112 : FVec F S2048x16 .f32 := (extractStridedSlice S2048x16 ![0, 0] · slices_S2048x64_S2048x16_0_0) main_v75
  let main_v113 : FVec F S2048x16 .f32 := (extractStridedSlice S2048x16 ![0, 16] · slices_S2048x64_S2048x16_0_16) main_v75
  let main_v114 : FVec F S2048x16 .f32 := mulf main_v112 main_v93
  let main_v115 : FVec F S2048x16 .f32 := mulf main_v113 main_v111
  let main_v116 : FVec F S2048x16 .f32 := subf main_v114 main_v115
  let main_v117 : FVec F S2048x16 .f32 := mulf main_v112 main_v111
  let main_v118 : FVec F S2048x16 .f32 := mulf main_v113 main_v93
  let main_v119 : FVec F S2048x16 .f32 := addf main_v117 main_v118
  let main_v120 : FVec F S2048x32 .f32 := (extractStridedSlice S2048x32 ![0, 32] · slices_S2048x64_S2048x32_0_32) main_v75
  fn_part6 (F := F) main_arg5 main_arg6 main_arg9 main_v73 main_v116 main_v119 main_v120

def fn_part4 {F : FTy → Type} [FloatOps F] (main_arg5 : FVec F S64 .f32) (main_arg6 : FVec F S64 .f32) (main_arg9 : FVec F S12 .f32) (main_v73 : FVec F S12x2048x64 .f32) (main_v75 : FVec F S2048x64 .f32) (main_v76 : FVec F S2048 .f32) (main_v79 : FVec F S16 .f32) (main_v80 : FVec F S16 .f32) : IVec S_ 1 :=
  let main_v81 : FVec F S16 .f32 := addf main_v80 main_v79
  let main_cst_14 : FVec F S_ .f32 := constant S_ .f32 0x42000000#32
  let main_v82 : FVec F S16 .f32 := broadcastInDim S16 ![] bcast_S_S16 main_cst_14
  let main_v83 : FVec F S16 .f32 := Host.divf main_v81 main_v82
  let main_cst_15 : FVec F S_ .f32 := constant S_ .f32 0x461C4000#32
  let main_v84 : FVec F S16 .f32 := broadcastInDim S16 ![] bcast_S_S16 main_cst_15
  let main_v85 : FVec F S16 .f32 := Host.powf main_v84 main_v83
  let main_cst_16 : FVec F S_ .f32 := constant S_ .f32 0x3F800000#32
  let main_v86 : FVec F S16 .f32 := broadcastInDim S16 ![] bcast_S_S16 main_cst_16
  let main_v87 : FVec F S16 .f32 := Host.divf main_v86 main_v85
  let main_v88 : FVec F S2048x1 .f32 := broadcastInDim S2048x1 ![0] bcast_S2048_S2048x1_0 main_v76
  let main_v89 : FVec F S1x16 .f32 := broadcastInDim S1x16 ![1] bcast_S16_S1x16_1 main_v87
  let main_v90 : FVec F S2048x16 .f32 := broadcastInDim S2048x16 ![0, 1] bcast_S2048x1_S2048x16_0_1 main_v88
  let main_v91 : FVec F S2048x16 .f32 := broadcastInDim S2048x16 ![0, 1] bcast_S1x16_S2048x16_0_1 main_v89
  let main_v92 : FVec F S2048x16 .f32 := mulf main_v90 main_v91
  let main_v93 : FVec F S2048x16 .f32 := Host.cos main_v92
  let main_v94 : FVec F S2048 .f32 := sitofp .f32 (iotaInDim S2048 32 0)
  let main_v95 : FVec F S16 .f32 := sitofp .f32 (iotaInDim S16 32 0)
  let main_cst_17 : FVec F S_ .f32 := constant S_ .f32 0x40000000#32
  let main_v96 : FVec F S16 .f32 := broadcastInDim S16 ![] bcast_S_S16 main_cst_17
  let main_v97 : FVec F S16 .f32 := mulf main_v96 main_v95
  let main_cst_18 : FVec F S_ .f32 := constant S_ .f32 0x00000000#32
  let main_v98 : FVec F S16 .f32 := broadcastInDim S16 ![] bcast_S_S16 main_cst_18
  let main_v99 : FVec F S16 .f32 := addf main_v98 main_v97
  fn_part5 (F := F) main_arg5 main_arg6 main_arg9 main_v73 main_v75 main_v93 main_v94 main_v99

def fn_part3 {F : FTy → Type} [FloatOps F] (main_arg3 : FVec F S64x768 .f32) (main_arg5 : FVec F S64 .f32) (main_arg6 : FVec F S64 .f32) (main_arg9 : FVec F S12 .f32) (main_v0 : FVec F S2048x768 .f32) (main_v60 : FVec F S12x2048x64 .f32) (main_v61 : FVec F S12x2048x64 .f32) : IVec S_ 1 :=
  let main_cst_9 : FVec F S_ .f32 := constant S_ .f32 0x00000000#32
  let main_v62 : FVec F S12x2048 .f32 := (fun x v => Host.reduceAdd x v reducesTo_S12x2048x64_S12x2048_d2 h_S_) main_v61 main_cst_9
  let main_v63 : FVec F S12x2048x1 .f32 := broadcastInDim S12x2048x1 ![0, 1] bcast_S12x2048_S12x2048x1_0_1 main_v62
  let main_cst_10 : FVec F S_ .f32 := constant S_ .f32 0x42800000#32
  let main_v64 : FVec F S12x2048x1 .f32 := broadcastInDim S12x2048x1 ![] bcast_S_S12x2048x1 main_cst_10
  let main_v65 : FVec F S12x2048x1 .f32 := Host.divf main_v63 main_v64
  let main_cst_11 : FVec F S_ .f32 := constant S_ .f32 0x358637BD#32
  let main_v66 : FVec F S12x2048x1 .f32 := broadcastInDim S12x2048x1 ![] bcast_S_S12x2048x1 main_cst_11
  let main_v67 : FVec F S12x2048x1 .f32 := addf main_v65 main_v66
  let main_v68 : FVec F S12x2048x1 .f32 := Host.rsqrt main_v67
  let main_v69 : FVec F S12x2048x64 .f32 := broadcastInDim S12x2048x64 ![0, 1, 2] bcast_S12x2048x1_S12x2048x64_0_1_2 main_v68
  let main_v70 : FVec F S12x2048x64 .f32 := mulf main_v60 main_v69
  let main_v71 : FVec F S1x1x64 .f32 := broadcastInDim S1x1x64 ![2] bcast_S64_S1x1x64_2 main_arg5
  let main_v72 : FVec F S12x2048x64 .f32 := broadcastInDim S12x2048x64 ![0, 1, 2] bcast_S1x1x64_S12x2048x64_0_1_2 main_v71
  let main_v73 : FVec F S12x2048x64 .f32 := mulf main_v70 main_v72
  let main_v74 : FVec F S768x64 .f32 := (transpose S768x64 [1, 0] · transposes_S64x768_S768x64_1_0) main_arg3
  let main_v75 : FVec F S2048x64 .f32 := (fun l r => Host.dotGeneral dot_S2048x768_S768x64_S2048x64_1_0_0_1_n_n none l r) main_v0 main_v74
  let main_v76 : FVec F S2048 .f32 := sitofp .f32 (iotaInDim S2048 32 0)
  let main_v77 : FVec F S16 .f32 := sitofp .f32 (iotaInDim S16 32 0)
  let main_cst_12 : FVec F S_ .f32 := constant S_ .f32 0x40000000#32
  let main_v78 : FVec F S16 .f32 := broadcastInDim S16 ![] bcast_S_S16 main_cst_12
  let main_v79 : FVec F S16 .f32 := mulf main_v78 main_v77
  let main_cst_13 : FVec F S_ .f32 := constant S_ .f32 0x00000000#32
  let main_v80 : FVec F S16 .f32 := broadcastInDim S16 ![] bcast_S_S16 main_cst_13
  fn_part4 (F := F) main_arg5 main_arg6 main_arg9 main_v73 main_v75 main_v76 main_v79 main_v80

def fn_part2 {F : FTy → Type} [FloatOps F] (main_arg3 : FVec F S64x768 .f32) (main_arg5 : FVec F S64 .f32) (main_arg6 : FVec F S64 .f32) (main_arg9 : FVec F S12 .f32) (main_v0 : FVec F S2048x768 .f32) (main_v6 : FVec F S12x2048x64 .f32) (main_v24 : FVec F S2048x16 .f32) (main_v36 : FVec F S16 .f32) (main_v37 : FVec F S2048x1 .f32) : IVec S_ 1 :=
  let main_v38 : FVec F S1x16 .f32 := broadcastInDim S1x16 ![1] bcast_S16_S1x16_1 main_v36
  let main_v39 : FVec F S2048x16 .f32 := broadcastInDim S2048x16 ![0, 1] bcast_S2048x1_S2048x16_0_1 main_v37
  let main_v40 : FVec F S2048x16 .f32 := broadcastInDim S2048x16 ![0, 1] bcast_S1x16_S2048x16_0_1 main_v38
  let main_v41 : FVec F S2048x16 .f32 := mulf main_v39 main_v40
  let main_v42 : FVec F S2048x16 .f32 := Host.sin main_v41
  let main_v43 : FVec F S12x2048x16 .f32 := (extractStridedSlice S12x2048x16 ![0, 0, 0] · slices_S12x2048x64_S12x2048x16_0_0_0) main_v6
  let main_v44 : FVec F S12x2048x16 .f32 := (extractStridedSlice S12x2048x16 ![0, 0, 16] · slices_S12x2048x64_S12x2048x16_0_0_16) main_v6
  let main_v45 : FVec F S1x2048x16 .f32 := broadcastInDim S1x2048x16 ![1, 2] bcast_S2048x16_S1x2048x16_1_2 main_v24
  let main_v46 : FVec F S12x2048x16 .f32 := broadcastInDim S12x2048x16 ![0, 1, 2] bcast_S1x2048x16_S12x2048x16_0_1_2 main_v45
  let main_v47 : FVec F S12x2048x16 .f32 := mulf main_v43 main_v46
  let main_v48 : FVec F S1x2048x16 .f32 := broadcastInDim S1x2048x16 ![1, 2] bcast_S2048x16_S1x2048x16_1_2 main_v42
  let main_v49 : FVec F S12x2048x16 .f32 := broadcastInDim S12x2048x16 ![0, 1, 2] bcast_S1x2048x16_S12x2048x16_0_1_2 main_v48
  let main_v50 : FVec F S12x2048x16 .f32 := mulf main_v44 main_v49
  let main_v51 : FVec F S12x2048x16 .f32 := subf main_v47 main_v50
  let main_v52 : FVec F S1x2048x16 .f32 := broadcastInDim S1x2048x16 ![1, 2] bcast_S2048x16_S1x2048x16_1_2 main_v42
  let main_v53 : FVec F S12x2048x16 .f32 := broadcastInDim S12x2048x16 ![0, 1, 2] bcast_S1x2048x16_S12x2048x16_0_1_2 main_v52
  let main_v54 : FVec F S12x2048x16 .f32 := mulf main_v43 main_v53
  let main_v55 : FVec F S1x2048x16 .f32 := broadcastInDim S1x2048x16 ![1, 2] bcast_S2048x16_S1x2048x16_1_2 main_v24
  let main_v56 : FVec F S12x2048x16 .f32 := broadcastInDim S12x2048x16 ![0, 1, 2] bcast_S1x2048x16_S12x2048x16_0_1_2 main_v55
  let main_v57 : FVec F S12x2048x16 .f32 := mulf main_v44 main_v56
  let main_v58 : FVec F S12x2048x16 .f32 := addf main_v54 main_v57
  let main_v59 : FVec F S12x2048x32 .f32 := (extractStridedSlice S12x2048x32 ![0, 0, 32] · slices_S12x2048x64_S12x2048x32_0_0_32) main_v6
  let main_v60 : FVec F S12x2048x64 .f32 := concatenate S12x2048x64 2 [⟨S12x2048x16, main_v51⟩, ⟨S12x2048x16, main_v58⟩, ⟨S12x2048x32, main_v59⟩] concatenates_S12x2048x16_S12x2048x16_S12x2048x32_S12x2048x64_d2
  let main_v61 : FVec F S12x2048x64 .f32 := mulf main_v60 main_v60
  fn_part3 (F := F) main_arg3 main_arg5 main_arg6 main_arg9 main_v0 main_v60 main_v61

def fn_part1 {F : FTy → Type} [FloatOps F] (main_arg3 : FVec F S64x768 .f32) (main_arg5 : FVec F S64 .f32) (main_arg6 : FVec F S64 .f32) (main_arg9 : FVec F S12 .f32) (main_v0 : FVec F S2048x768 .f32) (main_v6 : FVec F S12x2048x64 .f32) (main_v7 : FVec F S2048 .f32) (main_v18 : FVec F S16 .f32) : IVec S_ 1 :=
  let main_v19 : FVec F S2048x1 .f32 := broadcastInDim S2048x1 ![0] bcast_S2048_S2048x1_0 main_v7
  let main_v20 : FVec F S1x16 .f32 := broadcastInDim S1x16 ![1] bcast_S16_S1x16_1 main_v18
  let main_v21 : FVec F S2048x16 .f32 := broadcastInDim S2048x16 ![0, 1] bcast_S2048x1_S2048x16_0_1 main_v19
  let main_v22 : FVec F S2048x16 .f32 := broadcastInDim S2048x16 ![0, 1] bcast_S1x16_S2048x16_0_1 main_v20
  let main_v23 : FVec F S2048x16 .f32 := mulf main_v21 main_v22
  let main_v24 : FVec F S2048x16 .f32 := Host.cos main_v23
  let main_v25 : FVec F S2048 .f32 := sitofp .f32 (iotaInDim S2048 32 0)
  let main_v26 : FVec F S16 .f32 := sitofp .f32 (iotaInDim S16 32 0)
  let main_cst_4 : FVec F S_ .f32 := constant S_ .f32 0x40000000#32
  let main_v27 : FVec F S16 .f32 := broadcastInDim S16 ![] bcast_S_S16 main_cst_4
  let main_v28 : FVec F S16 .f32 := mulf main_v27 main_v26
  let main_cst_5 : FVec F S_ .f32 := constant S_ .f32 0x00000000#32
  let main_v29 : FVec F S16 .f32 := broadcastInDim S16 ![] bcast_S_S16 main_cst_5
  let main_v30 : FVec F S16 .f32 := addf main_v29 main_v28
  let main_cst_6 : FVec F S_ .f32 := constant S_ .f32 0x42000000#32
  let main_v31 : FVec F S16 .f32 := broadcastInDim S16 ![] bcast_S_S16 main_cst_6
  let main_v32 : FVec F S16 .f32 := Host.divf main_v30 main_v31
  let main_cst_7 : FVec F S_ .f32 := constant S_ .f32 0x461C4000#32
  let main_v33 : FVec F S16 .f32 := broadcastInDim S16 ![] bcast_S_S16 main_cst_7
  let main_v34 : FVec F S16 .f32 := Host.powf main_v33 main_v32
  let main_cst_8 : FVec F S_ .f32 := constant S_ .f32 0x3F800000#32
  let main_v35 : FVec F S16 .f32 := broadcastInDim S16 ![] bcast_S_S16 main_cst_8
  let main_v36 : FVec F S16 .f32 := Host.divf main_v35 main_v34
  let main_v37 : FVec F S2048x1 .f32 := broadcastInDim S2048x1 ![0] bcast_S2048_S2048x1_0 main_v25
  fn_part2 (F := F) main_arg3 main_arg5 main_arg6 main_arg9 main_v0 main_v6 main_v24 main_v36 main_v37

def fn {F : FTy → Type} [FloatOps F] (main_arg0 : FVec F S1x2048x768 .f32) (main_arg1 : FVec F S384x768 .f32) (main_arg2 : FVec F S768x384 .f32) (main_arg3 : FVec F S64x768 .f32) (main_arg4 : FVec F S64x768 .f32) (main_arg5 : FVec F S64 .f32) (main_arg6 : FVec F S64 .f32) (main_arg7 : FVec F S3x64 .f32) (main_arg8 : FVec F S3 .f32) (main_arg9 : FVec F S12 .f32) (main_arg10 : FVec F S2x1024x384 .f32) (main_arg11 : FVec F S768x2048 .f32) : IVec S_ 1 :=
  let main_v0 : FVec F S2048x768 .f32 := shapeCast S2048x768 main_arg0 shapeCasts_S1x2048x768_S2048x768
  let main_v1 : FVec F S768x384 .f32 := (transpose S768x384 [1, 0] · transposes_S384x768_S768x384_1_0) main_arg1
  let main_v2 : FVec F S2048x384 .f32 := (fun l r => Host.dotGeneral dot_S2048x768_S768x384_S2048x384_1_0_0_1_n_n none l r) main_v0 main_v1
  let main_v3 : FVec F S384x768 .f32 := (transpose S384x768 [1, 0] · transposes_S768x384_S384x768_1_0) main_arg2
  let main_v4 : FVec F S2048x768 .f32 := (fun l r => Host.dotGeneral dot_S2048x384_S384x768_S2048x768_1_0_0_1_n_n none l r) main_v2 main_v3
  let main_v5 : FVec F S2048x12x64 .f32 := shapeCast S2048x12x64 main_v4 shapeCasts_S2048x768_S2048x12x64
  let main_v6 : FVec F S12x2048x64 .f32 := (transpose S12x2048x64 [1, 0, 2] · transposes_S2048x12x64_S12x2048x64_1_0_2) main_v5
  let main_v7 : FVec F S2048 .f32 := sitofp .f32 (iotaInDim S2048 32 0)
  let main_v8 : FVec F S16 .f32 := sitofp .f32 (iotaInDim S16 32 0)
  let main_cst : FVec F S_ .f32 := constant S_ .f32 0x40000000#32
  let main_v9 : FVec F S16 .f32 := broadcastInDim S16 ![] bcast_S_S16 main_cst
  let main_v10 : FVec F S16 .f32 := mulf main_v9 main_v8
  let main_cst_0 : FVec F S_ .f32 := constant S_ .f32 0x00000000#32
  let main_v11 : FVec F S16 .f32 := broadcastInDim S16 ![] bcast_S_S16 main_cst_0
  let main_v12 : FVec F S16 .f32 := addf main_v11 main_v10
  let main_cst_1 : FVec F S_ .f32 := constant S_ .f32 0x42000000#32
  let main_v13 : FVec F S16 .f32 := broadcastInDim S16 ![] bcast_S_S16 main_cst_1
  let main_v14 : FVec F S16 .f32 := Host.divf main_v12 main_v13
  let main_cst_2 : FVec F S_ .f32 := constant S_ .f32 0x461C4000#32
  let main_v15 : FVec F S16 .f32 := broadcastInDim S16 ![] bcast_S_S16 main_cst_2
  let main_v16 : FVec F S16 .f32 := Host.powf main_v15 main_v14
  let main_cst_3 : FVec F S_ .f32 := constant S_ .f32 0x3F800000#32
  let main_v17 : FVec F S16 .f32 := broadcastInDim S16 ![] bcast_S_S16 main_cst_3
  let main_v18 : FVec F S16 .f32 := Host.divf main_v17 main_v16
  fn_part1 (F := F) main_arg3 main_arg5 main_arg6 main_arg9 main_v0 main_v6 main_v7 main_v18
-- ==== Kernel.lean ====
abbrev S1x2048x768 : Shape := ⟨3, ![1, 2048, 768]⟩
abbrev S384x768 : Shape := ⟨2, ![384, 768]⟩
abbrev S768x384 : Shape := ⟨2, ![768, 384]⟩
abbrev S64x768 : Shape := ⟨2, ![64, 768]⟩
abbrev S64 : Shape := ⟨1, ![64]⟩
abbrev S3x64 : Shape := ⟨2, ![3, 64]⟩
abbrev S3 : Shape := ⟨1, ![3]⟩
abbrev S12 : Shape := ⟨1, ![12]⟩
abbrev S2x1024x384 : Shape := ⟨3, ![2, 1024, 384]⟩
abbrev S768x2048 : Shape := ⟨2, ![768, 2048]⟩
abbrev S2048x768 : Shape := ⟨2, ![2048, 768]⟩
abbrev S768x64 : Shape := ⟨2, ![768, 64]⟩
abbrev S1x64 : Shape := ⟨2, ![1, 64]⟩
abbrev S_ : Shape := ⟨0, ![]⟩
abbrev S64x8 : Shape := ⟨2, ![64, 8]⟩
abbrev S64x3 : Shape := ⟨2, ![64, 3]⟩
abbrev S1 : Shape := ⟨1, ![1]⟩
abbrev S1x8 : Shape := ⟨2, ![1, 8]⟩
abbrev S2 : Shape := ⟨1, ![2]⟩
abbrev S2048 : Shape := ⟨1, ![2048]⟩
abbrev S2048x1 : Shape := ⟨2, ![2048, 1]⟩
abbrev S2048x64 : Shape := ⟨2, ![2048, 64]⟩
abbrev S16 : Shape := ⟨1, ![16]⟩
abbrev S1x16 : Shape := ⟨2, ![1, 16]⟩
abbrev S2048x16 : Shape := ⟨2, ![2048, 16]⟩
abbrev S256 : Shape := ⟨1, ![256]⟩
abbrev S1x256 : Shape := ⟨2, ![1, 256]⟩
abbrev S8 : Shape := ⟨1, ![8]⟩
abbrev S8x1 : Shape := ⟨2, ![8, 1]⟩
abbrev S8x256 : Shape := ⟨2, ![8, 256]⟩
abbrev S12x2048x64 : Shape := ⟨3, ![12, 2048, 64]⟩
abbrev S2048x128 : Shape := ⟨2, ![2048, 128]⟩
abbrev S64x64 : Shape := ⟨2, ![64, 64]⟩
abbrev S256x768 : Shape := ⟨2, ![256, 768]⟩
abbrev S256x16 : Shape := ⟨2, ![256, 16]⟩
abbrev S256x64 : Shape := ⟨2, ![256, 64]⟩
abbrev S12x256x64 : Shape := ⟨3, ![12, 256, 64]⟩
abbrev S256x128 : Shape := ⟨2, ![256, 128]⟩
abbrev S8x64 : Shape := ⟨2, ![8, 64]⟩
abbrev S256x384 : Shape := ⟨2, ![256, 384]⟩
abbrev S256x32 : Shape := ⟨2, ![256, 32]⟩
abbrev S256x1 : Shape := ⟨2, ![256, 1]⟩
abbrev S1x256x64 : Shape := ⟨3, ![1, 256, 64]⟩
abbrev S3072x16 : Shape := ⟨2, ![3072, 16]⟩
abbrev S3072x64 : Shape := ⟨2, ![3072, 64]⟩
abbrev S3072x32 : Shape := ⟨2, ![3072, 32]⟩
abbrev S3072 : Shape := ⟨1, ![3072]⟩
abbrev S3072x1 : Shape := ⟨2, ![3072, 1]⟩
abbrev S3072x128 : Shape := ⟨2, ![3072, 128]⟩
abbrev S3072x256 : Shape := ⟨2, ![3072, 256]⟩
abbrev S3072x8 : Shape := ⟨2, ![3072, 8]⟩
abbrev S2x384x1024 : Shape := ⟨3, ![2, 384, 1024]⟩
abbrev S1x384x1024 : Shape := ⟨3, ![1, 384, 1024]⟩
abbrev S384x1024 : Shape := ⟨2, ![384, 1024]⟩
abbrev S256x1024 : Shape := ⟨2, ![256, 1024]⟩
abbrev S1024x768 : Shape := ⟨2, ![1024, 768]⟩

abbrev nBuf : Space → Nat
  | .hbm => 128
  | .vmem => 45
  | .smem => 1
  | _ => 0

abbrev bufTy : (tb : Table) → Fin (tcTables nBuf tb) → BufTy
  | .hbm, ⟨0, _⟩ => ⟨S1x2048x768, .f32⟩
  | .hbm, ⟨1, _⟩ => ⟨S384x768, .f32⟩
  | .hbm, ⟨2, _⟩ => ⟨S768x384, .f32⟩
  | .hbm, ⟨3, _⟩ => ⟨S64x768, .f32⟩
  | .hbm, ⟨4, _⟩ => ⟨S64x768, .f32⟩
  | .hbm, ⟨5, _⟩ => ⟨S64, .f32⟩
  | .hbm, ⟨6, _⟩ => ⟨S64, .f32⟩
  | .hbm, ⟨7, _⟩ => ⟨S3x64, .f32⟩
  | .hbm, ⟨8, _⟩ => ⟨S3, .f32⟩
  | .hbm, ⟨9, _⟩ => ⟨S12, .f32⟩
  | .hbm, ⟨10, _⟩ => ⟨S2x1024x384, .f32⟩
  | .hbm, ⟨11, _⟩ => ⟨S768x2048, .f32⟩
  | .hbm, ⟨12, _⟩ => ⟨S2048x768, .f32⟩
  | .hbm, ⟨13, _⟩ => ⟨S768x384, .f32⟩
  | .hbm, ⟨14, _⟩ => ⟨S768x384, .bf16⟩
  | .hbm, ⟨15, _⟩ => ⟨S384x768, .f32⟩
  | .hbm, ⟨16, _⟩ => ⟨S384x768, .bf16⟩
  | .hbm, ⟨17, _⟩ => ⟨S768x64, .f32⟩
  | .hbm, ⟨18, _⟩ => ⟨S768x64, .bf16⟩
  | .hbm, ⟨19, _⟩ => ⟨S768x64, .f32⟩
  | .hbm, ⟨20, _⟩ => ⟨S768x64, .bf16⟩
  | .hbm, ⟨21, _⟩ => ⟨S1x64, .f32⟩
  | .hbm, ⟨22, _⟩ => ⟨S1x64, .f32⟩
  | .hbm, ⟨23, _⟩ => ⟨S_, .f32⟩
  | .hbm, ⟨24, _⟩ => ⟨S64x8, .f32⟩
  | .hbm, ⟨25, _⟩ => ⟨S64x3, .f32⟩
  | .hbm, ⟨26, _⟩ => ⟨S_, .i32⟩
  | .hbm, ⟨27, _⟩ => ⟨S1, .i32⟩
  | .hbm, ⟨28, _⟩ => ⟨S64x8, .f32⟩
  | .hbm, ⟨29, _⟩ => ⟨S_, .f32⟩
  | .hbm, ⟨30, _⟩ => ⟨S1x8, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x8, .f32⟩
  | .hbm, ⟨37, _⟩ => ⟨S2048, .i32⟩
  | .hbm, ⟨38, _⟩ => ⟨S2048x1, .i32⟩
  | .hbm, ⟨39, _⟩ => ⟨S_, .i32⟩
  | .hbm, ⟨40, _⟩ => ⟨S_, .i32⟩
  | .hbm, ⟨41, _⟩ => ⟨S2048x1, .i32⟩
  | .hbm, ⟨42, _⟩ => ⟨S2048x1, .i32⟩
  | .hbm, ⟨43, _⟩ => ⟨S2048x1, .i32⟩
  | .hbm, ⟨44, _⟩ => ⟨S_, .i32⟩
  | .hbm, ⟨45, _⟩ => ⟨S2048x1, .i32⟩
  | .hbm, ⟨46, _⟩ => ⟨S2048x1, .i1⟩
  | .hbm, ⟨47, _⟩ => ⟨S2048x1, .i32⟩
  | .hbm, ⟨48, _⟩ => ⟨S2048x1, .i32⟩
  | .hbm, ⟨49, _⟩ => ⟨S_, .i32⟩
  | .hbm, ⟨50, _⟩ => ⟨S2048x1, .i32⟩
  | .hbm, ⟨51, _⟩ => ⟨S2048x1, .i1⟩
  | .hbm, ⟨52, _⟩ => ⟨S2048x1, .i1⟩
  | .hbm, ⟨53, _⟩ => ⟨S_, .i32⟩
  | .hbm, ⟨54, _⟩ => ⟨S2048x1, .i32⟩
  | .hbm, ⟨55, _⟩ => ⟨S2048x1, .i32⟩
  | .hbm, ⟨56, _⟩ => ⟨S2048x1, .i32⟩
  | .hbm, ⟨57, _⟩ => ⟨S64, .i32⟩
  | .hbm, ⟨58, _⟩ => ⟨S1x64, .i32⟩
  | .hbm, ⟨59, _⟩ => ⟨S2048x64, .i32⟩
  | .hbm, ⟨60, _⟩ => ⟨S2048x64, .i32⟩
  | .hbm, ⟨61, _⟩ => ⟨S2048x64, .i1⟩
  | .hbm, ⟨62, _⟩ => ⟨S2048x64, .bf16⟩
  | .hbm, ⟨63, _⟩ => ⟨S2048, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S2048x1, .f32⟩
  | .hbm, ⟨81, _⟩ => ⟨S1x16, .f32⟩
  | .hbm, ⟨82, _⟩ => ⟨S2048x16, .f32⟩
  | .hbm, ⟨83, _⟩ => ⟨S2048x16, .f32⟩
  | .hbm, ⟨84, _⟩ => ⟨S2048x16, .f32⟩
  | .hbm, ⟨85, _⟩ => ⟨S2048x16, .f32⟩
  | .hbm, ⟨86, _⟩ => ⟨S2048x16, .f32⟩
  | .hbm, ⟨87, _⟩ => ⟨S256, .i32⟩
  | .hbm, ⟨88, _⟩ => ⟨S1x256, .i32⟩
  | .hbm, ⟨89, _⟩ => ⟨S_, .i32⟩
  | .hbm, ⟨90, _⟩ => ⟨S_, .i32⟩
  | .hbm, ⟨91, _⟩ => ⟨S1x256, .i32⟩
  | .hbm, ⟨92, _⟩ => ⟨S1x256, .i32⟩
  | .hbm, ⟨93, _⟩ => ⟨S1x256, .i32⟩
  | .hbm, ⟨94, _⟩ => ⟨S_, .i32⟩
  | .hbm, ⟨95, _⟩ => ⟨S1x256, .i32⟩
  | .hbm, ⟨96, _⟩ => ⟨S1x256, .i1⟩
  | .hbm, ⟨97, _⟩ => ⟨S1x256, .i32⟩
  | .hbm, ⟨98, _⟩ => ⟨S1x256, .i32⟩
  | .hbm, ⟨99, _⟩ => ⟨S_, .i32⟩
  | .hbm, ⟨100, _⟩ => ⟨S1x256, .i32⟩
  | .hbm, ⟨101, _⟩ => ⟨S1x256, .i1⟩
  | .hbm, ⟨102, _⟩ => ⟨S1x256, .i1⟩
  | .hbm, ⟨103, _⟩ => ⟨S_, .i32⟩
  | .hbm, ⟨104, _⟩ => ⟨S1x256, .i32⟩
  | .hbm, ⟨105, _⟩ => ⟨S1x256, .i32⟩
  | .hbm, ⟨106, _⟩ => ⟨S1x256, .i32⟩
  | .hbm, ⟨107, _⟩ => ⟨S8, .i32⟩
  | .hbm, ⟨108, _⟩ => ⟨S8x1, .i32⟩
  | .hbm, ⟨109, _⟩ => ⟨S8x256, .i32⟩
  | .hbm, ⟨110, _⟩ => ⟨S8x256, .i32⟩
  | .hbm, ⟨111, _⟩ => ⟨S8x256, .i1⟩
  | .hbm, ⟨112, _⟩ => ⟨S8x256, .f32⟩
  | .hbm, ⟨113, _⟩ => ⟨S_, .f32⟩
  | .hbm, ⟨114, _⟩ => ⟨S8x256, .f32⟩
  | .hbm, ⟨115, _⟩ => ⟨S8x256, .f32⟩
  | .hbm, ⟨116, _⟩ => ⟨S12x2048x64, .f32⟩
  | .hbm, ⟨117, _⟩ => ⟨S2048x128, .bf16⟩
  | .hbm, ⟨118, _⟩ => ⟨S2048x64, .bf16⟩
  | .hbm, ⟨119, _⟩ => ⟨S64x64, .f32⟩
  | .hbm, ⟨120, _⟩ => ⟨S64x64, .f32⟩
  | .hbm, ⟨121, _⟩ => ⟨S12x2048x64, .f32⟩
  | .hbm, ⟨122, _⟩ => ⟨S2x384x1024, .f32⟩
  | .hbm, ⟨123, _⟩ => ⟨S2x384x1024, .bf16⟩
  | .hbm, ⟨124, _⟩ => ⟨S2048x768, .f32⟩
  | .hbm, ⟨125, _⟩ => ⟨S2048x768, .bf16⟩
  | .hbm, ⟨126, _⟩ => ⟨S2048x768, .f32⟩
  | .hbm, ⟨127, _⟩ => ⟨S1x2048x768, .f32⟩
  | .local _ .vmem, ⟨0, _⟩ => ⟨S256x768, .f32⟩
  | .local _ .vmem, ⟨1, _⟩ => ⟨S256x768, .f32⟩
  | .local _ .vmem, ⟨2, _⟩ => ⟨S768x384, .bf16⟩
  | .local _ .vmem, ⟨3, _⟩ => ⟨S384x768, .bf16⟩
  | .local _ .vmem, ⟨4, _⟩ => ⟨S768x64, .bf16⟩
  | .local _ .vmem, ⟨5, _⟩ => ⟨S768x64, .bf16⟩
  | .local _ .vmem, ⟨6, _⟩ => ⟨S1x64, .f32⟩
  | .local _ .vmem, ⟨7, _⟩ => ⟨S256x16, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S8x256, .f32⟩
  | .local _ .vmem, ⟨12, _⟩ => ⟨S256x64, .bf16⟩
  | .local _ .vmem, ⟨13, _⟩ => ⟨S256x64, .bf16⟩
  | .local _ .vmem, ⟨14, _⟩ => ⟨S12x256x64, .f32⟩
  | .local _ .vmem, ⟨15, _⟩ => ⟨S12x256x64, .f32⟩
  | .local _ .vmem, ⟨16, _⟩ => ⟨S256x128, .bf16⟩
  | .local _ .vmem, ⟨17, _⟩ => ⟨S256x128, .bf16⟩
  | .local _ .vmem, ⟨18, _⟩ => ⟨S256x64, .bf16⟩
  | .local _ .vmem, ⟨19, _⟩ => ⟨S256x64, .bf16⟩
  | .local _ .vmem, ⟨20, _⟩ => ⟨S8x64, .f32⟩
  | .local _ .vmem, ⟨21, _⟩ => ⟨S8x64, .f32⟩
  | .local _ .vmem, ⟨22, _⟩ => ⟨S8x64, .f32⟩
  | .local _ .vmem, ⟨23, _⟩ => ⟨S8x64, .f32⟩
  | .local _ .vmem, ⟨24, _⟩ => ⟨S12x256x64, .f32⟩
  | .local _ .vmem, ⟨25, _⟩ => ⟨S12x256x64, .f32⟩
  | .local _ .vmem, ⟨26, _⟩ => ⟨S2048x128, .bf16⟩
  | .local _ .vmem, ⟨27, _⟩ => ⟨S2048x64, .bf16⟩
  | .local _ .vmem, ⟨28, _⟩ => ⟨S64x64, .f32⟩
  | .local _ .vmem, ⟨29, _⟩ => ⟨S64x64, .f32⟩
  | .local _ .vmem, ⟨30, _⟩ => ⟨S64x8, .f32⟩
  | .local _ .vmem, ⟨31, _⟩ => ⟨S1x8, .f32⟩
  | .local _ .vmem, ⟨32, _⟩ => ⟨S1x64, .f32⟩
  | .local _ .vmem, ⟨33, _⟩ => ⟨S256x16, .f32⟩
  | .local _ .vmem, ⟨34, _⟩ => ⟨S256x16, .f32⟩
  | .local _ .vmem, ⟨35, _⟩ => ⟨S256x16, .f32⟩
  | .local _ .vmem, ⟨36, _⟩ => ⟨S256x16, .f32⟩
  | .local _ .vmem, ⟨37, _⟩ => ⟨S12x256x64, .f32⟩
  | .local _ .vmem, ⟨38, _⟩ => ⟨S12x256x64, .f32⟩
  | .local _ .vmem, ⟨39, _⟩ => ⟨S12x256x64, .f32⟩
  | .local _ .vmem, ⟨40, _⟩ => ⟨S12x256x64, .f32⟩
  | .local _ .vmem, ⟨41, _⟩ => ⟨S2x384x1024, .bf16⟩
  | .local _ .vmem, ⟨42, _⟩ => ⟨S2048x768, .bf16⟩
  | .local _ .vmem, ⟨43, _⟩ => ⟨S256x768, .f32⟩
  | .local _ .vmem, ⟨44, _⟩ => ⟨S256x768, .f32⟩
  | .local _ .smem, ⟨0, _⟩ => ⟨S12, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_4 : Ref sig .tc := ⟨.hbm, 65, rfl⟩
abbrev main_v31 : Ref sig .tc := ⟨.hbm, 66, rfl⟩
abbrev main_v32 : Ref sig .tc := ⟨.hbm, 67, rfl⟩
abbrev main_cst_5 : Ref sig .tc := ⟨.hbm, 68, rfl⟩
abbrev main_v33 : Ref sig .tc := ⟨.hbm, 69, rfl⟩
abbrev main_v34 : Ref sig .tc := ⟨.hbm, 70, rfl⟩
abbrev main_cst_6 : Ref sig .tc := ⟨.hbm, 71, rfl⟩
abbrev main_v35 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_cst_8 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_9 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_c : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_0 : Ref sig .tc := ⟨.hbm, 103, rfl⟩
abbrev main_call1_v12 : Ref sig .tc := ⟨.hbm, 104, rfl⟩
abbrev main_call1_v13 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_10 : Ref sig .tc := ⟨.hbm, 113, rfl⟩
abbrev main_v57 : Ref sig .tc := ⟨.hbm, 114, rfl⟩
abbrev main_v58 : Ref sig .tc := ⟨.hbm, 115, rfl⟩
abbrev main_v59_0 : Ref sig .tc := ⟨.hbm, 116, rfl⟩
abbrev main_v59_1 : Ref sig .tc := ⟨.hbm, 117, rfl⟩
abbrev main_v59_2 : Ref sig .tc := ⟨.hbm, 118, rfl⟩
abbrev main_v59_3 : Ref sig .tc := ⟨.hbm, 119, rfl⟩
abbrev main_v59_4 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg11_0 : Ref sig .tc := ⟨.vmem, 37, rfl⟩
abbrev cc1_stg11_1 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg3_1 : Ref sig .tc := ⟨.vmem, 44, rfl⟩
abbrev cc1_stg10_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc1_sem0_0 : DmaSem sig := 24
abbrev cc1_sem0_1 : DmaSem sig := 25
abbrev cc1_sem1_0 : DmaSem sig := 26
abbrev cc1_sem2_0 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem8_1 : DmaSem sig := 34
abbrev cc1_sem9_0 : DmaSem sig := 35
abbrev cc1_sem9_1 : DmaSem sig := 36
abbrev cc1_sem10_0 : DmaSem sig := 37
abbrev cc1_sem11_0 : DmaSem sig := 38
abbrev cc1_sem11_1 : DmaSem sig := 39
abbrev cc2_sem0_0 : DmaSem sig := 40
abbrev cc2_sem0_1 : DmaSem sig := 41
abbrev cc2_sem1_0 : DmaSem sig := 42
abbrev cc2_sem2_0 : DmaSem sig := 43
abbrev cc2_sem3_0 : DmaSem sig := 44
abbrev cc2_sem3_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S12x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨2, ![1, 8], ![false, false]⟩

def k1_off1 (i : grid1.Coords) : Fin 1 → Nat :=
  let c12_i32 : BitVec 32 := 12#32
  let arg0 : BitVec 32 := BitVec.ofNat 32 (i 0).val
  let v62 : BitVec 32 := Scalar.muli c12_i32 arg0
  let v63 : Index := Scalar.indexCast v62
  ![v63.toNat]
def k1_off2 (i : grid1.Coords) (c1_i32 : BitVec 32) : Fin 1 → Nat :=
  let c12_i32_33 : BitVec 32 := 12#32
  let arg0 : BitVec 32 := BitVec.ofNat 32 (i 0).val
  let v67 : BitVec 32 := Scalar.muli c12_i32_33 arg0
  let v68 : BitVec 32 := Scalar.addi v67 c1_i32
  let v69 : Index := Scalar.indexCast v68
  ![v69.toNat]
@[reducible] def k1_t1_loop (i : grid1.Coords) : Scf.Loop 32 :=
  let c0_i32_118 : BitVec 32 := 0#32
  let arg1 : BitVec 32 := BitVec.ofNat 32 (i 1).val
  let v418 : BitVec 32 := Scalar.subi arg1 c0_i32_118
  let c1_i32_119 : BitVec 32 := 1#32
  let v420 : BitVec 32 := Scalar.divsi v418 c1_i32_119
  let v421 : BitVec 32 := Scalar.muli v420 c1_i32_119
  let v422 : BitVec 32 := Scalar.addi c0_i32_118 v421
  let c1_i32_120 : BitVec 32 := 1#32
  ⟨c0_i32_118, v422, c1_i32_120⟩
def k1_off3 (i : grid1.Coords) (k1_t1 : Fin (k1_t1_loop i).trips) : Fin 2 → Nat :=
  let c0_i32_118 : BitVec 32 := 0#32
  let c1_i32_120 : BitVec 32 := 1#32
  let arg14 : BitVec 32 := Scf.iv c0_i32_118 c1_i32_120 k1_t1
  let c256_i32_200 : BitVec 32 := 256#32
  let v607 : BitVec 32 := Scalar.muli arg14 c256_i32_200
  let v608 : Index := Scalar.indexCast v607
  let c0_201 : Index := 0#32
  ![v608.toNat, 0]
def k1_off4 (i : grid1.Coords) (k1_t1 : Fin (k1_t1_loop i).trips) : Fin 2 → Nat :=
  let c0_i32_118 : BitVec 32 := 0#32
  let c1_i32_120 : BitVec 32 := 1#32
  let arg14 : BitVec 32 := Scf.iv c0_i32_118 c1_i32_120 k1_t1
  let c256_i32_205 : BitVec 32 := 256#32
  let v624 : BitVec 32 := Scalar.muli arg14 c256_i32_205
  let v625 : Index := Scalar.indexCast v624
  let c0_206 : Index := 0#32
  ![v625.toNat, 0]
@[reducible] def k1_t2_loop (i : grid1.Coords) : Scf.Loop 32 :=
  let c0_i32_118 : BitVec 32 := 0#32
  let arg1 : BitVec 32 := BitVec.ofNat 32 (i 1).val
  let v418 : BitVec 32 := Scalar.subi arg1 c0_i32_118
  let c1_i32_119 : BitVec 32 := 1#32
  let v420 : BitVec 32 := Scalar.divsi v418 c1_i32_119
  let v421 : BitVec 32 := Scalar.muli v420 c1_i32_119
  let v422 : BitVec 32 := Scalar.addi c0_i32_118 v421
  let v419 : BitVec 32 := Scalar.addi c0_i32_118 v418
  let c1_i32_121 : BitVec 32 := 1#32
  ⟨v422, v419, c1_i32_121⟩
def k1_off5 (i : grid1.Coords) (k1_t2 : Fin (k1_t2_loop i).trips) : Fin 2 → Nat :=
  let c0_i32_118 : BitVec 32 := 0#32
  let arg1 : BitVec 32 := BitVec.ofNat 32 (i 1).val
  let v418 : BitVec 32 := Scalar.subi arg1 c0_i32_118
  let c1_i32_119 : BitVec 32 := 1#32
  let v420 : BitVec 32 := Scalar.divsi v418 c1_i32_119
  let v421 : BitVec 32 := Scalar.muli v420 c1_i32_119
  let v422 : BitVec 32 := Scalar.addi c0_i32_118 v421
  let c1_i32_121 : BitVec 32 := 1#32
  let arg14 : BitVec 32 := Scf.iv v422 c1_i32_121 k1_t2
  let c256_i32_200 : BitVec 32 := 256#32
  let v607 : BitVec 32 := Scalar.muli arg14 c256_i32_200
  let v608 : Index := Scalar.indexCast v607
  let c0_201 : Index := 0#32
  ![v608.toNat, 0]
def k1_off6 (i : grid1.Coords) (k1_t2 : Fin (k1_t2_loop i).trips) : Fin 2 → Nat :=
  let c0_i32_118 : BitVec 32 := 0#32
  let arg1 : BitVec 32 := BitVec.ofNat 32 (i 1).val
  let v418 : BitVec 32 := Scalar.subi arg1 c0_i32_118
  let c1_i32_119 : BitVec 32 := 1#32
  let v420 : BitVec 32 := Scalar.divsi v418 c1_i32_119
  let v421 : BitVec 32 := Scalar.muli v420 c1_i32_119
  let v422 : BitVec 32 := Scalar.addi c0_i32_118 v421
  let c1_i32_121 : BitVec 32 := 1#32
  let arg14 : BitVec 32 := Scf.iv v422 c1_i32_121 k1_t2
  let c256_i32_205 : BitVec 32 := 256#32
  let v624 : BitVec 32 := Scalar.muli arg14 c256_i32_205
  let v625 : Index := Scalar.indexCast v624
  let c0_206 : Index := 0#32
  ![v625.toNat, 0]
def k1_off7 (i : grid1.Coords) : Fin 2 → Nat :=
  let arg1 : BitVec 32 := BitVec.ofNat 32 (i 1).val
  let c256_i32_122 : BitVec 32 := 256#32
  let v425 : BitVec 32 := Scalar.muli arg1 c256_i32_122
  let v426 : Index := Scalar.indexCast v425
  let c0_123 : Index := 0#32
  ![v426.toNat, 0]
def k1_off8 (i : grid1.Coords) : Fin 2 → Nat :=
  let arg1 : BitVec 32 := BitVec.ofNat 32 (i 1).val
  let c256_i32_129 : BitVec 32 := 256#32
  let v450 : BitVec 32 := Scalar.muli arg1 c256_i32_129
  let v451 : Index := Scalar.indexCast v450
  let c0_130 : Index := 0#32
  ![v451.toNat, 0]
def k1_off9 (i : grid1.Coords) : Fin 2 → Nat :=
  let arg1 : BitVec 32 := BitVec.ofNat 32 (i 1).val
  let c256_i32_134 : BitVec 32 := 256#32
  let v463 : BitVec 32 := Scalar.muli arg1 c256_i32_134
  let v464 : Index := Scalar.indexCast v463
  let c0_135 : Index := 0#32
  ![v464.toNat, 0]
def k1_off10 (i : grid1.Coords) : Fin 2 → Nat :=
  let arg1 : BitVec 32 := BitVec.ofNat 32 (i 1).val
  let c1_i32_132 : BitVec 32 := 1#32
  let v461 : BitVec 32 := Scalar.subi arg1 c1_i32_132
  let c0_i32_133 : BitVec 32 := 0#32
  let v462 : BitVec 32 := Scalar.maxsi v461 c0_i32_133
  let c256_i32_138 : BitVec 32 := 256#32
  let v471 : BitVec 32 := Scalar.muli v462 c256_i32_138
  let v472 : Index := Scalar.indexCast v471
  let c0_139 : Index := 0#32
  ![v472.toNat, 0]
def k1_off11 (i : grid1.Coords) : Fin 2 → Nat :=
  let arg1 : BitVec 32 := BitVec.ofNat 32 (i 1).val
  let c1_i32_132 : BitVec 32 := 1#32
  let v461 : BitVec 32 := Scalar.subi arg1 c1_i32_132
  let c0_i32_133 : BitVec 32 := 0#32
  let v462 : BitVec 32 := Scalar.maxsi v461 c0_i32_133
  let c256_i32_140 : BitVec 32 := 256#32
  let v475 : BitVec 32 := Scalar.muli v462 c256_i32_140
  let v476 : Index := Scalar.indexCast v475
  let c0_141 : Index := 0#32
  ![v476.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_10 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S12x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2048x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S256x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S256x16 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 1 → Memref sig .tc .smem S12 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S12x256x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12x256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x384x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== KernelIdeal.lean ====
variable {F : FTy → Type} [FloatOps F] [Named F]
def κ : String → Option EReal := fun
  | "big" => some ⊤
  | "floor" => some ⊥
  | "mask" => some ⊥
  | _ => none
-- ==== ReferenceIdeal.lean ====
abbrev S1x2048x768 : Shape := ⟨3, ![1, 2048, 768]⟩
abbrev S384x768 : Shape := ⟨2, ![384, 768]⟩
abbrev S768x384 : Shape := ⟨2, ![768, 384]⟩
abbrev S64x768 : Shape := ⟨2, ![64, 768]⟩
abbrev S64 : Shape := ⟨1, ![64]⟩
abbrev S3x64 : Shape := ⟨2, ![3, 64]⟩
abbrev S3 : Shape := ⟨1, ![3]⟩
abbrev S12 : Shape := ⟨1, ![12]⟩
abbrev S2x1024x384 : Shape := ⟨3, ![2, 1024, 384]⟩
abbrev S768x2048 : Shape := ⟨2, ![768, 2048]⟩
abbrev S2048x768 : Shape := ⟨2, ![2048, 768]⟩
abbrev S2048x384 : Shape := ⟨2, ![2048, 384]⟩
abbrev S2048x12x64 : Shape := ⟨3, ![2048, 12, 64]⟩
abbrev S12x2048x64 : Shape := ⟨3, ![12, 2048, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S12x2048x16 : Shape := ⟨3, ![12, 2048, 16]⟩
abbrev S1x2048x16 : Shape := ⟨3, ![1, 2048, 16]⟩
abbrev S12x2048x32 : Shape := ⟨3, ![12, 2048, 32]⟩
abbrev S12x2048 : Shape := ⟨2, ![12, 2048]⟩
abbrev S12x2048x1 : Shape := ⟨3, ![12, 2048, 1]⟩
abbrev S1x1x64 : Shape := ⟨3, ![1, 1, 64]⟩
abbrev S768x64 : Shape := ⟨2, ![768, 64]⟩
abbrev S2048x64 : Shape := ⟨2, ![2048, 64]⟩
abbrev S2048x32 : Shape := ⟨2, ![2048, 32]⟩
abbrev S1x64 : Shape := ⟨2, ![1, 64]⟩
abbrev S64x32x64 : Shape := ⟨3, ![64, 32, 64]⟩
abbrev S64x64 : Shape := ⟨2, ![64, 64]⟩
abbrev S1x2048 : Shape := ⟨2, ![1, 2048]⟩
abbrev S12x1x1 : Shape := ⟨3, ![12, 1, 1]⟩
abbrev S12x2048x16x1 : Shape := ⟨4, ![12, 2048, 16, 1]⟩
abbrev S1x1x1x64 : Shape := ⟨4, ![1, 1, 1, 64]⟩
abbrev S12x2048x16x64 : Shape := ⟨4, ![12, 2048, 16, 64]⟩
abbrev S12x2048x64x1 : Shape := ⟨4, ![12, 2048, 64, 1]⟩
abbrev S12x2048x64x32 : Shape := ⟨4, ![12, 2048, 64, 32]⟩
abbrev S12x2048x2048 : Shape := ⟨3, ![12, 2048, 2048]⟩
abbrev S2048x2048 : Shape := ⟨2, ![2048, 2048]⟩
abbrev S1x2048x2048 : Shape := ⟨3, ![1, 2048, 2048]⟩
abbrev S12x2048x3 : Shape := ⟨3, ![12, 2048, 3]⟩
abbrev S1x1x3 : Shape := ⟨3, ![1, 1, 3]⟩
abbrev S2048x2x384 : Shape := ⟨3, ![2048, 2, 384]⟩
abbrev S2x1024x2048 : Shape := ⟨3, ![2, 1024, 2048]⟩
abbrev S2048x2x1024 : Shape := ⟨3, ![2048, 2, 1024]⟩

abbrev nBuf : Space → Nat
  | .hbm => 363
  | .vmem => 0
  | .smem => 0
  | _ => 0

abbrev hbmTy0_0 (i : Nat) : BufTy := match i % 128 with
  | 0 => ⟨S1x2048x768, .f32⟩
  | 1 => ⟨S384x768, .f32⟩
  | 2 => ⟨S768x384, .f32⟩
  | 3 => ⟨S64x768, .f32⟩
  | 4 => ⟨S64x768, .f32⟩
  | 5 => ⟨S64, .f32⟩
  | 6 => ⟨S64, .f32⟩
  | 7 => ⟨S3x64, .f32⟩
  | 8 => ⟨S3, .f32⟩
  | 9 => ⟨S12, .f32⟩
  | 10 => ⟨S2x1024x384, .f32⟩
  | 11 => ⟨S768x2048, .f32⟩
  | 12 => ⟨S2048x768, .f32⟩
  | 13 => ⟨S768x384, .f32⟩
  | 14 => ⟨S2048x384, .f32⟩
  | 15 => ⟨S384x768, .f32⟩
  | 16 => ⟨S2048x768, .f32⟩
  | 17 => ⟨S2048x12x64, .f32⟩
  | 18 => ⟨S12x2048x64, .f32⟩
  | 19 => ⟨S2048, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S2048x1, .f32⟩
  | 37 => ⟨S1x16, .f32⟩
  | 38 => ⟨S2048x16, .f32⟩
  | 39 => ⟨S2048x16, .f32⟩
  | 40 => ⟨S2048x16, .f32⟩
  | 41 => ⟨S2048x16, .f32⟩
  | 42 => ⟨S2048, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S2048x1, .f32⟩
  | 60 => ⟨S1x16, .f32⟩
  | 61 => ⟨S2048x16, .f32⟩
  | 62 => ⟨S2048x16, .f32⟩
  | 63 => ⟨S2048x16, .f32⟩
  | 64 => ⟨S2048x16, .f32⟩
  | 65 => ⟨S12x2048x16, .f32⟩
  | 66 => ⟨S12x2048x16, .f32⟩
  | 67 => ⟨S1x2048x16, .f32⟩
  | 68 => ⟨S12x2048x16, .f32⟩
  | 69 => ⟨S12x2048x16, .f32⟩
  | 70 => ⟨S1x2048x16, .f32⟩
  | 71 => ⟨S12x2048x16, .f32⟩
  | 72 => ⟨S12x2048x16, .f32⟩
  | 73 => ⟨S12x2048x16, .f32⟩
  | 74 => ⟨S1x2048x16, .f32⟩
  | 75 => ⟨S12x2048x16, .f32⟩
  | 76 => ⟨S12x2048x16, .f32⟩
  | 77 => ⟨S1x2048x16, .f32⟩
  | 78 => ⟨S12x2048x16, .f32⟩
  | 79 => ⟨S12x2048x16, .f32⟩
  | 80 => ⟨S12x2048x16, .f32⟩
  | 81 => ⟨S12x2048x32, .f32⟩
  | 82 => ⟨S12x2048x64, .f32⟩
  | 83 => ⟨S12x2048x64, .f32⟩
  | 84 => ⟨S_, .f32⟩
  | 85 => ⟨S12x2048, .f32⟩
  | 86 => ⟨S12x2048x1, .f32⟩
  | 87 => ⟨S_, .f32⟩
  | 88 => ⟨S12x2048x1, .f32⟩
  | 89 => ⟨S12x2048x1, .f32⟩
  | 90 => ⟨S_, .f32⟩
  | 91 => ⟨S12x2048x1, .f32⟩
  | 92 => ⟨S12x2048x1, .f32⟩
  | 93 => ⟨S12x2048x1, .f32⟩
  | 94 => ⟨S12x2048x64, .f32⟩
  | 95 => ⟨S12x2048x64, .f32⟩
  | 96 => ⟨S1x1x64, .f32⟩
  | 97 => ⟨S12x2048x64, .f32⟩
  | 98 => ⟨S12x2048x64, .f32⟩
  | 99 => ⟨S768x64, .f32⟩
  | 100 => ⟨S2048x64, .f32⟩
  | 101 => ⟨S2048, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S2048x1, .f32⟩
  | 119 => ⟨S1x16, .f32⟩
  | 120 => ⟨S2048x16, .f32⟩
  | 121 => ⟨S2048x16, .f32⟩
  | 122 => ⟨S2048x16, .f32⟩
  | 123 => ⟨S2048x16, .f32⟩
  | 124 => ⟨S2048, .f32⟩
  | 125 => ⟨S16, .f32⟩
  | 126 => ⟨S_, .f32⟩
  | 127 => ⟨S16, .f32⟩
  | _ => ⟨S1x2048x768, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S2048x1, .f32⟩
  | 14 => ⟨S1x16, .f32⟩
  | 15 => ⟨S2048x16, .f32⟩
  | 16 => ⟨S2048x16, .f32⟩
  | 17 => ⟨S2048x16, .f32⟩
  | 18 => ⟨S2048x16, .f32⟩
  | 19 => ⟨S2048x16, .f32⟩
  | 20 => ⟨S2048x16, .f32⟩
  | 21 => ⟨S2048x16, .f32⟩
  | 22 => ⟨S2048x16, .f32⟩
  | 23 => ⟨S2048x16, .f32⟩
  | 24 => ⟨S2048x16, .f32⟩
  | 25 => ⟨S2048x16, .f32⟩
  | 26 => ⟨S2048x16, .f32⟩
  | 27 => ⟨S2048x32, .f32⟩
  | 28 => ⟨S2048x64, .f32⟩
  | 29 => ⟨S2048x64, .f32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x1, .f32⟩
  | 40 => ⟨S2048x64, .f32⟩
  | 41 => ⟨S2048x64, .f32⟩
  | 42 => ⟨S1x64, .f32⟩
  | 43 => ⟨S2048x64, .f32⟩
  | 44 => ⟨S2048x64, .f32⟩
  | 45 => ⟨S768x64, .f32⟩
  | 46 => ⟨S2048x64, .f32⟩
  | 47 => ⟨S64x32x64, .f32⟩
  | 48 => ⟨S_, .f32⟩
  | 49 => ⟨S64x64, .f32⟩
  | 50 => ⟨S_, .f32⟩
  | 51 => ⟨S64x64, .f32⟩
  | 52 => ⟨S64x64, .f32⟩
  | 53 => ⟨S64x32x64, .f32⟩
  | 54 => ⟨S_, .f32⟩
  | 55 => ⟨S64x64, .f32⟩
  | 56 => ⟨S_, .f32⟩
  | 57 => ⟨S64x64, .f32⟩
  | 58 => ⟨S64x64, .f32⟩
  | 59 => ⟨S2048, .i32⟩
  | 60 => ⟨S2048x1, .i32⟩
  | 61 => ⟨S2048, .i32⟩
  | 62 => ⟨S1x2048, .i32⟩
  | 63 => ⟨S64, .i32⟩
  | 64 => ⟨S1x64, .i32⟩
  | 65 => ⟨S_, .i32⟩
  | 66 => ⟨S1x64, .i32⟩
  | 67 => ⟨S1x64, .i32⟩
  | 68 => ⟨S_, .i32⟩
  | 69 => ⟨S1x64, .i32⟩
  | 70 => ⟨S1x64, .i32⟩
  | 71 => ⟨S_, .i32⟩
  | 72 => ⟨S1x64, .i32⟩
  | 73 => ⟨S1x64, .i32⟩
  | 74 => ⟨S2048x64, .i32⟩
  | 75 => ⟨S2048x64, .i32⟩
  | 76 => ⟨S2048x64, .i1⟩
  | 77 => ⟨S_, .i1⟩
  | 78 => ⟨S2048, .i1⟩
  | 79 => ⟨S2048x1, .i1⟩
  | 80 => ⟨S12x2048x64, .f32⟩
  | 81 => ⟨S_, .f32⟩
  | 82 => ⟨S12x2048x64, .f32⟩
  | 83 => ⟨S12x2048x64, .f32⟩
  | 84 => ⟨S2048x1, .i1⟩
  | 85 => ⟨S2048x64, .i1⟩
  | 86 => ⟨S2048x64, .i1⟩
  | 87 => ⟨S12x2048x64, .i1⟩
  | 88 => ⟨S_, .f32⟩
  | 89 => ⟨S12x2048x64, .f32⟩
  | 90 => ⟨S12x2048x64, .f32⟩
  | 91 => ⟨S12x1x1, .f32⟩
  | 92 => ⟨S_, .f32⟩
  | 93 => ⟨S12x2048, .f32⟩
  | 94 => ⟨S12x2048x1, .f32⟩
  | 95 => ⟨S12x2048x1, .f32⟩
  | 96 => ⟨S12x2048x1, .f32⟩
  | 97 => ⟨S12x2048x64, .f32⟩
  | 98 => ⟨S12x2048x64, .f32⟩
  | 99 => ⟨S12x2048x64, .f32⟩
  | 100 => ⟨S_, .f32⟩
  | 101 => ⟨S12x2048, .f32⟩
  | 102 => ⟨S12x2048x1, .f32⟩
  | 103 => ⟨S12x2048x1, .f32⟩
  | 104 => ⟨S12x2048x1, .f32⟩
  | 105 => ⟨S12x2048x1, .f32⟩
  | 106 => ⟨S12x2048x1, .f32⟩
  | 107 => ⟨S12x2048x64, .f32⟩
  | 108 => ⟨S12x2048x64, .f32⟩
  | 109 => ⟨S12x2048x64, .f32⟩
  | 110 => ⟨S12x2048x64, .i1⟩
  | 111 => ⟨S_, .f32⟩
  | 112 => ⟨S12x2048x64, .f32⟩
  | 113 => ⟨S12x2048x64, .f32⟩
  | 114 => ⟨S12x2048x64, .i1⟩
  | 115 => ⟨S_, .f32⟩
  | 116 => ⟨S12x2048x64, .f32⟩
  | 117 => ⟨S12x2048x64, .f32⟩
  | 118 => ⟨S12x2048x16, .f32⟩
  | 119 => ⟨S12x2048x16, .i32⟩
  | 120 => ⟨S12x2048x16x1, .i32⟩
  | 121 => ⟨S64, .i32⟩
  | 122 => ⟨S1x1x1x64, .i32⟩
  | 123 => ⟨S12x2048x16x64, .i32⟩
  | 124 => ⟨S12x2048x16x64, .i32⟩
  | 125 => ⟨S12x2048x16x64, .i1⟩
  | 126 => ⟨S_, .i1⟩
  | 127 => ⟨S12x2048x64, .i1⟩
  | _ => ⟨S1x2048x768, .f32⟩

abbrev hbmTy0_2 (i : Nat) : BufTy := match i % 128 with
  | 0 => ⟨S12x2048x64x1, .i1⟩
  | 1 => ⟨S12x2048x64x32, .i1⟩
  | 2 => ⟨S12x2048x2048, .i1⟩
  | 3 => ⟨S2048x2048, .i32⟩
  | 4 => ⟨S2048x2048, .i32⟩
  | 5 => ⟨S2048x2048, .i1⟩
  | 6 => ⟨S1x2048x2048, .i1⟩
  | 7 => ⟨S12x2048x2048, .i1⟩
  | 8 => ⟨S12x2048x2048, .i1⟩
  | 9 => ⟨S_, .i1⟩
  | 10 => ⟨S12x2048, .i1⟩
  | 11 => ⟨S12x2048x1, .i1⟩
  | 12 => ⟨S12x2048x2048, .f32⟩
  | 13 => ⟨S_, .f32⟩
  | 14 => ⟨S12x2048x2048, .f32⟩
  | 15 => ⟨S12x2048x2048, .f32⟩
  | 16 => ⟨S_, .f32⟩
  | 17 => ⟨S12x2048x2048, .f32⟩
  | 18 => ⟨S12x2048x2048, .f32⟩
  | 19 => ⟨S_, .f32⟩
  | 20 => ⟨S12x2048, .f32⟩
  | 21 => ⟨S12x2048x1, .f32⟩
  | 22 => ⟨S12x2048x2048, .f32⟩
  | 23 => ⟨S12x2048x2048, .f32⟩
  | 24 => ⟨S12x2048x2048, .f32⟩
  | 25 => ⟨S_, .f32⟩
  | 26 => ⟨S12x2048, .f32⟩
  | 27 => ⟨S12x2048x1, .f32⟩
  | 28 => ⟨S12x2048x2048, .f32⟩
  | 29 => ⟨S12x2048x2048, .f32⟩
  | 30 => ⟨S12x2048x64, .f32⟩
  | 31 => ⟨S12x2048x64, .i1⟩
  | 32 => ⟨S_, .f32⟩
  | 33 => ⟨S12x2048x64, .f32⟩
  | 34 => ⟨S12x2048x64, .f32⟩
  | 35 => ⟨S2048x2048, .i32⟩
  | 36 => ⟨S2048x2048, .i32⟩
  | 37 => ⟨S2048x2048, .i1⟩
  | 38 => ⟨S2048x2048, .i32⟩
  | 39 => ⟨S2048x2048, .i32⟩
  | 40 => ⟨S2048x2048, .i32⟩
  | 41 => ⟨S_, .i32⟩
  | 42 => ⟨S2048x2048, .i32⟩
  | 43 => ⟨S2048x2048, .i1⟩
  | 44 => ⟨S2048x2048, .i1⟩
  | 45 => ⟨S12x2048x2048, .i1⟩
  | 46 => ⟨S_, .f32⟩
  | 47 => ⟨S12x2048x2048, .f32⟩
  | 48 => ⟨S12x2048x2048, .f32⟩
  | 49 => ⟨S12x1x1, .f32⟩
  | 50 => ⟨S_, .f32⟩
  | 51 => ⟨S12x2048, .f32⟩
  | 52 => ⟨S12x2048x1, .f32⟩
  | 53 => ⟨S12x2048x1, .f32⟩
  | 54 => ⟨S12x2048x1, .f32⟩
  | 55 => ⟨S12x2048x2048, .f32⟩
  | 56 => ⟨S12x2048x2048, .f32⟩
  | 57 => ⟨S12x2048x2048, .f32⟩
  | 58 => ⟨S_, .f32⟩
  | 59 => ⟨S12x2048, .f32⟩
  | 60 => ⟨S12x2048x1, .f32⟩
  | 61 => ⟨S12x2048x1, .f32⟩
  | 62 => ⟨S12x2048x1, .f32⟩
  | 63 => ⟨S12x2048x1, .f32⟩
  | 64 => ⟨S12x2048x1, .f32⟩
  | 65 => ⟨S12x2048x2048, .f32⟩
  | 66 => ⟨S12x2048x2048, .f32⟩
  | 67 => ⟨S12x2048x64, .f32⟩
  | 68 => ⟨S12x2048x3, .f32⟩
  | 69 => ⟨S1x1x3, .f32⟩
  | 70 => ⟨S12x2048x3, .f32⟩
  | 71 => ⟨S12x2048x3, .f32⟩
  | 72 => ⟨S12x2048x3, .f32⟩
  | 73 => ⟨S12x2048x3, .f32⟩
  | 74 => ⟨S_, .f32⟩
  | 75 => ⟨S12x2048x3, .f32⟩
  | 76 => ⟨S12x2048x3, .f32⟩
  | 77 => ⟨S_, .f32⟩
  | 78 => ⟨S12x2048x3, .f32⟩
  | 79 => ⟨S12x2048x3, .f32⟩
  | 80 => ⟨S_, .f32⟩
  | 81 => ⟨S12x2048, .f32⟩
  | 82 => ⟨S12x2048x1, .f32⟩
  | 83 => ⟨S_, .f32⟩
  | 84 => ⟨S12x2048x1, .f32⟩
  | 85 => ⟨S12x2048x1, .f32⟩
  | 86 => ⟨S12x2048x3, .f32⟩
  | 87 => ⟨S12x2048x3, .f32⟩
  | 88 => ⟨S12x2048x1, .f32⟩
  | 89 => ⟨S12x2048x64, .f32⟩
  | 90 => ⟨S12x2048x64, .f32⟩
  | 91 => ⟨S12x2048x1, .f32⟩
  | 92 => ⟨S12x2048x64, .f32⟩
  | 93 => ⟨S12x2048x64, .f32⟩
  | 94 => ⟨S12x2048x64, .f32⟩
  | 95 => ⟨S12x2048x1, .f32⟩
  | 96 => ⟨S12x2048x64, .f32⟩
  | 97 => ⟨S12x2048x64, .f32⟩
  | 98 => ⟨S12x2048x64, .f32⟩
  | 99 => ⟨S2048x12x64, .f32⟩
  | 100 => ⟨S2048x2x384, .f32⟩
  | 101 => ⟨S2x1024x2048, .f32⟩
  | 102 => ⟨S2048x2x1024, .f32⟩
  | 103 => ⟨S2048x2048, .f32⟩
  | 104 => ⟨S2048x768, .f32⟩
  | 105 => ⟨S2048x768, .f32⟩
  | 106 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_cst_16 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_cst_18 : Ref sig .tc := ⟨.hbm, 129, rfl⟩
abbrev main_v98 : Ref sig .tc := ⟨.hbm, 130, rfl⟩
abbrev main_v99 : Ref sig .tc := ⟨.hbm, 131, rfl⟩
abbrev main_cst_19 : Ref sig .tc := ⟨.hbm, 132, rfl⟩
abbrev main_v100 : Ref sig .tc := ⟨.hbm, 133, rfl⟩
abbrev main_v101 : Ref sig .tc := ⟨.hbm, 134, rfl⟩
abbrev main_cst_20 : Ref sig .tc := ⟨.hbm, 135, rfl⟩
abbrev main_v102 : Ref sig .tc := ⟨.hbm, 136, rfl⟩
abbrev main_v103 : Ref sig .tc := ⟨.hbm, 137, rfl⟩
abbrev main_cst_21 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_22 : Ref sig .tc := ⟨.hbm, 158, rfl⟩
abbrev main_v123 : Ref sig .tc := ⟨.hbm, 159, rfl⟩
abbrev main_v124 : Ref sig .tc := ⟨.hbm, 160, rfl⟩
abbrev main_cst_23 : Ref sig .tc := ⟨.hbm, 161, rfl⟩
abbrev main_v125 : Ref sig .tc := ⟨.hbm, 162, rfl⟩
abbrev main_v126 : Ref sig .tc := ⟨.hbm, 163, rfl⟩
abbrev main_cst_24 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_25 : Ref sig .tc := ⟨.hbm, 176, rfl⟩
abbrev main_v138 : Ref sig .tc := ⟨.hbm, 177, rfl⟩
abbrev main_cst_26 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_27 : Ref sig .tc := ⟨.hbm, 182, rfl⟩
abbrev main_v142 : Ref sig .tc := ⟨.hbm, 183, rfl⟩
abbrev main_cst_28 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_c : Ref sig .tc := ⟨.hbm, 193, rfl⟩
abbrev main_v151 : Ref sig .tc := ⟨.hbm, 194, rfl⟩
abbrev main_v152 : Ref sig .tc := ⟨.hbm, 195, rfl⟩
abbrev main_c_29 : Ref sig .tc := ⟨.hbm, 196, rfl⟩
abbrev main_v153 : Ref sig .tc := ⟨.hbm, 197, rfl⟩
abbrev main_v154 : Ref sig .tc := ⟨.hbm, 198, rfl⟩
abbrev main_c_30 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_c_31 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_32 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_33 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_34 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_35 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_cst_36 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_cst_37 : Ref sig .tc := ⟨.hbm, 243, rfl⟩
abbrev main_v192 : Ref sig .tc := ⟨.hbm, 244, rfl⟩
abbrev main_v193 : Ref sig .tc := ⟨.hbm, 245, rfl⟩
abbrev main_values : Ref sig .tc := ⟨.hbm, 246, rfl⟩
abbrev main_indices : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_c_38 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_c_39 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_40 : Ref sig .tc := ⟨.hbm, 269, rfl⟩
abbrev main_v213 : Ref sig .tc := ⟨.hbm, 270, rfl⟩
abbrev main_v214 : Ref sig .tc := ⟨.hbm, 271, rfl⟩
abbrev main_cst_41 : Ref sig .tc := ⟨.hbm, 272, rfl⟩
abbrev main_v215 : Ref sig .tc := ⟨.hbm, 273, rfl⟩
abbrev main_v216 : Ref sig .tc := ⟨.hbm, 274, rfl⟩
abbrev main_cst_42 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_cst_43 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_cst_44 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_c_45 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_cst_46 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_cst_47 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_cst_48 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_cst_49 : Ref sig .tc := ⟨.hbm, 330, rfl⟩
abbrev main_v265 : Ref sig .tc := ⟨.hbm, 331, rfl⟩
abbrev main_v266 : Ref sig .tc := ⟨.hbm, 332, rfl⟩
abbrev main_cst_50 : Ref sig .tc := ⟨.hbm, 333, rfl⟩
abbrev main_v267 : Ref sig .tc := ⟨.hbm, 334, rfl⟩
abbrev main_v268 : Ref sig .tc := ⟨.hbm, 335, rfl⟩
abbrev main_cst_51 : Ref sig .tc := ⟨.hbm, 336, rfl⟩
abbrev main_v269 : Ref sig .tc := ⟨.hbm, 337, rfl⟩
abbrev main_v270 : Ref sig .tc := ⟨.hbm, 338, rfl⟩
abbrev main_cst_52 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩

abbrev nD : Nat := 1
abbrev τ : Topo := Topo.v7x

variable {F : FTy → Type} [FloatOps F]

def κ : String → Option EReal := fun
  | "big" => some ⊤
  | "floor" => some ⊥
  | "mask" => some ⊥
  | _ => none
-- ==== Proof.Row.lean ====
module

public import Idealize.ShloMosaic.Lib.Pointwise
public import Idealize.ShloMosaic.Lib.IdealHost

@[expose] public section

/-!
The mathematics of one row of the attention, on plain functions into the extended reals. A row is one head's query at
one token. Nothing here speaks of memory, of blocks of a grid or of tensors.
-/

noncomputable section

namespace Nsa

open Idealize.ShloMosaic

/-- The largest of finitely many numbers, folded from minus infinity. -/
def fmax {n : ℕ} (f : Fin n → EReal) : EReal :=
  Finset.fold max (Ideal.ofBits FTy.f32 4286578688#32) f Finset.univ

/-- The rotation of a row's first 32 channels. -/
def rope (c s : Fin 16 → EReal) (x : Fin 64 → EReal) (d : Fin 64) : EReal :=
  if h : d.val < 16 then x d * c ⟨d.val, h⟩ - x ⟨16 + d.val, by omega⟩ * s ⟨d.val, h⟩
  else if h' : d.val < 32 then
    x ⟨d.val - 16, by omega⟩ * s ⟨d.val - 16, by omega⟩ + x d * c ⟨d.val - 16, by omega⟩
  else x d

/-- The factor of the root-mean-square normalisation. -/
def rfac (x : Fin 64 → EReal) : EReal :=
  Ideal.rsqrt (Ideal.div (∑ e, x e * x e) (Ideal.ofBits .f32 1115684864#32) + Ideal.ofBits .f32 897988541#32)

/-- A row divided by its root mean square and weighted. -/
def rms (x w : Fin 64 → EReal) (d : Fin 64) : EReal := x d * rfac x * w d

/-- The softmax of scores `x` and one more score `sk` that carries no value, applied to values `v`; the division last. -/
def sinkAttn {n : ℕ} (x : Fin n → EReal) (sk : EReal) (v : Fin n → EReal) : EReal :=
  Ideal.div (∑ j, Ideal.exp (x j - max (fmax x) sk) * v j)
    (∑ j, Ideal.exp (x j - max (fmax x) sk) + Ideal.exp (sk - max (fmax x) sk))

/-- The same with the division first. -/
def sinkAttn' {n : ℕ} (x : Fin n → EReal) (sk : EReal) (v : Fin n → EReal) : EReal :=
  ∑ j, Ideal.div (Ideal.exp (x j - max (fmax x) sk))
    (∑ j, Ideal.exp (x j - max (fmax x) sk) + Ideal.exp (sk - max (fmax x) sk)) * v j

/-- A row's scores against the block keys. -/
def blockScore (q : Fin 64 → EReal) (kc : Fin 64 → Fin 64 → EReal) (b : Fin 64) : EReal :=
  (∑ d, q d * kc b d) * Ideal.ofBits .f32 1040187392#32

/-- Scores of the blocks that end at or before the token `t`; minus infinity for the others. -/
def blockMask (t : ℕ) (s : Fin 64 → EReal) (b : Fin 64) : EReal := if 32 * b.val + 31 ≤ t then s b else ⊥

/-- Entry `b` is the largest of the row and the row is not all minus infinity. -/
def pick (x : Fin 64 → EReal) (b : Fin 64) : Prop := x b = fmax x ∧ ⊥ < fmax x

open Classical in
/-- The row with its largest entries taken out. -/
def drop (x : Fin 64 → EReal) (b : Fin 64) : EReal := if pick x b then ⊥ else x b

/-- Block `b` is selected for the token `t`, by rounds of taking out the largest. -/
def sel (t : ℕ) (x : Fin 64 → EReal) (b : Fin 64) : Prop :=
  ((t + 1) / 32 < 16 ∧ b.val < 16) ∨ (¬ (t + 1) / 32 < 16 ∧ ∃ r < 16, pick (drop^[r] x) b)

open Classical in
/-- The scaled query with the penalties of the blocks appended. -/
def augm (q : Fin 64 → EReal) (S : Fin 64 → Prop) (e : Fin 128) : EReal :=
  if h : e.val < 64 then q ⟨e.val, h⟩ * Ideal.ofBits .f32 1040187392#32
  else if S ⟨e.val - 64, by omega⟩ then 0 else ⊥

/-- The score of the augmented query against row `j` of the augmented keys. -/
def augScore (u : Fin 128 → EReal) (ke : Fin 2048 → Fin 128 → EReal) (j : Fin 2048) : EReal := ∑ e, u e * ke j e

/-- A running softmax: the largest score so far, the sum of the weights and the weighted sum of the values. -/
structure Run where
  m : EReal
  l : EReal
  acc : Fin 64 → EReal

/-- A running softmax after one more chunk of scores and values. -/
def Run.step {n : ℕ} (c : Run) (x : Fin n → EReal) (v : Fin n → Fin 64 → EReal) : Run where
  m := max c.m (fmax x)
  l := c.l * Ideal.exp (c.m - max c.m (fmax x)) + ∑ j, Ideal.exp (x j - max c.m (fmax x))
  acc d := c.acc d * Ideal.exp (c.m - max c.m (fmax x)) + ∑ j, Ideal.exp (x j - max c.m (fmax x)) * v j d

/-- Row `256 c + y` of an array of 2048 rows. -/
def tok (c : ℕ) (h : c < 8) (y : Fin 256) : Fin 2048 := ⟨256 * c + y.val, by omega⟩

/-- The running softmax over the first `k` chunks of 256 tokens. -/
def Run.upto (x : Fin 2048 → EReal) (v : Fin 2048 → Fin 64 → EReal) : ℕ → Run
  | 0 => ⟨⊥, 0, fun _ => 0⟩
  | k + 1 => if h : k < 8 then (Run.upto x v k).step (fun y => x (tok k h y)) (fun y => v (tok k h y)) else Run.upto x v k

/-- The three gates' linear parts. -/
def gateLin (q : Fin 64 → EReal) (wg : Fin 64 → Fin 8 → EReal) (bg : Fin 8 → EReal) (g : Fin 8) : EReal :=
  ∑ d, q d * wg d g + bg g

/-- Two chunks of scores under one softmax with a sink. -/
def sink2 (x1 x0 : Fin 256 → EReal) (sk : EReal) (v1 v0 : Fin 256 → EReal) : EReal :=
  Ideal.div
    (∑ j, Ideal.exp (x0 j - max (max (fmax x1) (fmax x0)) sk) * v0 j
      + ∑ j, Ideal.exp (x1 j - max (max (fmax x1) (fmax x0)) sk) * v1 j)
    (∑ j, Ideal.exp (x0 j - max (max (fmax x1) (fmax x0)) sk) + ∑ j, Ideal.exp (x1 j - max (max (fmax x1) (fmax x0)) sk)
      + Ideal.exp (sk - max (max (fmax x1) (fmax x0)) sk))

/-- The gated sum of the three branches. -/
def mix (g0 g1 g2 a b c : EReal) : EReal :=
  Ideal.div (Ideal.logistic g0 * a + Ideal.logistic g1 * b + Ideal.logistic g2 * c)
    (max (Ideal.logistic g0 + Ideal.logistic g1 + Ideal.logistic g2) (Ideal.ofBits .f32 897988541#32))

theorem ofBits_ninf : Ideal.ofBits .f32 4286578688#32 = ⊥ := by simp [Ideal.ofBits, Ideal.ieee]

theorem ofBits_eighth : Ideal.ofBits .f32 1040187392#32 = ((1 / 8 : ℝ) : EReal) := by
  simp [Ideal.ofBits, Ideal.ieee, -EReal.coe_mul]
  norm_num

theorem ofBits_64 : Ideal.ofBits .f32 1115684864#32 = ((64 : ℝ) : EReal) := by
  simp [Ideal.ofBits, Ideal.ieee, -EReal.coe_mul]
  norm_num

theorem ofBits_eight : Ideal.ofBits .f32 0x41000000#32 = ((8 : ℝ) : EReal) := by
  simp [Ideal.ofBits, Ideal.ieee, -EReal.coe_mul]
  norm_num

theorem ofBits_32 : Ideal.ofBits .f32 0x42000000#32 = ((32 : ℝ) : EReal) := by
  simp [Ideal.ofBits, Ideal.ieee, -EReal.coe_mul]
  norm_num

/-- The small number of the norms and of the gates is a positive real. -/
theorem ofBits_eps : ∃ e : ℝ, 0 < e ∧ Ideal.ofBits .f32 897988541#32 = (e : EReal) := by
  refine ⟨_, ?_, by simp [Ideal.ofBits, Ideal.ieee]; norm_cast⟩
  norm_num

theorem fmax_eq_sup {n : ℕ} (f : Fin n → EReal) : fmax f = Finset.univ.sup f := by
  rw [fmax, ofBits_ninf]
  rfl

end Nsa
-- ==== Proof.Host.lean ====
module

public import proofs.«01_k».proof.Proof.Gen.KernelIdeal.Frame
public import proofs.«01_k».proof.Proof.Row
public import Idealize.ShloMosaic.Lib.Pointwise
public import Idealize.ShloMosaic.Lib.Claim
public import Idealize.ShloMosaic.Lib.StableHlo.RunRead
public import Idealize.ShloMosaic.Lib.WordCmp
public import Idealize.ShloMosaic.Lib.Routing.OpsSet
public import Idealize.ShloMosaic.Lib.Routing.OpsOne

@[expose] public section

set_option maxRecDepth 16384

/-! What the operations before the first call leave in the buffers that the calls read. -/

noncomputable section

namespace Cert.KernelIdeal.Val

open Idealize.ShloMosaic Idealize.ShloMosaic.TcCoe Idealize.ShloMosaic.Tactic Cert.KernelIdeal Cert.KernelIdeal.Gen Nsa

variable (m : (l : Loc nD τ sig) → Buf (Elt Ideal) l) (ρ : Dev nD → PrngReg) (c : Dev nD)

theorem of_first (r : Ref sig .tc) (h1 : r ∉ hostOps0_1_W) (h2 : r ∉ hostOps0_2_W) (h3 : r ∉ hostOps0_3_W) (h4 : r ∉ hostOps0_4_W) :
    V5 m ρ c r = W1 m ρ c (Proc.devRef .tc r) :=
  (W5_of m ρ c r h4).trans ((W4_of m ρ c r h3).trans ((W3_of m ρ c r h2).trans (W2_of m ρ c r h1)))

theorem of_third (r : Ref sig .tc) (h3 : r ∉ hostOps0_3_W) (h4 : r ∉ hostOps0_4_W) :
    V5 m ρ c r = W3 m ρ c (Proc.devRef .tc r) :=
  (W5_of m ρ c r h4).trans (W4_of m ρ c r h3)

theorem host_v0_at (t : Fin 2048) (e : Fin 768) : V5 m ρ c main_v0 (ix2 t e) = m ((c : Thread nD τ).loc main_arg0) (ix3 0 t e) := by
  rw [of_first m ρ c main_v0 (by decide) (by decide) (by decide) (by decide)]
  after_reads_simp
  pointwise

theorem host_v2_at (x : Fin 768) (y : Fin 384) : V5 m ρ c main_v2 (ix2 x y) = m ((c : Thread nD τ).loc main_arg1) (ix2 y x) := by
  rw [of_first m ρ c main_v2 (by decide) (by decide) (by decide) (by decide)]
  after_reads_simp
  pointwise

theorem host_v4_at (x : Fin 384) (y : Fin 768) : V5 m ρ c main_v4 (ix2 x y) = m ((c : Thread nD τ).loc main_arg2) (ix2 y x) := by
  rw [of_first m ρ c main_v4 (by decide) (by decide) (by decide) (by decide)]
  after_reads_simp
  pointwise

theorem host_v6_at (x : Fin 768) (y : Fin 64) : V5 m ρ c main_v6 (ix2 x y) = m ((c : Thread nD τ).loc main_arg3) (ix2 y x) := by
  rw [of_first m ρ c main_v6 (by decide) (by decide) (by decide) (by decide)]
  after_reads_simp
  pointwise

theorem host_v8_at (x : Fin 768) (y : Fin 64) : V5 m ρ c main_v8 (ix2 x y) = m ((c : Thread nD τ).loc main_arg4) (ix2 y x) := by
  rw [of_first m ρ c main_v8 (by decide) (by decide) (by decide) (by decide)]
  after_reads_simp
  pointwise

theorem host_v9_at (y : Fin 64) : V5 m ρ c main_v9 (ix2 0 y) = m ((c : Thread nD τ).loc main_arg6) (ix1 y) := by
  rw [of_first m ρ c main_v9 (by decide) (by decide) (by decide) (by decide)]
  after_reads_simp
  pointwise

theorem host_v10_at (y : Fin 64) : V5 m ρ c main_v10 (ix2 0 y) = m ((c : Thread nD τ).loc main_arg5) (ix1 y) := by
  rw [of_first m ρ c main_v10 (by decide) (by decide) (by decide) (by decide)]
  after_reads_simp
  pointwise

/-- The index at which an update of the gates' weights lands. -/
theorem lands14 (i : IVec S1 32) (hi : ∀ y, i y = 0#32) (x : Fin 64) (y : Fin 3) (r : Fin 64) (k : Fin 8) :
    scatter_S64x8_S1_S64x3_01_n_1_0.resultIdx? (ix2 x y) i = some (ix2 r k) ↔ x.val = r.val ∧ y.val = k.val := by
  have hs : ∀ a, scatter_S64x8_S1_S64x3_01_n_1_0.start (ix2 x y) i a = 0 := fun a => by
    unfold ScatterDims.start
    split
    · rw [hi]; rfl
    · rfl
  have h0 : scatter_S64x8_S1_S64x3_01_n_1_0.window (ix2 x y) 0 = x.val := rfl
  have h1 : scatter_S64x8_S1_S64x3_01_n_1_0.window (ix2 x y) 1 = y.val := rfl
  refine (Routing.resultIdx?_ix2 _ _ _ r k).trans ?_
  rw [hs, hs, h0, h1]
  omega

/-- The index at which an update of the gates' offsets lands. -/
theorem lands19 (i : IVec S2 32) (hi : ∀ y, i y = 0#32) (y : Fin 3) (r : Fin 1) (k : Fin 8) :
    scatter_S1x8_S2_S3_0_0_01_0.resultIdx? (ix1 y) i = some (ix2 r k) ↔ y.val = k.val := by
  have hs : ∀ a, scatter_S1x8_S2_S3_0_0_01_0.start (ix1 y) i a = 0 := fun a => by
    unfold ScatterDims.start
    split
    · rw [hi]; rfl
    · rfl
  have h0 : scatter_S1x8_S2_S3_0_0_01_0.window (ix1 y) 0 = 0 := rfl
  have h1 : scatter_S1x8_S2_S3_0_0_01_0.window (ix1 y) 1 = y.val := rfl
  refine (Routing.resultIdx?_ix2 _ _ _ r k).trans ?_
  rw [hs, hs, h0, h1]
  omega

theorem host_v14_at (x : Fin 64) (y : Fin 3) : V5 m ρ c main_v14 (ix2 x ⟨y.val, by omega⟩) = m ((c : Thread nD τ).loc main_arg7) (ix2 y x) := by
  rw [of_first m ρ c main_v14 (by decide) (by decide) (by decide) (by decide)]
  after_reads_simp
  have e : ∀ z, broadcastInDim S1 ![] bcast_S_S1 (constantI S_ 32 0#32) z = 0#32 := fun z => by pointwise
  refine Routing.scatter_set_hit _ _ _ _ _ _ (fun k hk => ?_) (ix2 x y) ((lands14 _ e _ _ _ _).2 ⟨rfl, rfl⟩)
  obtain ⟨a, b, rfl⟩ : ∃ a b, k = ix2 a b := ⟨k 0, k 1, by ext a; fin_cases a <;> rfl⟩
  obtain ⟨ha, hb⟩ := (lands14 _ e _ _ _ _).1 hk
  obtain rfl := Fin.ext ha
  obtain rfl := Fin.ext hb
  pointwise

theorem host_v19_at (y : Fin 3) : V5 m ρ c main_v19 (ix2 0 ⟨y.val, by omega⟩) = m ((c : Thread nD τ).loc main_arg8) (ix1 y) := by
  rw [of_first m ρ c main_v19 (by decide) (by decide) (by decide) (by decide)]
  after_reads_simp
  have e : ∀ z, concatenate S2 0 [⟨S1, broadcastInDim S1 ![] bcast_S_S1 (constantI S_ 32 0#32)⟩, ⟨S1, broadcastInDim S1 ![] bcast_S_S1 (constantI S_ 32 0#32)⟩] concatenates_S1_S1_S2_d0 z = 0#32 := fun z => by
    obtain ⟨a, rfl⟩ : ∃ a, z = ix1 a := ⟨z 0, by ext a; fin_cases a; rfl⟩
    fin_cases a
    · rfl
    · rfl
  refine Routing.scatter_set_hit _ _ _ _ _ _ (fun k hk => ?_) (ix1 y) ((lands19 _ e _ _ _).2 rfl)
  obtain ⟨a, rfl⟩ : ∃ a, k = ix1 a := ⟨k 0, by ext a; fin_cases a; rfl⟩
  have ha := (lands19 _ e _ _ _).1 hk
  obtain rfl := Fin.ext ha
  rfl

/-- The angle of a token at a channel pair, in the host's operations. -/
def angle : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.divf (broadcastInDim S16 ![] bcast_S_S16 (constant S_ .f32 0x3F800000#32))
        (Host.powf (broadcastInDim S16 ![] bcast_S_S16 (constant S_ .f32 0x461C4000#32))
          (Host.divf (addf (broadcastInDim S16 ![] bcast_S_S16 (constant S_ .f32 0x00000000#32))
              (mulf (broadcastInDim S16 ![] bcast_S_S16 (constant S_ .f32 0x40000000#32)) (sitofp .f32 (iotaInDim S16 32 0))))
            (broadcastInDim S16 ![] bcast_S_S16 (constant S_ .f32 0x42000000#32)))))))

theorem v46_eq : V5 m ρ c main_v46 = Host.cos angle := by
  rw [of_third m ρ c main_v46 (by decide) (by decide)]
  after_reads_simp
  rfl

theorem v47_eq : V5 m ρ c main_v47 = Host.sin angle := by
  rw [of_third m ρ c main_v47 (by decide) (by decide)]
  after_reads_simp
  rfl

/-- The number of the bit «the word is `b`» for a word that holds `a`. -/
theorem indic_of (w : BitVec 32) (a b : ℕ) (ha : a < 2 ^ 32) (hb : b < 2 ^ 32) (h : w = BitVec.ofNat 32 a) :
    (FloatOps.uitofp (F := Ideal) FTy.f32 (IntOp.cmpi CmpIPredicate.eq w (BitVec.ofNat 32 b)) : EReal) = if a = b then 1 else 0 := by
  subst h
  by_cases e : a = b
  · rw [if_pos e, (WordCmp.cmpi_eq_ofNat_eq_one_iff (by omega) (by omega)).2 e]
    show ((1 : ℕ) : EReal) = 1
    simp
  · rw [if_neg e]
    have hn := mt (WordCmp.cmpi_eq_ofNat_eq_one_iff (w := 32) (a := a) (b := b) (by omega) (by omega)).1 e
    rw [(BitVec.eq_zero_or_eq_one _).resolve_right hn]
    show ((0 : ℕ) : EReal) = 0
    simp

theorem host_v28_at (x : Fin 2048) (y : Fin 64) : V5 m ρ c main_v28 (ix2 x y) = if x.val / 32 = y.val then (1 : EReal) else 0 := by
  rw [of_third m ρ c main_v28 (by decide) (by decide)]
  after_reads_simp
  simp only [StableHlo.TRef.ofBuf_toBuf, id]
  pointwise
  refine indic_of _ _ _ (by omega) (by omega) ?_
  revert x
  decide +kernel

theorem host_v58_at (x : Fin 8) (y : Fin 256) : V5 m ρ c main_v58 (ix2 x y) = if y.val / 32 = x.val then Ideal.div 1 (Ideal.ofBits .f32 0x42000000#32) else 0 := by
  show W5 m ρ c (Proc.devRef .tc main_v58) (ix2 x y) = _
  after_reads_simp
  simp only [StableHlo.TRef.ofBuf_toBuf, id]
  pointwise
  refine (congrArg (Ideal.div · _) (indic_of _ (y.val / 32) x.val (by omega) (by omega) ?_)).trans ?_
  · revert y
    decide +kernel
  · split
    · rfl
    · rw [ofBits_32]
      simp [Ideal.div]

end Cert.KernelIdeal.Val

end
-- ==== Proof.MathSel.lean ====
module

public import proofs.«01_k».proof.Proof.Row
public import Idealize.ShloMosaic.Lib.SortPrefix

@[expose] public section

/-!
Selecting the sixteen blocks of highest score, by rounds and by sorting.
-/

noncomputable section

namespace Nsa

open Idealize.ShloMosaic

/-! ## The rounds -/

section Rounds

open Classical

variable (x : Fin 64 → EReal)

/-- How many entries are larger than entry `b`. -/
def above (b : Fin 64) : ℕ := (Finset.univ.filter fun c => x b < x c).card

/-- The entries that are not minus infinity are pairwise different. -/
def Apart : Prop := ∀ b c, b ≠ c → ⊥ < x b → x b ≠ x c

variable {x}

theorem le_fmax {n : ℕ} (f : Fin n → EReal) (j : Fin n) : f j ≤ fmax f := by
  rw [fmax_eq_sup]
  exact Finset.le_sup (Finset.mem_univ j)

theorem fmax_le {n : ℕ} (f : Fin n → EReal) (a : EReal) (h : ∀ j, f j ≤ a) : fmax f ≤ a := by
  rw [fmax_eq_sup]
  exact Finset.sup_le fun j _ => h j

theorem exists_fmax {n : ℕ} (f : Fin n → EReal) (h : ⊥ < fmax f) : ∃ j, f j = fmax f := by
  rw [fmax_eq_sup] at *
  have hne : (Finset.univ : Finset (Fin n)).Nonempty := by
    by_contra hn
    rw [Finset.not_nonempty_iff_eq_empty] at hn
    rw [hn] at h
    simp at h
  obtain ⟨j, _, hj⟩ := Finset.exists_mem_eq_sup _ hne f
  exact ⟨j, hj.symm⟩

theorem above_lt_of_lt {b c : Fin 64} (h : x b < x c) : above x c < above x b := by
  refine Finset.card_lt_card ?_
  rw [Finset.ssubset_iff_of_subset fun d hd => ?_]
  · exact ⟨c, by simpa using h, by simp⟩
  · simp only [Finset.mem_filter, Finset.mem_univ, true_and] at hd ⊢
    exact h.trans hd

theorem lt_or_lt (hx : Apart x) {b c : Fin 64} (hne : b ≠ c) (hb : ⊥ < x b) : x b < x c ∨ x c < x b :=
  lt_or_gt_of_ne (hx b c hne hb)

/-- The round numbered `r` picks the entry with `r` larger ones. -/
theorem pick_round (hx : Apart x) {y : Fin 64 → EReal} {r : ℕ} (hy : ∀ b, y b = if above x b < r then ⊥ else x b)
    (b : Fin 64) : pick y b ↔ ⊥ < x b ∧ above x b = r := by
  constructor
  · rintro ⟨hm, hlt⟩
    have hyb : ¬ above x b < r := fun hc => by
      have := hy b
      rw [if_pos hc] at this
      rw [← hm, this] at hlt
      exact lt_irrefl _ hlt
    have hbx : y b = x b := by rw [hy b, if_neg hyb]
    have hpos : ⊥ < x b := by rw [← hbx, hm]; exact hlt
    refine ⟨hpos, le_antisymm ?_ (not_lt.mp hyb)⟩
    have hcard : (Finset.univ.filter fun c => x b < x c).card ≤ (Finset.range r).card := by
      refine Finset.card_le_card_of_injOn (fun c => above x c) (fun c hc => ?_) (fun c hc d hd hcd => ?_)
      · simp only [Finset.coe_filter, Finset.mem_univ, true_and, Set.mem_setOf_eq] at hc
        simp only [Finset.coe_range, Set.mem_Iio]
        by_contra hge
        have h1 : y c = x c := by rw [hy c, if_neg hge]
        have h2 := le_fmax y c
        rw [h1, ← hm, hbx] at h2
        exact absurd hc (not_lt.mpr h2)
      · simp only [Finset.coe_filter, Finset.mem_univ, true_and, Set.mem_setOf_eq] at hc hd
        by_contra hne
        rcases lt_or_lt hx hne (bot_le.trans_lt hc) with h | h
        · exact absurd hcd (above_lt_of_lt h).ne'
        · exact absurd hcd (above_lt_of_lt h).ne
    rw [Finset.card_range] at hcard
    exact hcard
  · rintro ⟨hpos, hr⟩
    have hbx : y b = x b := by rw [hy b, if_neg (by omega)]
    have hmax : fmax y = x b := by
      refine le_antisymm (fmax_le y _ fun c => ?_) (hbx ▸ le_fmax y b)
      rw [hy c]
      split_ifs with hc
      · exact bot_le
      · by_contra hgt
        have := above_lt_of_lt (not_le.mp hgt)
        omega
    exact ⟨by rw [hbx, hmax], by rw [hmax]; exact hpos⟩

/-- After `r` rounds the entries with fewer than `r` larger ones are gone. -/
theorem drop_iterate (hx : Apart x) (r : ℕ) : ∀ b, drop^[r] x b = if above x b < r then ⊥ else x b := by
  induction r with
  | zero => intro b; simp
  | succ r ih =>
    intro b
    rw [Function.iterate_succ_apply', drop]
    by_cases hp : pick (drop^[r] x) b
    · rw [if_pos hp, if_pos]
      have := ((pick_round hx ih b).mp hp).2
      omega
    · rw [if_neg hp, ih b]
      by_cases h1 : above x b < r
      · rw [if_pos h1, if_pos (by omega)]
      · rw [if_neg h1]
        by_cases h2 : above x b = r
        · rw [if_pos (by omega)]
          by_contra h3
          exact hp ((pick_round hx ih b).mpr ⟨bot_lt_iff_ne_bot.mpr h3, h2⟩)
        · rw [if_neg (by omega)]

/-- The sixteen rounds pick the entries with fewer than sixteen larger ones. -/
theorem picked_iff (hx : Apart x) (b : Fin 64) :
    (∃ r < 16, pick (drop^[r] x) b) ↔ ⊥ < x b ∧ above x b < 16 := by
  constructor
  · rintro ⟨r, hr, hp⟩
    have := (pick_round hx (drop_iterate hx r) b).mp hp
    exact ⟨this.1, by omega⟩
  · rintro ⟨h1, h2⟩
    exact ⟨above x b, h2, (pick_round hx (drop_iterate hx _) b).mpr ⟨h1, rfl⟩⟩

/-- Taking out the largest raises no entry. -/
theorem drop_le (r : ℕ) : ∀ (x : Fin 64 → EReal) (b : Fin 64), drop^[r] x b ≤ x b := by
  induction r with
  | zero => exact fun x b => le_refl _
  | succ r ih =>
    intro x b
    rw [Function.iterate_succ_apply]
    refine (ih (drop x) b).trans ?_
    unfold drop
    split
    · exact bot_le
    · exact le_refl _

/-- A row with at most `n` entries that are not minus infinity loses all of them in `n` rounds. -/
theorem exists_pick (n : ℕ) : ∀ (x : Fin 64 → EReal) (b : Fin 64), (Finset.univ.filter fun c => ⊥ < x c).card ≤ n → ⊥ < x b →
    ∃ r < n, pick (drop^[r] x) b := by
  induction n with
  | zero =>
    intro x b hc hb
    have hm : b ∈ Finset.univ.filter fun c => ⊥ < x c := by simpa using hb
    exact absurd (Finset.card_pos.mpr ⟨b, hm⟩) (by omega)
  | succ n ih =>
    intro x b hc hb
    by_cases hp : pick x b
    · exact ⟨0, by omega, hp⟩
    · have hpos : ⊥ < fmax x := hb.trans_le (le_fmax x b)
      obtain ⟨d, hd⟩ := exists_fmax x hpos
      have hlt : (Finset.univ.filter fun c => ⊥ < drop x c).card < (Finset.univ.filter fun c => ⊥ < x c).card := by
        refine Finset.card_lt_card ?_
        rw [Finset.ssubset_iff_of_subset fun c hc => ?_]
        · refine ⟨d, by simpa [hd] using hpos, ?_⟩
          rw [Finset.mem_filter, drop, if_pos ⟨hd, hpos⟩]
          exact fun h => lt_irrefl _ h.2
        · simp only [Finset.mem_filter, Finset.mem_univ, true_and] at hc ⊢
          exact hc.trans_le (drop_le 1 x c)
      obtain ⟨r, hr, h⟩ := ih (drop x) b (by omega) (by rw [drop, if_neg hp]; exact hb)
      exact ⟨r + 1, by omega, by rw [Function.iterate_succ_apply]; exact h⟩

end Rounds

/-! ## Sorting -/

/-- Entry `c` is sorted before entry `b`: it is larger, or equal and earlier. -/
def before (x : Fin 64 → EReal) (c b : Fin 64) : Prop := x b < x c ∨ (x c = x b ∧ c < b)

open Classical in
/-- How many entries are sorted before entry `b`. -/
def place (x : Fin 64 → EReal) (b : Fin 64) : ℕ := (Finset.univ.filter fun c => before x c b).card

theorem valid_iff {t : ℕ} {b : Fin 64} : 32 * b.val + 31 ≤ t ↔ b.val < (t + 1) / 32 := by omega

section Select

variable {t : ℕ} {s : Fin 64 → EReal}

theorem bot_lt_blockMask (hs : ∀ b, s b ≠ ⊥) (b : Fin 64) : ⊥ < blockMask t s b ↔ b.val < (t + 1) / 32 := by
  rw [blockMask, ← valid_iff]
  split_ifs with h
  · exact ⟨fun _ => h, fun _ => bot_lt_iff_ne_bot.mpr (hs b)⟩
  · exact ⟨fun h' => absurd h' (lt_irrefl _), fun h' => absurd h' h⟩

theorem apart_blockMask (hs : ∀ b, s b ≠ ⊥) (hd : ∀ b c : Fin 64, b < c → 32 * c.val + 31 ≤ t → s b ≠ s c) :
    Apart (blockMask t s) := by
  intro b c hne hb heq
  have hc : ⊥ < blockMask t s c := heq ▸ hb
  rw [bot_lt_blockMask hs, ← valid_iff] at hb hc
  rw [blockMask, blockMask, if_pos hb, if_pos hc] at heq
  rcases lt_or_gt_of_ne hne with h | h
  · exact hd b c h hc heq
  · exact hd c b h hb heq.symm

theorem card_lt_16 (P : Fin 64 → Prop) [DecidablePred P] (n : ℕ) (hn : n < 16) (h : ∀ c, P c → c.val < n) :
    (Finset.univ.filter P).card < 16 := by
  have h15 : (Finset.univ.filter fun c : Fin 64 => c.val < 15).card = 15 := by decide +kernel
  refine lt_of_le_of_lt (Finset.card_le_card fun c hc => ?_) (h15.trans_lt (by norm_num))
  simp only [Finset.mem_filter, Finset.mem_univ, true_and] at hc ⊢
  exact (h c hc).trans_le (by omega)

theorem card_ge_16 (P : Fin 64 → Prop) [DecidablePred P] (h : ∀ c : Fin 64, c.val < 16 → P c) :
    ¬ (Finset.univ.filter P).card < 16 := by
  have h16 : (Finset.univ.filter fun c : Fin 64 => c.val < 16).card = 16 := by decide +kernel
  rw [not_lt, ← h16]
  refine Finset.card_le_card fun c hc => ?_
  rw [Finset.mem_filter] at hc ⊢
  exact ⟨hc.1, h c hc.2⟩

/-- On the blocks a token can see, the rounds select what sorting selects. -/
theorem sel_iff (hs : ∀ b, s b ≠ ⊥) (hd : 543 ≤ t → ∀ b c : Fin 64, b < c → 32 * c.val + 31 ≤ t → s b ≠ s c)
    (b : Fin 64) (hb : 32 * b.val ≤ t) : sel t (blockMask t s) b ↔ place (blockMask t s) b < 16 := by
  classical
  have hv := bot_lt_blockMask (t := t) hs
  by_cases hn : (t + 1) / 32 < 16
  · have h1 : sel t (blockMask t s) b := Or.inl ⟨hn, by omega⟩
    refine iff_of_true h1 ?_
    refine card_lt_16 (fun c => before (blockMask t s) c b) ((t + 1) / 32) hn fun c hc => ?_
    rcases hc with hc | ⟨he, hc⟩
    · exact (hv c).mp (bot_le.trans_lt hc)
    · have : c.val < b.val := hc
      by_cases hbv : b.val < (t + 1) / 32
      · omega
      · omega
  · have h1 : sel t (blockMask t s) b ↔ ∃ r < 16, pick (drop^[r] (blockMask t s)) b := by
      unfold sel
      constructor
      · rintro (h | h)
        · exact absurd h.1 hn
        · exact h.2
      · exact fun h => Or.inr ⟨hn, h⟩
    rw [h1]
    by_cases hbv : b.val < (t + 1) / 32
    · by_cases ht : 543 ≤ t
      · have hx := apart_blockMask hs (hd ht)
        rw [picked_iff hx]
        have he : place (blockMask t s) b = above (blockMask t s) b := by
          unfold place above
          congr 1
          ext c
          rw [Finset.mem_filter, Finset.mem_filter, before]
          refine and_congr_right fun _ => ?_
          constructor
          · rintro (h | ⟨h, h'⟩)
            · exact h
            · exact absurd h.symm (hx b c h'.ne' ((hv b).mpr hbv))
          · exact fun h => Or.inl h
        rw [he]
        exact ⟨fun h => h.2, fun h => ⟨(hv b).mpr hbv, h⟩⟩
      · have h16 : (Finset.univ.filter fun c => ⊥ < blockMask t s c).card ≤ 16 := by
          have h : (Finset.univ.filter fun c : Fin 64 => c.val < 16).card = 16 := by decide +kernel
          rw [← h]
          refine Finset.card_le_card fun c hc => ?_
          rw [Finset.mem_filter] at hc ⊢
          have := (hv c).mp hc.2
          exact ⟨hc.1, by omega⟩
        refine iff_of_true (exists_pick 16 _ b h16 ((hv b).mpr hbv)) ?_
        refine lt_of_lt_of_le (Finset.card_lt_card ?_) h16
        rw [Finset.ssubset_iff_of_subset fun c hc => ?_]
        · refine ⟨b, Finset.mem_filter.mpr ⟨Finset.mem_univ b, (hv b).mpr hbv⟩, fun h => ?_⟩
          rcases (Finset.mem_filter.mp h).2 with h | ⟨_, h⟩
          · exact lt_irrefl _ h
          · exact lt_irrefl _ h
        · rw [Finset.mem_filter] at hc ⊢
          refine ⟨hc.1, ?_⟩
          rcases hc.2 with h | ⟨h, _⟩
          · exact bot_le.trans_lt h
          · rw [h]
            exact (hv b).mpr hbv
    · have h2 : blockMask t s b = ⊥ := by
        by_contra h3
        exact hbv ((hv b).mp (bot_lt_iff_ne_bot.mpr h3))
      refine iff_of_false ?_ (card_ge_16 (fun c => before (blockMask t s) c b) fun c hc => Or.inl ?_)
      · rintro ⟨r, _, hp⟩
        have h3 := drop_le r (blockMask t s) b
        rw [h2, hp.1] at h3
        exact absurd (hp.2.trans_le h3) (lt_irrefl _)
      · rw [h2]
        exact (hv c).mpr (by omega)

/-- Every token has a selected block with a token it can see. -/
theorem exists_sel (hs : ∀ b, s b ≠ ⊥) : ∃ b : Fin 64, 32 * b.val ≤ t ∧ sel t (blockMask t s) b := by
  by_cases hn : (t + 1) / 32 < 16
  · exact ⟨0, by simp, Or.inl ⟨hn, by simp⟩⟩
  · have hv := bot_lt_blockMask (t := t) hs
    have h0 : ⊥ < fmax (blockMask t s) :=
      ((hv 0).mpr (by have : ((0 : Fin 64) : ℕ) = 0 := rfl; omega)).trans_le (le_fmax _ 0)
    obtain ⟨b, hb⟩ := exists_fmax _ h0
    have h1 := (hv b).mp (hb ▸ h0)
    exact ⟨b, by omega, Or.inr ⟨hn, 0, by norm_num, hb, h0⟩⟩

end Select

/-! ## The stable sort -/

theorem stableSort_congr_lt {n : ℕ} (R S : Fin n → Fin n → Bool) (l : List (Fin n)) (hl : l.Pairwise (· < ·))
    (h : ∀ a b, a < b → R b a = S b a) : stableSort R l = stableSort S l := by
  induction l with
  | nil => rfl
  | cons a l ih =>
    rw [List.pairwise_cons] at hl
    unfold stableSort
    rw [ih hl.2]
    exact insertBefore_congr R S a _ fun b hb => h a b (hl.1 b ((perm_stableSort S l).mem_iff.mp hb))

theorem sortedFrom_congr_lt {n : ℕ} (R S : Fin n → Fin n → Bool) (h : ∀ a b, a < b → R b a = S b a) (r : Fin n) :
    sortedFrom R r = sortedFrom S r := by
  have hs : sortPositions n R = sortPositions n S := stableSort_congr_lt R S _ (List.pairwise_lt_finRange n) h
  simp only [sortedFrom, List.get_eq_getElem, Fin.val_cast, hs]

/-- Where an entry stands in a sort by a strict total order is how many entries are before it. -/
theorem card_before_sortedFrom {n : ℕ} (B : Fin n → Fin n → Bool) (hB : StrictTotalBefore B) (p : Fin n) :
    (Finset.univ.filter fun c => B c (sortedFrom B p) = true).card = p.val := by
  have hinv := sortedFrom_noInversion B B (fun a b h => hB.asymm a b h) (fun _ _ h => h) hB.negTrans
  have he : (Finset.univ.filter fun c => B c (sortedFrom B p) = true)
      = (Finset.univ.filter fun i : Fin n => i < p).map ⟨sortedFrom B, sortedFrom_injective B⟩ := by
    ext c
    obtain ⟨i, rfl⟩ := sortedFrom_surjective B c
    simp only [Finset.mem_filter, Finset.mem_univ, true_and, Finset.mem_map, Function.Embedding.coeFn_mk]
    constructor
    · intro h
      refine ⟨i, ?_, rfl⟩
      rcases lt_trichotomy i p with h1 | h1 | h1
      · exact h1
      · rw [h1, hB.irrefl] at h
        exact absurd h (by decide)
      · rw [hinv p i h1] at h
        exact absurd h (by decide)
    · rintro ⟨j, hj, hji⟩
      have := sortedFrom_injective B hji
      subst this
      rcases hB.total (sortedFrom B j) (sortedFrom B p) (fun h => hj.ne (sortedFrom_injective B h)) with h | h
      · exact h
      · rw [hinv j p hj] at h
        exact absurd h (by decide)
  rw [he, Finset.card_map]
  rw [show (Finset.univ.filter fun i : Fin n => i < p) = Finset.Iio p by ext; simp, Fin.card_Iio]

open Classical in
/-- The first sixteen entries of a stable sort from the largest down are those with fewer than sixteen before them. -/
theorem first_iff (x : Fin 64 → EReal) (R : Fin 64 → Fin 64 → Bool) (hR : ∀ a b, R a b = true ↔ x b < x a) (b : Fin 64) :
    (∃ r : Fin 64, r.val < 16 ∧ sortedFrom R r = b) ↔ place x b < 16 := by
  have hB := StrictTotalBefore.of_key_then_position (fun a b : EReal => decide (b < a)) x (by simp)
    (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)
  generalize hBdef : (fun k k' : Fin 64 => decide (x k' < x k) || (decide (x k = x k') && decide (k < k'))) = B at hB
  have hfrom : ∀ r, sortedFrom R r = sortedFrom B r := fun r => by
    refine sortedFrom_congr_lt R B (fun a b hab => ?_) r
    rw [Bool.eq_iff_iff, hR, ← hBdef]
    simp only [Bool.or_eq_true, Bool.and_eq_true, decide_eq_true_eq]
    exact ⟨Or.inl, fun h => h.elim id fun h => absurd h.2 (not_lt.mpr hab.le)⟩
  have hplace : ∀ p, place x (sortedFrom B p) = p.val := fun p => by
    rw [← card_before_sortedFrom B hB p, place]
    congr 1
    ext c
    simp [before, ← hBdef]
  simp only [hfrom]
  constructor
  · rintro ⟨r, hr, rfl⟩
    rw [hplace]
    exact hr
  · intro h
    obtain ⟨r, rfl⟩ := sortedFrom_surjective B b
    rw [hplace] at h
    exact ⟨r, h, rfl⟩

end Nsa
-- ==== Proof.K1Sel.lean ====
module

public import proofs.«01_k».proof.Proof.Gen.KernelIdeal.Skeleton
public import Idealize.ShloMosaic.Lib.Pointwise
public import proofs.«01_k».proof.Proof.MathSel

@[expose] public section

/-!
The attention kernel's selection of blocks, row by row.
-/

noncomputable section

namespace Cert.KernelIdeal.Val

open Idealize.ShloMosaic Idealize.ShloMosaic.Tactic Cert.KernelIdeal Cert.KernelIdeal.Gen Nsa

theorem named_mask (w : BitVec 32) : (Named.named κ "mask" w : Ideal .f32) = (⊥ : EReal) := rfl
theorem named_floor (w : BitVec 32) : (Named.named κ "floor" w : Ideal .f32) = (⊥ : EReal) := rfl
theorem named_big (w : BitVec 32) : (Named.named κ "big" w : Ideal .f32) = (⊤ : EReal) := rfl

theorem andi_iff (a b : BitVec 1) : IntOp.andi a b = 1#1 ↔ a = 1#1 ∧ b = 1#1 := by
  revert a b; decide

theorem ori_iff (a b : BitVec 1) : IntOp.ori a b = 1#1 ↔ a = 1#1 ∨ b = 1#1 := by
  revert a b; decide

theorem xori_one_iff (a : BitVec 1) : IntOp.xori a 1#1 = 1#1 ↔ ¬ a = 1#1 := by
  revert a; decide

theorem ofBool_iff (p : Prop) [Decidable p] : BitVec.ofBool (decide p) = 1#1 ↔ p := by
  by_cases h : p <;> simp [h]

theorem select_eq {α : Type} (b : BitVec 1) (x y : α) (p : Prop) [Decidable p] (h : b = 1#1 ↔ p) :
    Scalar.select b x y = if p then x else y := by
  by_cases hp : p
  · rw [if_pos hp, h.mpr hp]; rfl
  · rw [if_neg hp]
    have hb : b = 0#1 := by
      have : ∀ b : BitVec 1, b ≠ 1#1 → b = 0#1 := by decide
      exact this b fun hb => hp (h.mp hb)
    rw [hb]; rfl

/-- A row of a matrix. -/
abbrev row {n k : ℕ} {α : Type} (v : (⟨2, ![n, k]⟩ : Shape).Idx → α) (r : Fin n) : Fin k → α := fun b => v (ix2 r b)

theorem pay28_iff (v : FVec Ideal S3072x64 .f32) (r : Fin 3072) (b : Fin 64) :
    k1_pay28 v (ix2 r b) = 1#1 ↔ pick (row v r) b := by
  pointwise [k1_pay28]
  rw [andi_iff, ofBool_iff, ofBool_iff, named_floor]
  exact Iff.rfl

open Classical in
theorem pay29_at (v : FVec Ideal S3072x64 .f32) (r : Fin 3072) (b : Fin 64) :
    k1_pay29 v (ix2 r b) = drop (row v r) b := by
  pointwise [k1_pay29]
  rw [select_eq _ _ _ _ (pay28_iff v r b), ofBits_ninf]
  rfl

/-- The scores after `n` rounds. -/
def rounds (v : FVec Ideal S3072x64 .f32) : ℕ → FVec Ideal S3072x64 .f32
  | 0 => v
  | n + 1 => k1_pay29 (rounds v n)

theorem row_rounds (v : FVec Ideal S3072x64 .f32) (r : Fin 3072) (n : ℕ) :
    row (rounds v n) r = drop^[n] (row v r) := by
  induction n with
  | zero => rfl
  | succ n ih =>
    rw [Function.iterate_succ_apply', ← ih]
    exact funext fun b => pay29_at _ r b

theorem picked_at (v : FVec Ideal S3072x64 .f32) (r : Fin 3072) (b : Fin 64) (n : ℕ) :
    k1_pay28 (rounds v n) (ix2 r b) = 1#1 ↔ pick (drop^[n] (row v r)) b := by
  rw [pay28_iff, row_rounds]

section Stages

variable (v : FVec Ideal S3072x64 .f32)

/-- The first two rounds. -/
def b242 : IVec S3072x64 1 := k1_pay31 v
def s244 : FVec Ideal S3072x64 .f32 := k1_pay32 v
def m245 : FVec Ideal S3072 .f32 := k1_pay33 v
/-- The next four. -/
def b286 : IVec S3072x64 1 := k1_pay41 (b242 v) (s244 v) (m245 v)
def s288 : FVec Ideal S3072x64 .f32 := k1_pay42 (s244 v) (m245 v)
def m290 : FVec Ideal S3072x1 .f32 := k1_pay43 (s244 v) (m245 v)
def b292 : IVec S3072x64 1 := k1_pay44 (s244 v) (m245 v)
/-- The next four. -/
def b330 : IVec S3072x64 1 := k1_pay52 (b286 v) (s288 v) (m290 v) (b292 v) (Named.named κ "floor" 0xEFA18F08#32)
def s332 : FVec Ideal S3072x64 .f32 := k1_pay53 (s288 v) (m290 v) (b292 v) (Named.named κ "floor" 0xEFA18F08#32)
def b340 : IVec S3072x64 1 := k1_pay54 (s288 v) (m290 v) (b292 v) (Named.named κ "floor" 0xEFA18F08#32)
/-- The next five. -/
def b385 : IVec S3072x64 1 := k1_pay63 (b330 v) (s332 v) (b340 v)
def s387 : FVec Ideal S3072x64 .f32 := k1_pay64 (s332 v) (b340 v)

theorem b242_eq : b242 v = ori (ori (broadcast S3072x64 0#1) (k1_pay28 (rounds v 0))) (k1_pay28 (rounds v 1)) := rfl
theorem s244_eq : s244 v = rounds v 2 := rfl
theorem m245_eq : m245 v = multiReduction .maximumf [1] S3072 (rounds v 2) 0xFF800000#32 reduces_S3072x64_S3072 (.inl rfl) rfl := rfl

theorem b286_eq : b286 v = ori (ori (ori (ori (b242 v) (k1_pay28 (rounds v 2))) (k1_pay28 (rounds v 3)))
    (k1_pay28 (rounds v 4))) (k1_pay28 (rounds v 5)) := rfl
theorem s288_eq : s288 v = rounds v 6 := rfl
theorem m290_eq : m290 v = shapeCast S3072x1 (multiReduction .maximumf [1] S3072 (rounds v 6) 0xFF800000#32
    reduces_S3072x64_S3072 (.inl rfl) rfl) shapeCasts_S3072_S3072x1 := rfl
theorem b292_eq : b292 v = cmpf .oeq (rounds v 6) (broadcastTo S3072x64 (m290 v) broadcasts_S3072x1_S3072x64) := rfl

theorem b45_eq : k1_pay45 (m290 v) (b292 v) (Named.named κ "floor" 0xEFA18F08#32) = k1_pay28 (rounds v 6) := rfl
theorem s46_eq : k1_pay46 (s288 v) (m290 v) (b292 v) (Named.named κ "floor" 0xEFA18F08#32) = rounds v 7 := rfl
theorem s48_eq : k1_pay48 (s288 v) (m290 v) (b292 v) (Named.named κ "floor" 0xEFA18F08#32) = rounds v 8 := rfl
theorem s50_eq : k1_pay50 (s288 v) (m290 v) (b292 v) (Named.named κ "floor" 0xEFA18F08#32) = rounds v 9 := rfl
theorem s332_eq : s332 v = rounds v 10 := rfl
theorem b340_eq : b340 v = k1_pay28 (rounds v 10) := rfl
theorem b330_eq : b330 v = ori (ori (ori (ori (b286 v) (k1_pay28 (rounds v 6))) (k1_pay28 (rounds v 7)))
    (k1_pay28 (rounds v 8))) (k1_pay28 (rounds v 9)) := rfl
theorem s387_eq : s387 v = rounds v 15 := rfl
theorem b385_eq : b385 v = ori (ori (ori (ori (ori (b330 v) (k1_pay28 (rounds v 10))) (k1_pay28 (rounds v 11)))
    (k1_pay28 (rounds v 12))) (k1_pay28 (rounds v 13))) (k1_pay28 (rounds v 14)) := rfl
end Stages

end Cert.KernelIdeal.Val
-- ==== Proof.K1Row.lean ====
module

public import Idealize.ShloMosaic.Lib.Pipeline.Value
public import Idealize.ShloMosaic.Lib.WordCmp
public import proofs.«01_k».proof.Proof.K1Sel

@[expose] public section

/-!
What the attention kernel's opening computes, row by row: the query, the token's position and the head's sink.
-/

noncomputable section

namespace Cert.KernelIdeal.Val

open Idealize.ShloMosaic Idealize.ShloMosaic.Tactic Cert.KernelIdeal Cert.KernelIdeal.Gen Nsa

/-- The head of a row. -/
def hd (r : Fin 3072) : Fin 12 := ⟨r.val / 256, by omega⟩
/-- The place of a row in its block of tokens. -/
def ln (r : Fin 3072) : Fin 256 := ⟨r.val % 256, by omega⟩

/-- Twelve heads' blocks, one under another. -/
def stack (f : Fin 12 → FVec Ideal S256x64 .f32) : FVec Ideal S3072x64 .f32 :=
  concatenate S3072x64 0 (List.ofFn fun n : Fin 12 => (⟨S256x64, f n⟩ : (s : Shape) × (s.Idx → Ideal .f32)))
    concatenates_S256x64_S256x64_S256x64_S256x64_S256x64_S256x64_S256x64_S256x64_S256x64_S256x64_S256x64_S256x64_S3072x64_d0

theorem stack_at (f : Fin 12 → FVec Ideal S256x64 .f32) (r : Fin 3072) (d : Fin 64) :
    stack f (ix2 r d) = f (hd r) (ix2 (ln r) d) := by
  refine concatenate_ofFn_apply (t := S3072x64) (s₁ := S256x64) 0 f _ rfl 256 rfl (ix2 r d) (hd r) rfl (ix2 (ln r) d) rfl fun b hb => ?_
  match b with
  | 0 => exact absurd rfl hb
  | 1 => rfl

/-- The rotation and normalisation of the stacked queries. -/
def turned (v2 v5 : FVec Ideal S3072x16 .f32) (v30 : FVec Ideal S3072x64 .f32) (v31 : Vec Ideal S1x64 .f32) :
    FVec Ideal S3072x64 .f32 :=
  have v32 : FVec Ideal S1x64 .f32 := shapeCast S1x64 v31 shapeCasts_S1x64_S1x64
  have v33 : FVec Ideal S3072x16 .f32 := extractStridedSlice S3072x16 ![0, 0] v30 slices_S3072x64_o0_0_S3072x16
  have v34 : FVec Ideal S3072x16 .f32 := extractStridedSlice S3072x16 ![0, 16] v30 slices_S3072x64_o0_16_S3072x16
  have v35 : FVec Ideal S3072x16 .f32 := mulf v33 v2
  have v36 : FVec Ideal S3072x16 .f32 := mulf v34 v5
  have v37 : FVec Ideal S3072x16 .f32 := subf v35 v36
  have v38 : FVec Ideal S3072x16 .f32 := mulf v33 v5
  have v39 : FVec Ideal S3072x16 .f32 := mulf v34 v2
  have v40 : FVec Ideal S3072x16 .f32 := addf v38 v39
  have v41 : FVec Ideal S3072x32 .f32 := concatenate S3072x32 1 [⟨S3072x16, v37⟩, ⟨S3072x16, v40⟩] concatenates_S3072x16_S3072x16_S3072x32_d1
  have v42 : FVec Ideal S3072x32 .f32 := extractStridedSlice S3072x32 ![0, 32] v30 slices_S3072x64_o0_32_S3072x32
  have v43 : FVec Ideal S3072x64 .f32 := concatenate S3072x64 1 [⟨S3072x32, v41⟩, ⟨S3072x32, v42⟩] concatenates_S3072x32_S3072x32_S3072x64_d1
  have v44 : FVec Ideal S3072x64 .f32 := mulf v43 v43
  have v45 : FVec Ideal S3072 .f32 := multiReduction .add [1] S3072 v44 0x00000000#32 reduces_S3072x64_S3072 (.inl rfl) rfl
  have v46 : FVec Ideal S3072x1 .f32 := shapeCast S3072x1 v45 shapeCasts_S3072_S3072x1
  have cst_30 : Ideal .f32 := Scalar.ofBits .f32 0x42800000#32
  have v47 : FVec Ideal S3072x1 .f32 := broadcast S3072x1 cst_30
  have v48 : FVec Ideal S3072x1 .f32 := divf v46 v47
  have cst_31 : Ideal .f32 := Scalar.ofBits .f32 0x358637BD#32
  have v49 : FVec Ideal S3072x1 .f32 := broadcast S3072x1 cst_31
  have v50 : FVec Ideal S3072x1 .f32 := addf v48 v49
  have v51 : FVec Ideal S3072x1 .f32 := rsqrt v50
  have v52 : FVec Ideal S3072x64 .f32 := broadcastTo S3072x64 v51 broadcasts_S3072x1_S3072x64
  have v53 : FVec Ideal S3072x64 .f32 := mulf v43 v52
  have v54 : FVec Ideal S3072x64 .f32 := broadcastTo S3072x64 v32 broadcasts_S1x64_S3072x64
  have v55 : FVec Ideal S3072x64 .f32 := mulf v53 v54
  v55

theorem rope_low (c s : Fin 16 → EReal) (x : Fin 64 → EReal) (e : Fin 16) :
    rope c s x ⟨e.val, by omega⟩ = x ⟨e.val, by omega⟩ * c e - x ⟨16 + e.val, by omega⟩ * s e := by
  rw [rope, dif_pos e.isLt]

theorem rope_mid (c s : Fin 16 → EReal) (x : Fin 64 → EReal) (e : Fin 16) :
    rope c s x ⟨16 + e.val, by omega⟩ = x ⟨e.val, by omega⟩ * s e + x ⟨16 + e.val, by omega⟩ * c e := by
  have h : (⟨16 + e.val, by omega⟩ : Fin 64).val - 16 = e.val := Nat.add_sub_cancel_left ..
  rw [rope, dif_neg (by simp), dif_pos (by simp; omega)]
  simp only [h]

theorem rope_high (c s : Fin 16 → EReal) (x : Fin 64 → EReal) (e : Fin 32) :
    rope c s x ⟨32 + e.val, by omega⟩ = x ⟨32 + e.val, by omega⟩ := by
  rw [rope, dif_neg (by simp; omega), dif_neg (by simp)]

/-- A sum over 64 channels, by the three parts the rotation treats. -/
theorem sum_parts {M : Type} [AddCommMonoid M] (f : Fin 64 → M) :
    ∑ d, f d = ∑ e : Fin 16, f ⟨e.val, by omega⟩ + ∑ e : Fin 16, f ⟨16 + e.val, by omega⟩
      + ∑ e : Fin 32, f ⟨32 + e.val, by omega⟩ :=
  (Fin.sum_univ_add (a := 32) (b := 32) f).trans
    (congrArg (· + _) (Fin.sum_univ_add (a := 16) (b := 16) fun i => f (Fin.castAdd 32 i)))

theorem turned_at (v2 v5 : FVec Ideal S3072x16 .f32) (v30 : FVec Ideal S3072x64 .f32) (v31 : Vec Ideal S1x64 .f32)
    (r : Fin 3072) (d : Fin 64) :
    turned v2 v5 v30 v31 (ix2 r d) = rms (rope (row v2 r) (row v5 r) (row v30 r)) (row v31 0) d := by
  pointwise [turned]
  rw [rms, rfac, sum_parts]
  simp only [rope_low, rope_mid, rope_high]
  congr 2
  rw [rope]
  by_cases h : d.val < 32
  · rw [dif_pos h]
    by_cases h1 : d.val < 16
    · rw [dif_pos h1, dif_pos h1]
    · rw [dif_neg h1, dif_neg h1, dif_pos h]
      have : (⟨16 + (d.val - 16), by omega⟩ : Fin 64) = d := Fin.ext (by simp; omega)
      simp only [this]
  · rw [dif_neg h, dif_neg (by omega), dif_neg h]
    exact congrArg (fun e => v30 (ix2 r e)) (Fin.ext (by simp; omega))

theorem tab_at (x : Vec Ideal S256x16 .f32) (r : Fin 3072) (d : Fin 16) : k1_pay4 x (ix2 r d) = x (ix2 (ln r) d) := by
  refine (concatenate_replicate_apply 0 12 (shapeCast S256x16 x shapeCasts_S256x16_S256x16)
    concatenates_S256x16_S256x16_S256x16_S256x16_S256x16_S256x16_S256x16_S256x16_S256x16_S256x16_S256x16_S256x16_S3072x16_d0
    rfl (ix2 r d) (ix2 (ln r) d) rfl fun b hb => ?_).trans ?_
  · match b with
    | 0 => exact absurd rfl hb
    | 1 => rfl
  · pointwise

theorem pay5_eq (x : Vec Ideal S256x16 .f32) : k1_pay5 x = k1_pay4 x := rfl

/-- The query of a row, of the loaded heads. -/
theorem pay15_at (cs sn : Vec Ideal S256x16 .f32) (f : Fin 12 → Vec Ideal S1x256x64 .f32) (qn : Vec Ideal S1x64 .f32)
    (r : Fin 3072) (d : Fin 64) :
    k1_pay15 (k1_pay4 cs) (k1_pay5 sn) (k1_pay6 (f 0)) (k1_pay7 (f 1)) (k1_pay8 (f 2)) (k1_pay9 (f 3)) (k1_pay10 (f 4))
        (k1_pay11 (f 5)) (k1_pay12 (f 6)) (k1_pay13 (f 7)) (k1_pay14 (f 8)) (f 9) (f 10) (f 11) qn (ix2 r d)
      = rms (rope (row cs (ln r)) (row sn (ln r)) (fun e => f (hd r) (ix3 0 (ln r) e))) (row qn 0) d := by
  have h : k1_pay15 (k1_pay4 cs) (k1_pay5 sn) (k1_pay6 (f 0)) (k1_pay7 (f 1)) (k1_pay8 (f 2)) (k1_pay9 (f 3))
      (k1_pay10 (f 4)) (k1_pay11 (f 5)) (k1_pay12 (f 6)) (k1_pay13 (f 7)) (k1_pay14 (f 8)) (f 9) (f 10) (f 11) qn
      = turned (k1_pay4 cs) (k1_pay4 sn) (stack fun n => shapeCast S256x64 (f n) shapeCasts_S1x256x64_S256x64) qn := rfl
  rw [h, turned_at]
  have h1 : row (k1_pay4 cs) r = row cs (ln r) := funext fun d => tab_at cs r d
  have h2 : row (k1_pay4 sn) r = row sn (ln r) := funext fun d => tab_at sn r d
  have h3 : row (stack fun n => shapeCast S256x64 (f n) shapeCasts_S1x256x64_S256x64) r
      = fun e => f (hd r) (ix3 0 (ln r) e) := funext fun e => by
    rw [row, stack_at]
    pointwise
  rw [h1, h2, h3]

/-- The token of a row in block `a`. -/
theorem pay16_at (a : ℕ) (ha : a < 8) (r : Fin 3072) (b : Fin 1) :
    k1_pay16 (BitVec.ofNat 32 a) (ix2 r b) = BitVec.ofNat 32 (256 * a + (ln r).val) := by
  pointwise [k1_pay16]
  have h : IntOp.andi (BitVec.ofNat 32 r.val) 255#32 = BitVec.ofNat 32 (ln r).val := by
    have h2 : (255 : ℕ) = 2 ^ 8 - 1 := rfl
    apply BitVec.eq_of_toNat_eq
    change ((BitVec.ofNat 32 r.val) &&& 255#32).toNat = _
    rw [BitVec.toNat_and, BitVec.toNat_ofNat, BitVec.toNat_ofNat, BitVec.toNat_ofNat, Nat.mod_eq_of_lt (by omega),
      Nat.mod_eq_of_lt (by norm_num), h2, Nat.and_two_pow_sub_one_eq_mod, Nat.mod_eq_of_lt (lt_of_lt_of_le (ln r).isLt (by norm_num))]
    rfl
  rw [h]
  have : Scalar.muli (BitVec.ofNat 32 a) 256#32 = BitVec.ofNat 32 (256 * a) := by
    rw [Nat.mul_comm]
    exact WordCmp.muli_ofNat ..
  rw [this]
  exact WordCmp.addi_ofNat ..

theorem word_low : ∀ t : Fin 2048, (IntOp.cmpi CmpIPredicate.slt
      (Scalar.select
        (IntOp.andi
          (IntOp.cmpi CmpIPredicate.ne
            (IntOp.subi (BitVec.setWidth 32 (IntOp.cmpi CmpIPredicate.sgt (IntOp.addi (BitVec.ofNat 32 t.val) 1#32) 0#32))
              (BitVec.setWidth 32 (IntOp.cmpi CmpIPredicate.slt (IntOp.addi (BitVec.ofNat 32 t.val) 1#32) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (IntOp.addi (BitVec.ofNat 32 t.val) 1#32) 32#32) 0#32))
        (IntOp.subi (IntOp.divsi ArithUnit.vector (IntOp.addi (BitVec.ofNat 32 t.val) 1#32) 32#32) 1#32)
        (IntOp.divsi ArithUnit.vector (IntOp.addi (BitVec.ofNat 32 t.val) 1#32) 32#32))
      16#32) = 1#1 ↔ (t.val + 1) / 32 < 16 := by decide +kernel

theorem low_iff (v61 : IVec S3072x1 32) (r : Fin 3072) (t : ℕ) (ht : t < 2048) (h : v61 (ix2 r 0) = BitVec.ofNat 32 t) :
    k1_pay27 (k1_pay24 v61) 32#32 (k1_pay25 v61) (k1_pay26 v61) (ix2 r 0) = 1#1 ↔ (t + 1) / 32 < 16 := by
  pointwise [k1_pay27, k1_pay24, k1_pay25, k1_pay26]
  rw [h]
  exact word_low ⟨t, ht⟩

theorem slt_iff (n k : ℕ) (hn : n < 2 ^ 31) (hk : k < 2 ^ 31) :
    IntOp.cmpi .slt (BitVec.ofNat 32 n) (BitVec.ofNat 32 k) = 1#1 ↔ n < k :=
  WordCmp.cmpi_slt_ofNat_eq_one_iff hn hk

/-- The sink of a row. -/
theorem sink_at (v56 : IVec S3072x1 32) (h56 : ∀ r, v56 (ix2 r 0) = BitVec.ofNat 32 r.val) (f : Fin 12 → Ideal .f32)
    (v66 : IVec S3072x1 1) (h66 : v66 = k1_pay17) (r : Fin 3072) :
    k1_pay20 v56 (k1_pay18 v56 (f 0) v66 (f 1) (f 2) (f 3) (f 4) (f 5)) (k1_pay19 v56) (f 6) (f 7) (f 8) (f 9) (f 10)
      (f 11) (ix2 r 0) = f (hd r) := by
  subst h66
  pointwise [k1_pay20, k1_pay18, k1_pay19, k1_pay17]
  rw [h56]
  have hr := r.isLt
  rw [select_eq _ _ _ _ (slt_iff r.val 2816 (by omega) (by norm_num)),
    select_eq _ _ _ _ (slt_iff r.val 2560 (by omega) (by norm_num)),
    select_eq _ _ _ _ (slt_iff r.val 2304 (by omega) (by norm_num)),
    select_eq _ _ _ _ (slt_iff r.val 2048 (by omega) (by norm_num)),
    select_eq _ _ _ _ (slt_iff r.val 1792 (by omega) (by norm_num)),
    select_eq _ _ _ _ (slt_iff r.val 1536 (by omega) (by norm_num)),
    select_eq _ _ _ _ (slt_iff r.val 1280 (by omega) (by norm_num)),
    select_eq _ _ _ _ (slt_iff r.val 1024 (by omega) (by norm_num)),
    select_eq _ _ _ _ (slt_iff r.val 768 (by omega) (by norm_num)),
    select_eq _ _ _ _ (slt_iff r.val 512 (by omega) (by norm_num)),
    select_eq _ _ _ _ (slt_iff r.val 256 (by omega) (by norm_num))]
  have key : ∀ n : Fin 12, r.val / 256 = n.val → f (hd r) = f n := fun n h => congrArg f (Fin.ext h)
  split_ifs
  all_goals first
    | exact (key 0 (by simp; omega)).symm
    | exact (key 1 (by simp; omega)).symm
    | exact (key 2 (by simp; omega)).symm
    | exact (key 3 (by simp; omega)).symm
    | exact (key 4 (by simp; omega)).symm
    | exact (key 5 (by simp; omega)).symm
    | exact (key 6 (by simp; omega)).symm
    | exact (key 7 (by simp; omega)).symm
    | exact (key 8 (by simp; omega)).symm
    | exact (key 9 (by simp; omega)).symm
    | exact (key 10 (by simp; omega)).symm
    | exact (key 11 (by simp; omega)).symm

end Cert.KernelIdeal.Val
-- ==== Proof.K0Body.lean ====
module

public import proofs.«01_k».proof.Proof.Gen.KernelIdeal.Frame
public import proofs.«01_k».proof.Proof.K1Row
public import Idealize.ShloMosaic.Lib.Pipeline.ValueKit

@[expose] public section

set_option maxRecDepth 16384

/-! The blocks that the projection call writes at a point of its grid. -/

noncomputable section

namespace Cert.KernelIdeal.Val

open Idealize.ShloMosaic Idealize.ShloMosaic.TcCoe Idealize.ShloMosaic.Tactic Cert.KernelIdeal Cert.KernelIdeal.Gen Nsa

theorem ld_whole {e : EltTy} {n k : ℕ} (x : (⟨2, ![n, k]⟩ : Shape).Idx → Elt Ideal e)
    (inb : ∀ a, (![0, 0] : Fin 2 → ℕ) a + (![n, k] : Fin 2 → ℕ) a ≤ (⟨2, ![n, k]⟩ : Shape).size a) :
    View.ld x (Rect.unit ![0, 0] ![n, k] inb) = x :=
  View.ld_unit_zero (funext fun a => by fin_cases a <;> rfl) inb x

theorem ld0_0 (x : Vec Ideal S256x768 .f32) : View.ld x r0_0 = x := ld_whole x _
theorem ld0_1 (x : Vec Ideal S768x384 .bf16) : View.ld x r0_1 = x := ld_whole x _
theorem ld0_2 (x : Vec Ideal S384x768 .bf16) : View.ld x r0_2 = x := ld_whole x _
theorem ld0_3 (x : Vec Ideal S768x64 .bf16) : View.ld x r0_3 = x := ld_whole x _
theorem ld0_4 (x : Vec Ideal S256x16 .f32) : View.ld x r0_4 = x := ld_whole x _
theorem ld0_5 (x : Vec Ideal S1x64 .f32) : View.ld x r0_5 = x := ld_whole x _
theorem ld0_19 (x : Vec Ideal S256x64 .bf16) : View.ld x r0_19 = x := ld_whole x _
theorem ld0_21 (x : Vec Ideal S8x256 .f32) : View.ld x r0_21 = x := ld_whole x _

/-- A product of a row with a matrix. -/
def rowDot {n m : ℕ} (x : Fin n → EReal) (w : Fin n → Fin m → EReal) (d : Fin m) : EReal := ∑ e, x e * w e d

variable (x0 : Vec Ideal S256x768 .f32) (x1 : Vec Ideal S768x384 .bf16) (x2 : Vec Ideal S384x768 .bf16) (x3 : Vec Ideal S768x64 .bf16) (x4 : Vec Ideal S768x64 .bf16) (x5 : Vec Ideal S1x64 .f32) (x6 : Vec Ideal S256x16 .f32) (x7 : Vec Ideal S256x16 .f32) (x8 : Vec Ideal S8x256 .f32) (x9 : Vec Ideal S256x64 .bf16)

theorem q0_at (r : Fin 256) (j : Fin 768) :
    k0_pay28 x0 x1 x2 x3 x4 x5 x6 x7 x8 x9 (ix2 r j) = rowDot (rowDot (row x0 r) (row x1)) (row x2) j := by
  unfold k0_pay28
  simp only [ld0_0, ld0_1, ld0_2, ld0_3, ld0_4, ld0_5, ld0_19, ld0_21]
  pointwise [k0_pay5, k0_pay4]
  rfl

theorem v0_at (r : Fin 256) (d : Fin 64) :
    k0_pay29 x0 x1 x2 x3 x4 x5 x6 x7 x8 x9 (ix2 r d) = rowDot (row x0 r) (row x4) d := by
  unfold k0_pay29
  simp only [ld0_0, ld0_1, ld0_2, ld0_3, ld0_4, ld0_5, ld0_19, ld0_21]
  pointwise [k0_pay6, k0_pay4]
  rfl

theorem pay8_at (v0 : Vec Ideal S256x768 .f32) (v10 : Vec Ideal S768x64 .bf16) (v16 v18 : Vec Ideal S256x16 .f32) (r : Fin 256) (d : Fin 64) :
    k0_pay8 v0 v10 v16 v18 (ix2 r d) = rope (row v16 r) (row v18 r) (rowDot (row v0 r) (row v10)) d := by
  unfold rope rowDot
  have h16 : ∀ h : 16 ≤ d.val, (⟨16 + (d.val - 16), by omega⟩ : Fin 64) = d := fun h => Fin.ext (by simp only; omega)
  have h32 : ∀ h : 32 ≤ d.val, (⟨32 + (d.val - 32), by omega⟩ : Fin 64) = d := fun h => Fin.ext (by simp only; omega)
  pointwise [k0_pay8, k0_pay4]
  by_cases h : d.val < 16
  · rw [dif_pos (by omega), dif_pos h, dif_pos h]
  · by_cases h' : d.val < 32
    · rw [dif_pos h', dif_neg h, dif_neg h, dif_pos h']
      simp only [h16 (by omega)]
    · rw [dif_neg h', dif_neg h, dif_neg h']
      simp only [h32 (by omega)]

theorem k0_at (r : Fin 256) (d : Fin 64) :
    k0_pay30 x0 x1 x2 x3 x4 x5 x6 x7 x8 x9 (ix2 r d)
      = rms (rope (row x6 r) (row x7 r) (rowDot (row x0 r) (row x3))) (row x5 0) d := by
  unfold k0_pay30
  simp only [ld0_0, ld0_1, ld0_2, ld0_3, ld0_4, ld0_5, ld0_19, ld0_21]
  have h8 := fun d => pay8_at x0 x3 x6 x7 r d
  pointwise [k0_pay11, k0_pay7, k0_pay9, k0_pay10]
  simp only [h8]
  rfl

/-- A head's columns cut out of the projected queries. -/
theorem pick_at (X : FVec Ideal S256x768 .f32) (o : ℕ) (sl : S256x768.Slices ![0, o] S256x64)
    (sc : S256x64.ShapeCasts S1x256x64) (x : S1x256x64.Idx) (h : o + (x 2).val < 768) :
    shapeCast S1x256x64 (extractStridedSlice S256x64 ![0, o] X sl) sc x = X (ix2 (x 1) ⟨o + (x 2).val, h⟩) := by
  idx_vars x
  pointwise

theorem ix2_congr0 {n m : ℕ} (a a' : Fin n) (b b' : Fin m) (ha : a.val = a'.val) (hb : b.val = b'.val) :
    ix2 a b = ix2 a' b' := by
  obtain rfl := Fin.ext ha
  obtain rfl := Fin.ext hb
  rfl

theorem out0_10_at (h : Fin 12) (y : Fin 256) (d : Fin 64) :
    out0_10 x0 x1 x2 x3 x4 x5 x6 x7 x8 x9 (ix3 h y d)
      = rowDot (rowDot (row x0 y) (row x1)) (row x2) ⟨64 * h.val + d.val, by omega⟩ := by
  unfold out0_10
  dsimp only [k0_pay18]
  rw [← q0_at x0 x1 x2 x3 x4 x5 x6 x7 x8 x9]
  generalize k0_pay28 x0 x1 x2 x3 x4 x5 x6 x7 x8 x9 = X
  canon_tiles x hx
  all_goals
    have e0 : h.val = _ := hx0
    have e1 : y.val = _ := hx1
    have e2 : d.val = _ := hx2
  all_goals
    refine (pick_at _ _ _ _ x (by omega)).trans ?_
    refine congrArg X ?_
    exact ix2_congr0 _ _ _ _ (show (x 1).val = y.val by omega) (show _ + (x 2).val = 64 * h.val + d.val by omega)

theorem out0_11_at (y : Fin 256) (e : Fin 128) :
    out0_11 x0 x1 x2 x3 x4 x5 x6 x7 x8 x9 (ix2 y e)
      = if h : e.val < 64 then rms (rope (row x6 y) (row x7 y) (rowDot (row x0 y) (row x3))) (row x5 0) ⟨e.val, h⟩
        else x9 (ix2 y ⟨e.val - 64, by omega⟩) := by
  have hk := k0_at x0 x1 x2 x3 x4 x5 x6 x7 x8 x9 y
  unfold out0_11
  generalize k0_pay30 x0 x1 x2 x3 x4 x5 x6 x7 x8 x9 = X at *
  simp only [ld0_0, ld0_1, ld0_2, ld0_3, ld0_4, ld0_5, ld0_19, ld0_21]
  canon_tiles x hx
  · obtain ⟨a, b, rfl⟩ : ∃ a b, x = ix2 a b := ⟨x 0, x 1, by ext a; fin_cases a <;> rfl⟩
    have e0 : y = a := Fin.ext hx0
    have e1 : e.val = 64 + b.val := hx1
    subst e0
    rw [dif_neg (by omega)]
    pointwise [k0_pay26]
    exact congrArg (fun b => x9 (ix2 y b)) (Fin.ext (by simp only; omega))
  · obtain ⟨a, b, rfl⟩ : ∃ a b, x = ix2 a b := ⟨x 0, x 1, by ext a; fin_cases a <;> rfl⟩
    have e0 : y = a := Fin.ext hx0
    have e1 : e.val = b.val := hx1
    subst e0
    rw [dif_pos (by omega)]
    pointwise [k0_pay25]
    refine (hk b).trans (congrArg _ (Fin.ext ?_))
    exact e1.symm

theorem out0_12_at (y : Fin 256) (d : Fin 64) :
    out0_12 x0 x1 x2 x3 x4 x5 x6 x7 x8 x9 (ix2 y d) = rowDot (row x0 y) (row x4) d := by
  unfold out0_12
  rw [← v0_at x0 x1 x2 x3 x4 x5 x6 x7 x8 x9]
  generalize k0_pay29 x0 x1 x2 x3 x4 x5 x6 x7 x8 x9 = X
  rw [View.canon_unit_zero (funext fun a => by fin_cases a <;> rfl)]
  rfl

theorem out0_13_at (b : Fin 8) (d : Fin 64) :
    out0_13 x0 x1 x2 x3 x4 x5 x6 x7 x8 x9 (ix2 b d)
      = ∑ y, x8 (ix2 b y) * rms (rope (row x6 y) (row x7 y) (rowDot (row x0 y) (row x3))) (row x5 0) d := by
  have hk := fun y => k0_at x0 x1 x2 x3 x4 x5 x6 x7 x8 x9 y d
  unfold out0_13
  generalize k0_pay30 x0 x1 x2 x3 x4 x5 x6 x7 x8 x9 = X at *
  rw [View.canon_unit_zero (funext fun a => by fin_cases a <;> rfl)]
  simp only [ld0_0, ld0_1, ld0_2, ld0_3, ld0_4, ld0_5, ld0_19, ld0_21]
  pointwise [k0_pay2, k0_pay1]
  simp only [hk]

theorem out0_14_at (b : Fin 8) (d : Fin 64) :
    out0_14 x0 x1 x2 x3 x4 x5 x6 x7 x8 x9 (ix2 b d)
      = ∑ y, x8 (ix2 b y) * rowDot (row x0 y) (row x4) d := by
  have hk := fun y => v0_at x0 x1 x2 x3 x4 x5 x6 x7 x8 x9 y d
  unfold out0_14
  generalize k0_pay29 x0 x1 x2 x3 x4 x5 x6 x7 x8 x9 = X at *
  rw [View.canon_unit_zero (funext fun a => by fin_cases a <;> rfl)]
  simp only [ld0_0, ld0_1, ld0_2, ld0_3, ld0_4, ld0_5, ld0_19, ld0_21]
  pointwise [k0_pay3, k0_pay1]
  simp only [hk]

end Cert.KernelIdeal.Val
-- ==== Proof.R0Blk.lean ====
module

public import proofs.«01_k».proof.Proof.K0Body
public import Idealize.ShloMosaic.Lib.Pipeline.ValueKit

@[expose] public section

set_option maxRecDepth 16384

/-! The blocks that the projection call reads. -/

noncomputable section

namespace Cert.KernelIdeal.Val

open Idealize.ShloMosaic Idealize.ShloMosaic.TcCoe Idealize.ShloMosaic.Tactic Cert.KernelIdeal Cert.KernelIdeal.Gen Nsa

/-- Row `y` of the chunk `a` of 256 tokens. -/
def chunk (a : Fin 8) (y : Fin 256) : Fin 2048 := ⟨256 * a.val + y.val, by omega⟩

variable (V : (c : Dev nD) → (b : Ref sig .tc) → Buf (Elt Ideal) ((c : Thread nD τ).loc b)) (c : Dev nD)

theorem place0 : ∀ t : Fin cfg0.N, (grid0.coords t 0).val = t.val := by decide +kernel

/-- The place of a point of the grid. -/
def pt0 (t : Fin cfg0.N) : Fin 8 := ⟨(grid0.coords t 0).val, (grid0.coords t 0).isLt⟩

theorem blk0_0 (t : Fin cfg0.N) (y : Fin 256) (e : Fin 768) : iblk0 V c 0 t (ix2 y e) = V c main_v0 (ix2 (chunk (pt0 t) y) e) := by
  have hi : ∀ t : Fin cfg0.N, (cfg0.win 0).index t = ![(grid0.coords t 0).val, 0] := by decide +kernel
  unfold iblk0
  blk_ext [hi t, chunk, pt0]

theorem blk0_6 (t : Fin cfg0.N) (y : Fin 256) (e : Fin 16) : iblk0 V c 6 t (ix2 y e) = V c main_v46 (ix2 (chunk (pt0 t) y) e) := by
  have hi : ∀ t : Fin cfg0.N, (cfg0.win 6).index t = ![(grid0.coords t 0).val, 0] := by decide +kernel
  unfold iblk0
  blk_ext [hi t, chunk, pt0]

theorem blk0_7 (t : Fin cfg0.N) (y : Fin 256) (e : Fin 16) : iblk0 V c 7 t (ix2 y e) = V c main_v47 (ix2 (chunk (pt0 t) y) e) := by
  have hi : ∀ t : Fin cfg0.N, (cfg0.win 7).index t = ![(grid0.coords t 0).val, 0] := by decide +kernel
  unfold iblk0
  blk_ext [hi t, chunk, pt0]

theorem blk0_9 (t : Fin cfg0.N) (y : Fin 256) (e : Fin 64) : iblk0 V c 9 t (ix2 y e) = V c main_v28 (ix2 (chunk (pt0 t) y) e) := by
  have hi : ∀ t : Fin cfg0.N, (cfg0.win 9).index t = ![(grid0.coords t 0).val, 0] := by decide +kernel
  unfold iblk0
  blk_ext [hi t, chunk, pt0]

theorem blk0_1 (t : Fin cfg0.N) : iblk0 V c 1 t = V c main_v2 := by
  have hi : ∀ t : Fin cfg0.N, (cfg0.win 1).index t = ![0, 0] := by decide +kernel
  funext y
  unfold iblk0
  blk_ext [hi t]

theorem blk0_2 (t : Fin cfg0.N) : iblk0 V c 2 t = V c main_v4 := by
  have hi : ∀ t : Fin cfg0.N, (cfg0.win 2).index t = ![0, 0] := by decide +kernel
  funext y
  unfold iblk0
  blk_ext [hi t]

theorem blk0_3 (t : Fin cfg0.N) : iblk0 V c 3 t = V c main_v6 := by
  have hi : ∀ t : Fin cfg0.N, (cfg0.win 3).index t = ![0, 0] := by decide +kernel
  funext y
  unfold iblk0
  blk_ext [hi t]

theorem blk0_4 (t : Fin cfg0.N) : iblk0 V c 4 t = V c main_v8 := by
  have hi : ∀ t : Fin cfg0.N, (cfg0.win 4).index t = ![0, 0] := by decide +kernel
  funext y
  unfold iblk0
  blk_ext [hi t]

theorem blk0_5 (t : Fin cfg0.N) : iblk0 V c 5 t = V c main_v9 := by
  have hi : ∀ t : Fin cfg0.N, (cfg0.win 5).index t = ![0, 0] := by decide +kernel
  funext y
  unfold iblk0
  blk_ext [hi t]

theorem blk0_8 (t : Fin cfg0.N) : iblk0 V c 8 t = V c main_v58 := by
  have hi : ∀ t : Fin cfg0.N, (cfg0.win 8).index t = ![0, 0] := by decide +kernel
  funext y
  unfold iblk0
  blk_ext [hi t]

end Cert.KernelIdeal.Val
-- ==== Proof.R0.lean ====
module

public import proofs.«01_k».proof.Proof.R0Blk
public import Idealize.ShloMosaic.Lib.Pipeline.ValueKit

@[expose] public section

set_option maxRecDepth 16384

/-! The arrays that the projection call leaves, of the arrays that it reads. -/

noncomputable section

namespace Cert.KernelIdeal.Val

open Idealize.ShloMosaic Idealize.ShloMosaic.TcCoe Idealize.ShloMosaic.Tactic Cert.KernelIdeal Cert.KernelIdeal.Gen Nsa

/-- The keys' row of a token. -/
def keyRow (x : S2048x768.Idx → EReal) (w : S768x64.Idx → EReal) (kn : S1x64.Idx → EReal) (cs sn : S2048x16.Idx → EReal) (t : Fin 2048) : Fin 64 → EReal :=
  rms (rope (row cs t) (row sn t) (rowDot (row x t) (row w))) (row kn 0)

/-- The augmented keys' row of a token: the key and then its block's indicator. -/
def keyExt (x : S2048x768.Idx → EReal) (w : S768x64.Idx → EReal) (kn : S1x64.Idx → EReal) (cs sn : S2048x16.Idx → EReal)
    (et : S2048x64.Idx → EReal) (t : Fin 2048) (e : Fin 128) : EReal :=
  if h : e.val < 64 then keyRow x w kn cs sn t ⟨e.val, h⟩ else et (ix2 t ⟨e.val - 64, by omega⟩)

/-- The values' row of a token. -/
def rowsDot {n k m : ℕ} (x : (⟨2, ![n, k]⟩ : Shape).Idx → EReal) (w : (⟨2, ![k, m]⟩ : Shape).Idx → EReal) (t : Fin n) : Fin m → EReal :=
  rowDot (row x t) (row w)

/-- The projected queries. -/
def qProj (x : S2048x768.Idx → EReal) (w1 : S768x384.Idx → EReal) (w2 : S384x768.Idx → EReal) (h : Fin 12) (t : Fin 2048) (d : Fin 64) : EReal :=
  rowDot (rowDot (row x t) (row w1)) (row w2) ⟨64 * h.val + d.val, by omega⟩

/-- The average of a chunk of 256 tokens with the weights of one of its eight blocks. -/
def chunkMean (avg : S8x256.Idx → EReal) (k : Fin 2048 → Fin 64 → EReal) (b : Fin 64) (d : Fin 64) : EReal :=
  ∑ y, avg (ix2 ⟨b.val % 8, by omega⟩ y) * k (chunk ⟨b.val / 8, by omega⟩ y) d

theorem chunkMean_chunk (avg : S8x256.Idx → EReal) (k : Fin 2048 → Fin 64 → EReal) (a : Fin 8) (b : Fin 8) (d : Fin 64) (h : 8 * a.val + b.val < 64) :
    chunkMean avg k ⟨8 * a.val + b.val, h⟩ d = ∑ y, avg (ix2 b y) * k (chunk a y) d := by
  have h1 : (⟨(8 * a.val + b.val) % 8, by omega⟩ : Fin 8) = b := Fin.ext (by simp only; omega)
  have h2 : (⟨(8 * a.val + b.val) / 8, by omega⟩ : Fin 8) = a := Fin.ext (by simp only; omega)
  simp only [chunkMean, h1, h2]

variable (V : (c : Dev nD) → (b : Ref sig .tc) → Buf (Elt Ideal) ((c : Thread nD τ).loc b)) (c : Dev nD)

theorem keyRow_blk (t : Fin cfg0.N) (y : Fin 256) :
    rms (rope (row (iblk0 V c 6 t) y) (row (iblk0 V c 7 t) y) (rowDot (row (iblk0 V c 0 t) y) (row (iblk0 V c 3 t)))) (row (iblk0 V c 5 t) 0)
      = keyRow (V c main_v0) (V c main_v6) (V c main_v9) (V c main_v46) (V c main_v47) (chunk (pt0 t) y) := by
  have e6 : row (iblk0 V c 6 t) y = row (V c main_v46) (chunk (pt0 t) y) := funext fun e => blk0_6 V c t y e
  have e7 : row (iblk0 V c 7 t) y = row (V c main_v47) (chunk (pt0 t) y) := funext fun e => blk0_7 V c t y e
  have e0 : row (iblk0 V c 0 t) y = row (V c main_v0) (chunk (pt0 t) y) := funext fun e => blk0_0 V c t y e
  have e3 : row (iblk0 V c 3 t) = row (V c main_v6) := congrArg row (blk0_3 V c t)
  have e5 : row (iblk0 V c 5 t) 0 = row (V c main_v9) 0 := congrArg (row · 0) (blk0_5 V c t)
  unfold keyRow
  exact congr (congrArg rms (congr (congr (congrArg rope e6) e7) (congr (congrArg rowDot e0) e3))) e5

theorem valRow_blk (t : Fin cfg0.N) (y : Fin 256) :
    rowDot (row (iblk0 V c 0 t) y) (row (iblk0 V c 4 t)) = rowDot (row (V c main_v0) (chunk (pt0 t) y)) (row (V c main_v8)) := by
  have e0 : row (iblk0 V c 0 t) y = row (V c main_v0) (chunk (pt0 t) y) := funext fun e => blk0_0 V c t y e
  exact congr (congrArg rowDot e0) (congrArg row (blk0_4 V c t))

set_option maxHeartbeats 1000000 in
theorem arr0_10 : (dat0 V c).arrAt 10 cfg0.N = fun j => qProj (V c main_v0) (V c main_v2) (V c main_v4) (j 0) (j 1) (j 2) := by
  have hi : ∀ t : Fin cfg0.N, (cfg0.win 10).index t = ![0, (grid0.coords t 0).val, 0] := by decide +kernel
  refine (dat0 V c).arrAt_eq_of_covers 10 _ (by decide +kernel) fun t hf y => ?_
  blk_simp [hi t]
  rw [after0_10]
  idx_vars y
  refine (out0_10_at ..).trans ?_
  have e0 : row (iblk0 V c 0 t) y1 = row (V c main_v0) (chunk (pt0 t) y1) := funext fun e => blk0_0 V c t y1 e
  have e1 : row (iblk0 V c 1 t) = row (V c main_v2) := congrArg row (blk0_1 V c t)
  have e2 : row (iblk0 V c 2 t) = row (V c main_v4) := congrArg row (blk0_2 V c t)
  refine (congrFun (congr (congrArg rowDot (congr (congrArg rowDot e0) e1)) e2) _).trans ?_
  show qProj (V c main_v0) (V c main_v2) (V c main_v4) y0 (chunk (pt0 t) y1) y2 = _
  refine congr (congr (congrArg (qProj (V c main_v0) (V c main_v2) (V c main_v4)) (Fin.ext ?_)) (Fin.ext ?_)) (Fin.ext ?_)
  · blk_simp [hi t]
  · blk_simp [hi t]
    show 256 * (grid0.coords t 0).val + y1.val = _
    omega
  · blk_simp [hi t]

set_option maxHeartbeats 1000000 in
theorem arr0_11 : (dat0 V c).arrAt 11 cfg0.N = fun j => keyExt (V c main_v0) (V c main_v6) (V c main_v9) (V c main_v46) (V c main_v47) (V c main_v28) (j 0) (j 1) := by
  have hi : ∀ t : Fin cfg0.N, (cfg0.win 11).index t = ![(grid0.coords t 0).val, 0] := by decide +kernel
  refine (dat0 V c).arrAt_eq_of_covers 11 _ (by decide +kernel) fun t hf y => ?_
  blk_simp [hi t]
  rw [after0_11]
  idx_vars y
  refine (out0_11_at ..).trans ?_
  rw [keyRow_blk]
  simp only [blk0_9]
  show keyExt (V c main_v0) (V c main_v6) (V c main_v9) (V c main_v46) (V c main_v47) (V c main_v28) (chunk (pt0 t) y0) y1 = _
  refine congr (congrArg (keyExt (V c main_v0) (V c main_v6) (V c main_v9) (V c main_v46) (V c main_v47) (V c main_v28)) (Fin.ext ?_)) (Fin.ext ?_)
  · blk_simp [hi t]
    show 256 * (grid0.coords t 0).val + y0.val = _
    omega
  · blk_simp [hi t]

set_option maxHeartbeats 1000000 in
theorem arr0_12 : (dat0 V c).arrAt 12 cfg0.N = fun j => rowsDot (V c main_v0) (V c main_v8) (j 0) (j 1) := by
  have hi : ∀ t : Fin cfg0.N, (cfg0.win 12).index t = ![(grid0.coords t 0).val, 0] := by decide +kernel
  refine (dat0 V c).arrAt_eq_of_covers 12 _ (by decide +kernel) fun t hf y => ?_
  blk_simp [hi t]
  rw [after0_12]
  idx_vars y
  refine (out0_12_at ..).trans ?_
  rw [valRow_blk]
  show rowsDot (V c main_v0) (V c main_v8) (chunk (pt0 t) y0) y1 = _
  refine congr (congrArg (rowsDot (V c main_v0) (V c main_v8)) (Fin.ext ?_)) (Fin.ext ?_)
  · blk_simp [hi t]
    show 256 * (grid0.coords t 0).val + y0.val = _
    omega
  · blk_simp [hi t]

set_option maxHeartbeats 1000000 in
theorem arr0_13 : (dat0 V c).arrAt 13 cfg0.N = fun j => chunkMean (V c main_v58) (keyRow (V c main_v0) (V c main_v6) (V c main_v9) (V c main_v46) (V c main_v47)) (j 0) (j 1) := by
  have hi : ∀ t : Fin cfg0.N, (cfg0.win 13).index t = ![(grid0.coords t 0).val, 0] := by decide +kernel
  refine (dat0 V c).arrAt_eq_of_covers 13 _ (by decide +kernel) fun t hf y => ?_
  blk_simp [hi t]
  rw [after0_13]
  idx_vars y
  refine (out0_13_at ..).trans ?_
  simp only [keyRow_blk]
  rw [blk0_8]
  refine (chunkMean_chunk (V c main_v58) (keyRow (V c main_v0) (V c main_v6) (V c main_v9) (V c main_v46) (V c main_v47)) (pt0 t) y0 y1 (by omega)).symm.trans ?_
  refine congr (congrArg (chunkMean (V c main_v58) (keyRow (V c main_v0) (V c main_v6) (V c main_v9) (V c main_v46) (V c main_v47))) (Fin.ext ?_)) (Fin.ext ?_)
  · blk_simp [hi t]
    show 8 * (grid0.coords t 0).val + y0.val = _
    omega
  · blk_simp [hi t]

set_option maxHeartbeats 1000000 in
theorem arr0_14 : (dat0 V c).arrAt 14 cfg0.N = fun j => chunkMean (V c main_v58) (rowsDot (V c main_v0) (V c main_v8)) (j 0) (j 1) := by
  have hi : ∀ t : Fin cfg0.N, (cfg0.win 14).index t = ![(grid0.coords t 0).val, 0] := by decide +kernel
  refine (dat0 V c).arrAt_eq_of_covers 14 _ (by decide +kernel) fun t hf y => ?_
  blk_simp [hi t]
  rw [after0_14]
  idx_vars y
  refine (out0_14_at ..).trans ?_
  simp only [valRow_blk]
  rw [blk0_8]
  refine (chunkMean_chunk (V c main_v58) (rowsDot (V c main_v0) (V c main_v8)) (pt0 t) y0 y1 (by omega)).symm.trans ?_
  refine congr (congrArg (chunkMean (V c main_v58) (rowsDot (V c main_v0) (V c main_v8))) (Fin.ext ?_)) (Fin.ext ?_)
  · blk_simp [hi t]
    show 8 * (grid0.coords t 0).val + y0.val = _
    omega
  · blk_simp [hi t]

end Cert.KernelIdeal.Val
-- ==== Proof.K1Pay.lean ====
module

public import proofs.«01_k».proof.Proof.K1Row

@[expose] public section

/-!
The attention kernel's three branches and their gated sum, row by row.
-/

noncomputable section

namespace Cert.KernelIdeal.Val

open Idealize.ShloMosaic Idealize.ShloMosaic.Tactic Cert.KernelIdeal Cert.KernelIdeal.Gen Nsa

theorem ofBits_zero : Ideal.ofBits .f32 0#32 = 0 := by simp [Ideal.ofBits, Ideal.ieee]

theorem ori_at (a b : IVec S3072x64 1) (i : S3072x64.Idx) : ori a b i = IntOp.ori (a i) (b i) := rfl
theorem broadcast_at (x : BitVec 1) (i : S3072x64.Idx) : broadcast S3072x64 x i = x := rfl

theorem sle_iff (n k : ℕ) (hn : n < 2 ^ 31) (hk : k < 2 ^ 31) :
    IntOp.cmpi .sle (BitVec.ofNat 32 n) (BitVec.ofNat 32 k) = 1#1 ↔ n ≤ k :=
  WordCmp.cmpi_sle_ofNat_eq_one_iff hn hk

theorem sge_iff (n k : ℕ) (hn : n < 2 ^ 31) (hk : k < 2 ^ 31) :
    IntOp.cmpi .sge (BitVec.ofNat 32 n) (BitVec.ofNat 32 k) = 1#1 ↔ k ≤ n :=
  WordCmp.cmpi_sge_ofNat_eq_one_iff hn hk

theorem sgt_iff (n k : ℕ) (hn : n < 2 ^ 31) (hk : k < 2 ^ 31) :
    IntOp.cmpi .sgt (BitVec.ofNat 32 n) (BitVec.ofNat 32 k) = 1#1 ↔ k < n :=
  WordCmp.cmpi_sgt_ofNat_eq_one_iff hn hk

theorem pay21_at (q : FVec Ideal S3072x64 .f32) (kc : Vec Ideal S64x64 .f32) (r : Fin 3072) (b : Fin 64) :
    k1_pay21 q kc (ix2 r b) = blockScore (row q r) (row kc) b := by
  pointwise [k1_pay21]
  rfl

theorem block_word (b : Fin 64) :
    IntOp.addi (IntOp.muli (BitVec.ofNat 32 b.val) 32#32) 31#32 = BitVec.ofNat 32 (32 * b.val + 31) := by
  rw [Nat.mul_comm]
  exact (congrArg (IntOp.addi · 31#32) (WordCmp.muli_ofNat b.val 32)).trans (WordCmp.addi_ofNat ..)

theorem pay22_at (q : FVec Ideal S3072x64 .f32) (v61 : IVec S3072x1 32) (kc : Vec Ideal S64x64 .f32) (r : Fin 3072)
    (t : ℕ) (ht : t < 2048) (h61 : v61 (ix2 r 0) = BitVec.ofNat 32 t) (b : Fin 64) :
    k1_pay22 q v61 kc (ix2 r b) = blockMask t (blockScore (row q r) (row kc)) b := by
  rw [← funext (pay21_at q kc r)]
  pointwise [k1_pay22]
  rw [h61, block_word, select_eq _ _ _ _ (sle_iff _ _ (by omega) (by omega)), named_mask]
  rfl

/-- The branch of the compressed blocks. -/
theorem pay23_at (q : FVec Ideal S3072x64 .f32) (v61 : IVec S3072x1 32) (sk : FVec Ideal S3072x1 .f32)
    (kc vc : Vec Ideal S64x64 .f32) (r : Fin 3072)
    (t : ℕ) (ht : t < 2048) (h61 : v61 (ix2 r 0) = BitVec.ofNat 32 t) (d : Fin 64) :
    k1_pay23 q v61 sk kc vc (ix2 r d) = if 31 ≤ t then
      sinkAttn (blockMask t (blockScore (row q r) (row kc))) (sk (ix2 r 0)) (fun b => vc (ix2 b d)) else 0 := by
  have hm := funext (pay22_at q v61 kc r t ht h61)
  rw [← hm]
  pointwise [k1_pay23]
  rw [h61]
  have hs := sge_iff t 31 (by omega) (by norm_num)
  by_cases h : 31 ≤ t
  · have h1 : IntOp.cmpi .sge (BitVec.ofNat 32 t) 31#32 = 1#1 := hs.mpr h
    rw [h1, if_pos h]
    rfl
  · rw [select_eq _ _ _ _ hs, if_neg h, if_neg h]

open Classical in
theorem penalty (b : BitVec 1) :
    (FloatOps.sitofp (F := Ideal) FTy.f32 (BitVec.setWidth 32 b) - 1) * Named.named κ "big" 1900671690#32
      = if b = 1#1 then (0 : EReal) else ⊥ := by
  have hb : b = 1#1 ∨ b = 0#1 := by revert b; decide
  rcases hb with rfl | rfl
  · rw [if_pos rfl, named_big]
    have h : (FloatOps.sitofp (F := Ideal) FTy.f32 (BitVec.setWidth 32 1#1) : EReal) = ((1 : ℝ) : EReal) := by
      change (((BitVec.setWidth 32 1#1).toInt : ℝ) : EReal) = _
      norm_num
    rw [h]
    change (((1 : ℝ) : EReal) - ((1 : ℝ) : EReal)) * ⊤ = 0
    rw [← EReal.coe_sub, sub_self, EReal.coe_zero, zero_mul]
  · rw [if_neg (by decide), named_big]
    have h : (FloatOps.sitofp (F := Ideal) FTy.f32 (BitVec.setWidth 32 0#1) : EReal) = ((0 : ℝ) : EReal) := by
      change (((BitVec.setWidth 32 0#1).toInt : ℝ) : EReal) = _
      norm_num
    rw [h]
    change (((0 : ℝ) : EReal) - ((1 : ℝ) : EReal)) * ⊤ = ⊥
    rw [← EReal.coe_sub]
    exact EReal.coe_mul_top_of_neg (by norm_num)

theorem pay65_raw (q : FVec Ideal S3072x64 .f32) (v193 : IVec S3072x64 32) (v221 : IVec S3072x1 1)
    (v385 : IVec S3072x64 1) (v387 : FVec Ideal S3072x64 .f32) (r : Fin 3072) (e : Fin 128) :
    k1_pay65 q v193 v221 v385 v387 (ix2 r e) =
      if h : e.val < 64 then q (ix2 r ⟨e.val, h⟩) * Ideal.ofBits .f32 1040187392#32
      else (FloatOps.sitofp (F := Ideal) FTy.f32 (BitVec.setWidth 32
        (IntOp.ori (IntOp.andi (v221 (ix2 r 0)) (IntOp.cmpi .slt (v193 (ix2 r ⟨e.val - 64, by omega⟩)) 16#32))
          (IntOp.andi (IntOp.xori (v221 (ix2 r 0)) 1#1)
            (IntOp.ori (v385 (ix2 r ⟨e.val - 64, by omega⟩)) (k1_pay28 v387 (ix2 r ⟨e.val - 64, by omega⟩)))))) - 1)
        * Named.named κ "big" 1900671690#32 := by
  pointwise [k1_pay65, k1_pay28]

theorem chain (P : ℕ → Prop) (z : Prop) (hz : ¬ z) :
    ((((((((((((((((z ∨ P 0) ∨ P 1) ∨ P 2) ∨ P 3) ∨ P 4) ∨ P 5) ∨ P 6) ∨ P 7) ∨ P 8) ∨ P 9) ∨ P 10) ∨ P 11)
      ∨ P 12) ∨ P 13) ∨ P 14) ∨ P 15) ↔ ∃ n < 16, P n := by
  constructor
  · rintro ((((((((((((((((h | h) | h) | h) | h) | h) | h) | h) | h) | h) | h) | h) | h) | h) | h) | h) | h)
    · exact absurd h hz
    exacts [⟨0, by norm_num, h⟩, ⟨1, by norm_num, h⟩, ⟨2, by norm_num, h⟩, ⟨3, by norm_num, h⟩, ⟨4, by norm_num, h⟩,
      ⟨5, by norm_num, h⟩, ⟨6, by norm_num, h⟩, ⟨7, by norm_num, h⟩, ⟨8, by norm_num, h⟩, ⟨9, by norm_num, h⟩,
      ⟨10, by norm_num, h⟩, ⟨11, by norm_num, h⟩, ⟨12, by norm_num, h⟩, ⟨13, by norm_num, h⟩, ⟨14, by norm_num, h⟩,
      ⟨15, by norm_num, h⟩]
  · rintro ⟨n, hn, h⟩
    interval_cases n <;> simp only [h, true_or, or_true]

theorem picks_iff (v : FVec Ideal S3072x64 .f32) (r : Fin 3072) (b : Fin 64) :
    IntOp.ori (b385 v (ix2 r b)) (k1_pay28 (s387 v) (ix2 r b)) = 1#1 ↔ ∃ n < 16, pick (drop^[n] (row v r)) b := by
  have key : IntOp.ori (b385 v (ix2 r b)) (k1_pay28 (s387 v) (ix2 r b)) = 1#1 ↔
      ((((((((((((((((0#1 = 1#1 ∨ pick (drop^[0] (row v r)) b) ∨ pick (drop^[1] (row v r)) b)
        ∨ pick (drop^[2] (row v r)) b) ∨ pick (drop^[3] (row v r)) b) ∨ pick (drop^[4] (row v r)) b)
        ∨ pick (drop^[5] (row v r)) b) ∨ pick (drop^[6] (row v r)) b) ∨ pick (drop^[7] (row v r)) b)
        ∨ pick (drop^[8] (row v r)) b) ∨ pick (drop^[9] (row v r)) b) ∨ pick (drop^[10] (row v r)) b)
        ∨ pick (drop^[11] (row v r)) b) ∨ pick (drop^[12] (row v r)) b) ∨ pick (drop^[13] (row v r)) b)
        ∨ pick (drop^[14] (row v r)) b) ∨ pick (drop^[15] (row v r)) b) := by
    rw [s387_eq, b385_eq, b330_eq, b286_eq, b242_eq]
    simp only [ori_at, broadcast_at, ori_iff, picked_at]
  exact key.trans (chain (fun n => pick (drop^[n] (row v r)) b) _ (by decide))

/-- The 16 rounds' selection with the query, as the augmented query. -/
theorem pay65_at (q : FVec Ideal S3072x64 .f32) (v193 : IVec S3072x64 32)
    (h193 : ∀ r b, v193 (ix2 r b) = BitVec.ofNat 32 b.val) (v221 : IVec S3072x1 1) (v : FVec Ideal S3072x64 .f32)
    (r : Fin 3072) (t : ℕ) (h221 : v221 (ix2 r 0) = 1#1 ↔ (t + 1) / 32 < 16) (e : Fin 128) :
    k1_pay65 q v193 v221 (b385 v) (s387 v) (ix2 r e) = augm (row q r) (sel t (row v r)) e := by
  rw [pay65_raw, augm]
  by_cases h : e.val < 64
  · rw [dif_pos h, dif_pos h]
  · rw [dif_neg h, dif_neg h, penalty]
    have hc : IntOp.ori (IntOp.andi (v221 (ix2 r 0)) (IntOp.cmpi .slt (v193 (ix2 r ⟨e.val - 64, by omega⟩)) 16#32))
          (IntOp.andi (IntOp.xori (v221 (ix2 r 0)) 1#1)
            (IntOp.ori (b385 v (ix2 r ⟨e.val - 64, by omega⟩)) (k1_pay28 (s387 v) (ix2 r ⟨e.val - 64, by omega⟩)))) = 1#1
        ↔ sel t (row v r) ⟨e.val - 64, by omega⟩ := by
      rw [ori_iff, andi_iff, andi_iff, xori_one_iff, h221, h193, picks_iff]
      exact or_congr (and_congr Iff.rfl (slt_iff (e.val - 64) 16 (by omega) (by norm_num))) Iff.rfl
    by_cases hs : sel t (row v r) ⟨e.val - 64, by omega⟩
    · rw [if_pos hs, if_pos (hc.mpr hs)]
    · rw [if_neg hs, if_neg fun hn => hs (hc.mp hn)]

theorem pay69_at (q : FVec Ideal S3072x64 .f32) (v193 : IVec S3072x64 32) (v221 : IVec S3072x1 1)
    (v385 : IVec S3072x64 1) (v387 : FVec Ideal S3072x64 .f32) (k : Vec Ideal S256x128 .bf16) (r : Fin 3072) (y : Fin 256) :
    k1_pay69 q v193 v221 v385 v387 k (ix2 r y) = ∑ e, row (k1_pay65 q v193 v221 v385 v387) r e * k (ix2 y e) := by
  pointwise [k1_pay69]

theorem pay81_at (q : FVec Ideal S3072x64 .f32) (v193 : IVec S3072x64 32) (v221 : IVec S3072x1 1)
    (v385 : IVec S3072x64 1) (v387 : FVec Ideal S3072x64 .f32) (k : Vec Ideal S256x128 .bf16) (r : Fin 3072) (y : Fin 256) :
    k1_pay81 q v193 v221 v385 v387 k (ix2 r y) = ∑ e, row (k1_pay65 q v193 v221 v385 v387) r e * k (ix2 y e) := by
  pointwise [k1_pay81]

/-- A row of the loop's carried values. -/
def rowRun (c : FVec Ideal S3072x1 .f32 × FVec Ideal S3072x1 .f32 × FVec Ideal S3072x64 .f32) (r : Fin 3072) : Run :=
  ⟨c.1 (ix2 r 0), c.2.1 (ix2 r 0), fun d => c.2.2 (ix2 r d)⟩

/-- A trip of the loop on a row. -/
theorem trip_row (q : FVec Ideal S3072x64 .f32) (v193 : IVec S3072x64 32) (v221 : IVec S3072x1 1)
    (v385 : IVec S3072x64 1) (v387 : FVec Ideal S3072x64 .f32) (k : Vec Ideal S256x128 .bf16) (v : Vec Ideal S256x64 .bf16)
    (c : FVec Ideal S3072x1 .f32 × FVec Ideal S3072x1 .f32 × FVec Ideal S3072x64 .f32) (r : Fin 3072) :
    rowRun (k1_pay70 q v193 v221 v385 v387 c.1 k, k1_pay73 q v193 v221 v385 v387 c.1 c.2.1 k,
        k1_pay74 q v193 v221 v385 v387 c.1 c.2.2 k v) r
      = (rowRun c r).step (fun y => ∑ e, row (k1_pay65 q v193 v221 v385 v387) r e * k (ix2 y e)) (row v) := by
  have h := funext (pay69_at q v193 v221 v385 v387 k r)
  rw [← h]
  rw [rowRun, Run.step, Run.mk.injEq]
  refine ⟨?_, ?_, funext fun d => ?_⟩
  · pointwise [k1_pay70]
    rfl
  · pointwise [k1_pay73, k1_pay72, k1_pay71, k1_pay70]
    rfl
  · pointwise [k1_pay74, k1_pay72, k1_pay71, k1_pay70]
    rfl

theorem place_word (a n : ℕ) : IntOp.addi (Scalar.muli (BitVec.ofNat 32 a) 256#32) (BitVec.ofNat 32 n)
    = BitVec.ofNat 32 (256 * a + n) := by
  rw [Nat.mul_comm]
  exact (congrArg (IntOp.addi · (BitVec.ofNat 32 n)) (WordCmp.muli_ofNat a 256)).trans (WordCmp.addi_ofNat ..)

/-- The last chunk of the selected branch and its division. -/
theorem pay82_at (a : ℕ) (ha : a < 8) (v61 : IVec S3072x1 32) (r : Fin 3072)
    (t : ℕ) (ht : t < 2048) (h61 : v61 (ix2 r 0) = BitVec.ofNat 32 t)
    (c : FVec Ideal S3072x1 .f32 × FVec Ideal S3072x1 .f32 × FVec Ideal S3072x64 .f32)
    (x : FVec Ideal S3072x256 .f32) (v : Vec Ideal S256x64 .bf16) (d : Fin 64) :
    k1_pay82 (BitVec.ofNat 32 a) v61 c.1 c.2.1 c.2.2 x 256#32 v (ix2 r d)
      = Ideal.div (((rowRun c r).step (fun y => if 256 * a + y.val ≤ t then x (ix2 r y) else ⊥) (row v)).acc d)
          ((rowRun c r).step (fun y => if 256 * a + y.val ≤ t then x (ix2 r y) else ⊥) (row v)).l := by
  have hx : ∀ y : Fin 256, Scalar.select (IntOp.cmpi .sle (IntOp.addi (Scalar.muli (BitVec.ofNat 32 a) 256#32)
      (BitVec.ofNat 32 y.val)) (v61 (ix2 r 0))) (x (ix2 r y)) (Named.named κ "mask" 4048155338#32)
      = if 256 * a + y.val ≤ t then x (ix2 r y) else (⊥ : EReal) := fun y => by
    rw [h61, place_word, select_eq _ _ _ _ (sle_iff _ _ (by omega) (by omega)), named_mask]
  pointwise [k1_pay82]
  simp only [hx]
  rfl

end Cert.KernelIdeal.Val
-- ==== Proof.K1Win.lean ====
module

public import proofs.«01_k».proof.Proof.K1Pay

@[expose] public section

/-!
The attention kernel's window branch and the gated sum, row by row.
-/

noncomputable section

namespace Cert.KernelIdeal.Val

open Idealize.ShloMosaic Idealize.ShloMosaic.Tactic Cert.KernelIdeal Cert.KernelIdeal.Gen Nsa

/-- The scores against a block of keys, scaled. -/
def keyScore (q : Fin 64 → EReal) (k : Fin 256 → Fin 64 → EReal) (y : Fin 256) : EReal :=
  (∑ e, q e * k y e) * Ideal.ofBits .f32 1040187392#32

theorem pay88_at (a : ℕ) (ha : a < 8) (q : FVec Ideal S3072x64 .f32) (v61 : IVec S3072x1 32) (k : Vec Ideal S256x64 .bf16)
    (r : Fin 3072) (t : ℕ) (ht : t < 2048) (h61 : v61 (ix2 r 0) = BitVec.ofNat 32 t) (y : Fin 256) :
    k1_pay88 (BitVec.ofNat 32 a) q v61 (k1_pay83 k) (ix2 r y)
      = if 256 * a + y.val ≤ t then keyScore (row q r) (row k) y else ⊥ := by
  pointwise [k1_pay88, k1_pay87, k1_pay83]
  rw [h61, place_word, select_eq _ _ _ _ (sle_iff _ _ (by omega) (by omega)), named_mask]
  rfl

theorem near_word (t p : ℕ) (h : p ≤ t) (ht : t < 2048) :
    IntOp.cmpi .slt (IntOp.subi (BitVec.ofNat 32 t) (BitVec.ofNat 32 p)) 256#32 = 1#1 ↔ t - p < 256 := by
  have h1 : IntOp.subi (BitVec.ofNat 32 t) (BitVec.ofNat 32 p) = BitVec.ofNat 32 (t - p) := by
    have h2 : BitVec.ofNat 32 t = BitVec.ofNat 32 (t - p) + BitVec.ofNat 32 p := by
      rw [← BitVec.ofNat_add, Nat.sub_add_cancel h]
    change BitVec.ofNat 32 t - BitVec.ofNat 32 p = _
    rw [h2, BitVec.add_sub_cancel]
  rw [h1]
  exact slt_iff _ _ (by omega) (by norm_num)

theorem pay89_at (a p : ℕ) (ha : a < 8) (q : FVec Ideal S3072x64 .f32) (v61 : IVec S3072x1 32)
    (k : Vec Ideal S256x64 .bf16)
    (r : Fin 3072) (t : ℕ) (ht : t < 2048) (h61 : v61 (ix2 r 0) = BitVec.ofNat 32 t) (y : Fin 256)
    (hp : 0 < a → 256 * p + y.val ≤ t) :
    k1_pay89 (BitVec.ofNat 32 a) q v61 (BitVec.ofNat 32 p) (k1_pay85 k) (ix2 r y)
      = if 0 < a ∧ t - (256 * p + y.val) < 256 then keyScore (row q r) (row k) y else ⊥ := by
  pointwise [k1_pay89, k1_pay87, k1_pay85]
  rw [h61, place_word, named_mask]
  have hs : ∀ b, Scalar.cmpi .sgt (BitVec.ofNat 32 a) 0#32 = b → (b = 1#1 ↔ 0 < a) := fun b hb => by
    rw [← hb]
    exact sgt_iff _ _ (by omega) (by norm_num)
  refine select_eq _ _ _ _ ?_
  rw [andi_iff, hs _ rfl, and_comm]
  exact and_congr_right fun h => near_word _ _ (hp h) ht

theorem pay94_raw (q : FVec Ideal S3072x64 .f32) (sk : FVec Ideal S3072x1 .f32) (v192 v460 : FVec Ideal S3072x64 .f32)
    (v1 v0 : Vec Ideal S256x64 .bf16) (m : FVec Ideal S3072x1 .f32) (x0 x1 : FVec Ideal S3072x256 .f32)
    (l0 : FVec Ideal S3072x1 .f32) (wg : Vec Ideal S64x8 .f32) (bg : Vec Ideal S1x8 .f32) (r : Fin 3072) (d : Fin 64) :
    k1_pay94 q sk v192 v460 (k1_pay84 v1) (k1_pay86 v0) m x0 x1 l0 wg bg (ix2 r d)
      = mix (gateLin (row q r) (row wg) (row bg 0) 0) (gateLin (row q r) (row wg) (row bg 0) 1)
        (gateLin (row q r) (row wg) (row bg 0) 2) (v192 (ix2 r d)) (v460 (ix2 r d))
        (Ideal.div (∑ j, x0 (ix2 r j) * v0 (ix2 j d) + ∑ j, x1 (ix2 r j) * v1 (ix2 j d))
          (l0 (ix2 r 0) + ∑ j, x1 (ix2 r j) + Ideal.exp (sk (ix2 r 0) - m (ix2 r 0)))) := by
  pointwise [k1_pay94, k1_pay84, k1_pay86]
  rfl

/-- The gated sum with the window branch in full. -/
theorem pay94_at (a1 a : BitVec 32) (q : FVec Ideal S3072x64 .f32) (v61 : IVec S3072x1 32) (sk : FVec Ideal S3072x1 .f32)
    (v192 v460 : FVec Ideal S3072x64 .f32) (k1 k0 : FVec Ideal S256x64 .bf16)
    (v1 v0 : Vec Ideal S256x64 .bf16) (wg : Vec Ideal S64x8 .f32) (bg : Vec Ideal S1x8 .f32) (r : Fin 3072) (d : Fin 64) :
    k1_pay94 q sk v192 v460 (k1_pay84 v1) (k1_pay86 v0) (k1_pay90 a q v61 sk a1 k1 k0) (k1_pay91 a q v61 sk a1 k1 k0)
        (k1_pay92 a q v61 sk a1 k1 k0) (k1_pay93 a q v61 sk a1 k1 k0) wg bg (ix2 r d)
      = mix (gateLin (row q r) (row wg) (row bg 0) 0) (gateLin (row q r) (row wg) (row bg 0) 1)
        (gateLin (row q r) (row wg) (row bg 0) 2) (v192 (ix2 r d)) (v460 (ix2 r d))
        (sink2 (row (k1_pay88 a q v61 k1) r) (row (k1_pay89 a q v61 a1 k0) r) (sk (ix2 r 0)) (fun j => v1 (ix2 j d))
          (fun j => v0 (ix2 j d))) := by
  rw [pay94_raw]
  refine congrArg (mix _ _ _ _ _) ?_
  have h90 : k1_pay90 a q v61 sk a1 k1 k0 (ix2 r 0)
      = max (max (fmax (row (k1_pay88 a q v61 k1) r)) (fmax (row (k1_pay89 a q v61 a1 k0) r))) (sk (ix2 r 0)) := by
    pointwise [k1_pay90]
    rfl
  have h91 : ∀ j, k1_pay91 a q v61 sk a1 k1 k0 (ix2 r j)
      = Ideal.exp (k1_pay89 a q v61 a1 k0 (ix2 r j) - k1_pay90 a q v61 sk a1 k1 k0 (ix2 r 0)) := fun j => by
    pointwise [k1_pay91]
  have h92 : ∀ j, k1_pay92 a q v61 sk a1 k1 k0 (ix2 r j)
      = Ideal.exp (k1_pay88 a q v61 k1 (ix2 r j) - k1_pay90 a q v61 sk a1 k1 k0 (ix2 r 0)) := fun j => by
    pointwise [k1_pay92]
  have h93 : k1_pay93 a q v61 sk a1 k1 k0 (ix2 r 0) = ∑ j, k1_pay91 a q v61 sk a1 k1 k0 (ix2 r j) := by
    pointwise [k1_pay93]
  rw [sink2, h93]
  simp only [h91, h92, h90]

end Cert.KernelIdeal.Val
-- ==== Proof.K1Body.lean ====
module

public import proofs.«01_k».proof.Proof.Gen.KernelIdeal.Frame
public import proofs.«01_k».proof.Proof.K1Win
public import Idealize.ShloMosaic.Lib.Pipeline.ValueKit.Tiles

@[expose] public section

set_option maxRecDepth 16384

/-!
What the attention kernel's body leaves in its output block, row by row of the twelve heads.
-/

noncomputable section

namespace Cert.KernelIdeal.Val

open Idealize.ShloMosaic Idealize.ShloMosaic.TcCoe Idealize.ShloMosaic.Tactic Cert.KernelIdeal Cert.KernelIdeal.Gen Nsa

/-- A row of the kernel's result, of the row's query and sink and of the keys and values. -/
def attnRow (a : ℕ) (ha : a < 8) (t : ℕ) (q : Fin 64 → EReal) (sk : EReal) (kc vc : Fin 64 → Fin 64 → EReal)
    (ke : Fin 2048 → Fin 128 → EReal) (v : Fin 2048 → Fin 64 → EReal) (wg : Fin 64 → Fin 8 → EReal) (bg : Fin 8 → EReal)
    (d : Fin 64) : EReal :=
  mix (gateLin q wg bg 0) (gateLin q wg bg 1) (gateLin q wg bg 2)
    (if 31 ≤ t then sinkAttn (blockMask t (blockScore q kc)) sk (fun b => vc b d) else 0)
    (Ideal.div
      (((Run.upto (augScore (augm q (sel t (blockMask t (blockScore q kc)))) ke) v a).step
        (fun y => if 256 * a + y.val ≤ t then augScore (augm q (sel t (blockMask t (blockScore q kc)))) ke (tok a ha y) else ⊥)
        (fun y => v (tok a ha y))).acc d)
      ((Run.upto (augScore (augm q (sel t (blockMask t (blockScore q kc)))) ke) v a).step
        (fun y => if 256 * a + y.val ≤ t then augScore (augm q (sel t (blockMask t (blockScore q kc)))) ke (tok a ha y) else ⊥)
        (fun y => v (tok a ha y))).l)
    (sink2
      (fun y => if 256 * a + y.val ≤ t then keyScore q (fun y e => ke (tok a ha y) ⟨e.val, by omega⟩) y else ⊥)
      (fun y => if 0 < a ∧ t - (256 * (a - 1) + y.val) < 256 then
        keyScore q (fun y e => ke (tok (a - 1) (by omega) y) ⟨e.val, by omega⟩) y else ⊥)
      sk (fun y => v (tok a ha y) d) (fun y => v (tok (a - 1) (by omega) y) d))

/-! ## The offsets -/

theorem off1_eq : ∀ i : grid1.Coords, k1_off1 i = ![0] := by decide +kernel
theorem off2_eq : ∀ (n : Fin 12) (i : grid1.Coords), k1_off2 i (BitVec.ofNat 32 n.val) = ![n.val] := by decide +kernel
theorem trips1 : ∀ i : grid1.Coords, (k1_t1_loop i).trips = (i 1).val := by decide +kernel
theorem trips2 : ∀ i : grid1.Coords, (k1_t2_loop i).trips = 0 := by decide +kernel
theorem off3_eq : ∀ (i : grid1.Coords) (k : Fin (k1_t1_loop i).trips), k1_off3 i k = ![256 * k.val, 0] := by decide +kernel
theorem off4_eq : ∀ (i : grid1.Coords) (k : Fin (k1_t1_loop i).trips), k1_off4 i k = ![256 * k.val, 0] := by decide +kernel
theorem off7_eq : ∀ i : grid1.Coords, k1_off7 i = ![256 * (i 1).val, 0] := by decide +kernel
theorem off8_eq : ∀ i : grid1.Coords, k1_off8 i = ![256 * (i 1).val, 0] := by decide +kernel
theorem off9_eq : ∀ i : grid1.Coords, k1_off9 i = ![256 * (i 1).val, 0] := by decide +kernel
theorem off10_eq : ∀ i : grid1.Coords, k1_off10 i = ![256 * ((i 1).val - 1), 0] := by decide +kernel
theorem off11_eq : ∀ i : grid1.Coords, k1_off11 i = ![256 * ((i 1).val - 1), 0] := by decide +kernel
theorem v462_eq : ∀ i : grid1.Coords, kernelRun1_A.sl.v462 i = BitVec.ofNat 32 ((i 1).val - 1) := by decide +kernel

/-- A load of 256 rows of a matrix. -/
theorem ld_rows {e : EltTy} {n k m : ℕ} (x : (⟨2, ![n, k]⟩ : Shape).Idx → Elt Ideal e) (off : Fin 2 → ℕ) (o : ℕ) (h : off = ![o, 0])
    (inb : ∀ a, off a + (![256, m] : Fin 2 → ℕ) a ≤ (⟨2, ![n, k]⟩ : Shape).size a) (y : Fin 256) (d : Fin m)
    (hy : o + y.val < n) (hd : d.val < k) :
    View.ld x (Rect.unit off ![256, m] inb) (ix2 y d) = x (ix2 ⟨o + y.val, hy⟩ ⟨d.val, hd⟩) := by
  subst h
  refine View.ld_unit_apply_of x _ _ inb _ _ fun a => ?_
  match a with
  | 0 => rfl
  | 1 => exact (Nat.zero_add _).symm

theorem inb_head : ∀ n : Fin 12, ∀ a, (![n.val, 0, 0] : Fin 3 → ℕ) a + (![1, 256, 64] : Fin 3 → ℕ) a ≤ S12x256x64.size a := by
  decide

/-- A load of one head's block. -/
theorem ld_head (x : Vec Ideal S12x256x64 .f32) (n : Fin 12) (y : Fin 256) (e : Fin 64) :
    View.ld x (Rect.unit ![n.val, 0, 0] ![1, 256, 64] (inb_head n)) (ix3 0 y e) = x (ix3 n y e) := by
  refine View.ld_unit_apply_of x _ _ (inb_head n) _ _ fun a => ?_
  match a with
  | 0 => rfl
  | 1 => exact (Nat.zero_add _).symm
  | 2 => exact (Nat.zero_add _).symm

/-- A load of one sink. -/
theorem ld_sink (x : Vec Ideal S12 .f32) (off : Fin 1 → ℕ) (n : Fin 12) (h : off = ![n.val])
    (inb : ∀ a, off a + (![1] : Fin 1 → ℕ) a ≤ S12.size a) (j : (Rect.unit off ![1] inb : Rect S12).shape.Idx) :
    View.ld x (Rect.unit off ![1] inb) j = x (ix1 n) := by
  subst h
  refine View.ld_unit_apply_of x _ _ inb _ _ fun a => ?_
  match a with
  | 0 =>
    have h1 := (j 0).isLt
    have h2 : (j 0).val = 0 := Nat.lt_one_iff.mp h1
    change n.val = n.val + (j 0).val
    rw [h2, Nat.add_zero]

theorem zero2 : (![0, 0] : Fin 2 → ℕ) = fun _ => 0 := by decide

/-- A load of a whole matrix. -/
theorem ld_all {e : EltTy} {n k : ℕ} (x : (⟨2, ![n, k]⟩ : Shape).Idx → Elt Ideal e)
    (inb : ∀ a, (![0, 0] : Fin 2 → ℕ) a + (![n, k] : Fin 2 → ℕ) a ≤ (⟨2, ![n, k]⟩ : Shape).size a) :
    View.ld x (Rect.unit ![0, 0] ![n, k] inb) = x := View.ld_unit_zero zero2 inb x

section Body

variable (c : Dev nD) (i : grid1.Coords) (arg2 : Memref sig .tc .vmem S12x256x64 .f32) (harg2 : arg2.IsWhole) (arg3 : Memref sig .tc .vmem S2048x128 .bf16) (harg3 : arg3.IsWhole) (arg4 : Memref sig .tc .vmem S2048x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x8 .f32) (harg7 : arg7.IsWhole) (arg8 : Memref sig .tc .vmem S1x8 .f32) (harg8 : arg8.IsWhole) (arg9 : Memref sig .tc .vmem S1x64 .f32) (harg9 : arg9.IsWhole) (arg10 : Memref sig .tc .vmem S256x16 .f32) (harg10 : arg10.IsWhole) (arg11 : Memref sig .tc .vmem S256x16 .f32) (harg11 : arg11.IsWhole) (arg12 : Memref sig .tc .smem S12 .f32) (harg12 : arg12.IsWhole) (arg13 : Memref sig .tc .vmem S12x256x64 .f32) (harg13 : arg13.IsWhole)
  (x0 : Vec Ideal S12x256x64 .f32) (x1 : Vec Ideal S2048x128 .bf16) (x2 : Vec Ideal S2048x64 .bf16) (x3 : Vec Ideal S64x64 .f32) (x4 : Vec Ideal S64x64 .f32) (x5 : Vec Ideal S64x8 .f32) (x6 : Vec Ideal S1x8 .f32) (x7 : Vec Ideal S1x64 .f32) (x8 : Vec Ideal S256x16 .f32) (x9 : Vec Ideal S256x16 .f32) (x10 : Vec Ideal S12 .f32)

theorem r12_at (r : Fin 3072) (d : Fin 64) :
    kernelRun1_A.sl.r_12 (F := Ideal) c arg2 harg2 arg9 harg9 arg10 harg10 arg11 harg11 x0 x7 x8 x9 (ix2 r d)
      = rms (rope (row x8 (ln r)) (row x9 (ln r)) (fun e => x0 (ix3 (hd r) (ln r) e))) (row x7 0) d := by
  have h : kernelRun1_A.sl.r_12 (F := Ideal) c arg2 harg2 arg9 harg9 arg10 harg10 arg11 harg11 x0 x7 x8 x9
      = k1_pay15 (k1_pay4 x8) (k1_pay5 x9)
        (k1_pay6 (View.ld x0 (Rect.unit ![((0 : Fin 12)).val, 0, 0] ![1, 256, 64] (inb_head 0)))) (k1_pay7 (View.ld x0 (Rect.unit ![((1 : Fin 12)).val, 0, 0] ![1, 256, 64] (inb_head 1)))) (k1_pay8 (View.ld x0 (Rect.unit ![((2 : Fin 12)).val, 0, 0] ![1, 256, 64] (inb_head 2)))) (k1_pay9 (View.ld x0 (Rect.unit ![((3 : Fin 12)).val, 0, 0] ![1, 256, 64] (inb_head 3)))) (k1_pay10 (View.ld x0 (Rect.unit ![((4 : Fin 12)).val, 0, 0] ![1, 256, 64] (inb_head 4)))) (k1_pay11 (View.ld x0 (Rect.unit ![((5 : Fin 12)).val, 0, 0] ![1, 256, 64] (inb_head 5)))) (k1_pay12 (View.ld x0 (Rect.unit ![((6 : Fin 12)).val, 0, 0] ![1, 256, 64] (inb_head 6)))) (k1_pay13 (View.ld x0 (Rect.unit ![((7 : Fin 12)).val, 0, 0] ![1, 256, 64] (inb_head 7)))) (k1_pay14 (View.ld x0 (Rect.unit ![((8 : Fin 12)).val, 0, 0] ![1, 256, 64] (inb_head 8))))
        (View.ld x0 (Rect.unit ![((9 : Fin 12)).val, 0, 0] ![1, 256, 64] (inb_head 9))) (View.ld x0 (Rect.unit ![((10 : Fin 12)).val, 0, 0] ![1, 256, 64] (inb_head 10))) (View.ld x0 (Rect.unit ![((11 : Fin 12)).val, 0, 0] ![1, 256, 64] (inb_head 11))) x7 := by
    unfold kernelRun1_A.sl.r_12 kernelRun1_A.sl.r kernelRun1_A.sl.r_1 kernelRun1_A.sl.r_2 kernelRun1_A.sl.r_3 kernelRun1_A.sl.r_4 kernelRun1_A.sl.r_5 kernelRun1_A.sl.r_6 kernelRun1_A.sl.r_7 kernelRun1_A.sl.r_8 kernelRun1_A.sl.r_9 kernelRun1_A.sl.r_10
    simp only [View.readAt_eq_ld, harg2.read_unread, harg9.read_unread, harg10.read_unread, harg11.read_unread, ld_all]
    rfl
  rw [h]
  refine (pay15_at x8 x9 (fun n => View.ld x0 (Rect.unit ![n.val, 0, 0] ![1, 256, 64] (inb_head n))) x7 r d).trans ?_
  have hh : (fun e => View.ld x0 (Rect.unit ![(hd r).val, 0, 0] ![1, 256, 64] (inb_head (hd r))) (ix3 0 (ln r) e))
      = fun e => x0 (ix3 (hd r) (ln r) e) := funext fun e => ld_head x0 (hd r) (ln r) e
  exact congrArg (fun f => rms (rope (row x8 (ln r)) (row x9 (ln r)) f) (row x7 0) d) hh

theorem block_lt (i : grid1.Coords) : (i 1).val < 8 := (i 1).isLt
theorem place_lt (i : grid1.Coords) (r : Fin 3072) : 256 * (i 1).val + (ln r).val < 2048 := by
  have := block_lt i
  have := (ln r).isLt
  omega

theorem r13_at (r : Fin 3072) (b : Fin 1) :
    kernelRun1_A.sl.r_13 i (ix2 r b) = BitVec.ofNat 32 (256 * (i 1).val + (ln r).val) :=
  pay16_at _ (i 1).isLt r b

theorem r26_at (r : Fin 3072) : kernelRun1_A.sl.r_26 (F := Ideal) c i arg12 harg12 x10 (ix2 r 0) = x10 (ix1 (hd r)) := by
  have h0 : kernelRun1_A.sl.r_11 (F := Ideal) c i arg12 harg12 x10 = x10 (ix1 0) := by
    unfold kernelRun1_A.sl.r_11
    simp only [View.readAt_eq_ld, harg12.read_unread]
    exact ld_sink x10 _ 0 (off1_eq i) _ _
  have h1 : kernelRun1_A.sl.r_14 (F := Ideal) c i arg12 harg12 x10 = x10 (ix1 1) := by
    unfold kernelRun1_A.sl.r_14
    simp only [View.readAt_eq_ld, harg12.read_unread]
    exact ld_sink x10 _ 1 (off2_eq 1 i) _ _
  have h2 : kernelRun1_A.sl.r_15 (F := Ideal) c i arg12 harg12 x10 = x10 (ix1 2) := by
    unfold kernelRun1_A.sl.r_15
    simp only [View.readAt_eq_ld, harg12.read_unread]
    exact ld_sink x10 _ 2 (off2_eq 2 i) _ _
  have h3 : kernelRun1_A.sl.r_16 (F := Ideal) c i arg12 harg12 x10 = x10 (ix1 3) := by
    unfold kernelRun1_A.sl.r_16
    simp only [View.readAt_eq_ld, harg12.read_unread]
    exact ld_sink x10 _ 3 (off2_eq 3 i) _ _
  have h4 : kernelRun1_A.sl.r_17 (F := Ideal) c i arg12 harg12 x10 = x10 (ix1 4) := by
    unfold kernelRun1_A.sl.r_17
    simp only [View.readAt_eq_ld, harg12.read_unread]
    exact ld_sink x10 _ 4 (off2_eq 4 i) _ _
  have h5 : kernelRun1_A.sl.r_18 (F := Ideal) c i arg12 harg12 x10 = x10 (ix1 5) := by
    unfold kernelRun1_A.sl.r_18
    simp only [View.readAt_eq_ld, harg12.read_unread]
    exact ld_sink x10 _ 5 (off2_eq 5 i) _ _
  have h6 : kernelRun1_A.sl.r_19 (F := Ideal) c i arg12 harg12 x10 = x10 (ix1 6) := by
    unfold kernelRun1_A.sl.r_19
    simp only [View.readAt_eq_ld, harg12.read_unread]
    exact ld_sink x10 _ 6 (off2_eq 6 i) _ _
  have h7 : kernelRun1_A.sl.r_21 (F := Ideal) c i arg12 harg12 x10 = x10 (ix1 7) := by
    unfold kernelRun1_A.sl.r_21
    simp only [View.readAt_eq_ld, harg12.read_unread]
    exact ld_sink x10 _ 7 (off2_eq 7 i) _ _
  have h8 : kernelRun1_A.sl.r_22 (F := Ideal) c i arg12 harg12 x10 = x10 (ix1 8) := by
    unfold kernelRun1_A.sl.r_22
    simp only [View.readAt_eq_ld, harg12.read_unread]
    exact ld_sink x10 _ 8 (off2_eq 8 i) _ _
  have h9 : kernelRun1_A.sl.r_23 (F := Ideal) c i arg12 harg12 x10 = x10 (ix1 9) := by
    unfold kernelRun1_A.sl.r_23
    simp only [View.readAt_eq_ld, harg12.read_unread]
    exact ld_sink x10 _ 9 (off2_eq 9 i) _ _
  have h10 : kernelRun1_A.sl.r_24 (F := Ideal) c i arg12 harg12 x10 = x10 (ix1 10) := by
    unfold kernelRun1_A.sl.r_24
    simp only [View.readAt_eq_ld, harg12.read_unread]
    exact ld_sink x10 _ 10 (off2_eq 10 i) _ _
  have h11 : kernelRun1_A.sl.r_25 (F := Ideal) c i arg12 harg12 x10 = x10 (ix1 11) := by
    unfold kernelRun1_A.sl.r_25
    simp only [View.readAt_eq_ld, harg12.read_unread]
    exact ld_sink x10 _ 11 (off2_eq 11 i) _ _
  unfold kernelRun1_A.sl.r_26 kernelRun1_A.sl.r_20
  rw [h0, h1, h2, h3, h4, h5, h6, h7, h8, h9, h10, h11]
  refine sink_at _ (fun r => ?_) (fun n => x10 (ix1 n)) _ rfl r
  pointwise [kernelRun1_A.sl.v56]

theorem r28_row (r : Fin 3072) :
    row (kernelRun1_A.sl.r_28 (F := Ideal) c i arg2 harg2 arg5 harg5 arg9 harg9 arg10 harg10 arg11 harg11 x0 x3 x7 x8 x9) r
      = blockMask (256 * (i 1).val + (ln r).val) (blockScore (row (kernelRun1_A.sl.r_12 (F := Ideal) c arg2 harg2 arg9 harg9 arg10 harg10 arg11 harg11 x0 x7 x8 x9) r) (row x3)) := by
  funext b
  have h : kernelRun1_A.sl.r_28 (F := Ideal) c i arg2 harg2 arg5 harg5 arg9 harg9 arg10 harg10 arg11 harg11 x0 x3 x7 x8 x9
      = k1_pay22 (kernelRun1_A.sl.r_12 (F := Ideal) c arg2 harg2 arg9 harg9 arg10 harg10 arg11 harg11 x0 x7 x8 x9) (kernelRun1_A.sl.r_13 i) x3 := by
    unfold kernelRun1_A.sl.r_28 kernelRun1_A.sl.r_27
    simp only [View.readAt_eq_ld, harg5.read_unread, ld_all]
  rw [row, h]
  exact pay22_at _ _ x3 r _ (place_lt i r) (r13_at i r 0) b

/-- The augmented query of a row. -/
theorem aug_row (r : Fin 3072) :
    row (k1_pay65 (kernelRun1_A.sl.r_12 (F := Ideal) c arg2 harg2 arg9 harg9 arg10 harg10 arg11 harg11 x0 x7 x8 x9) kernelRun1_A.sl.v193 (kernelRun1_A.sl.r_33 i)
        (kernelRun1_A.sl.r_44 c i arg2 harg2 arg5 harg5 arg9 harg9 arg10 harg10 arg11 harg11 x0 x3 x7 x8 x9) (kernelRun1_A.sl.r_45 c i arg2 harg2 arg5 harg5 arg9 harg9 arg10 harg10 arg11 harg11 x0 x3 x7 x8 x9)) r
      = augm (row (kernelRun1_A.sl.r_12 (F := Ideal) c arg2 harg2 arg9 harg9 arg10 harg10 arg11 harg11 x0 x7 x8 x9) r)
          (sel (256 * (i 1).val + (ln r).val) (row (kernelRun1_A.sl.r_28 (F := Ideal) c i arg2 harg2 arg5 harg5 arg9 harg9 arg10 harg10 arg11 harg11 x0 x3 x7 x8 x9) r)) := by
  funext e
  refine pay65_at _ _ (fun r b => ?_) _ (kernelRun1_A.sl.r_28 (F := Ideal) c i arg2 harg2 arg5 harg5 arg9 harg9 arg10 harg10 arg11 harg11 x0 x3 x7 x8 x9) r _ ?_ e
  · pointwise [kernelRun1_A.sl.v193]
  · exact low_iff _ r _ (place_lt i r) (r13_at i r 0)

/-- The loop's carried values on a row, after `n` trips. -/
theorem loop_row (r : Fin 3072) (n : ℕ) (hn : n ≤ (i 1).val) :
    rowRun (st_k1_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val)
        (kernelRun1_A.sl.r_12 c arg2 harg2 arg9 harg9 arg10 harg10 arg11 harg11 x0 x7 x8 x9) kernelRun1_A.sl.v193 (kernelRun1_A.sl.r_33 i)
        (kernelRun1_A.sl.r_44 c i arg2 harg2 arg5 harg5 arg9 harg9 arg10 harg10 arg11 harg11 x0 x3 x7 x8 x9) (kernelRun1_A.sl.r_45 c i arg2 harg2 arg5 harg5 arg9 harg9 arg10 harg10 arg11 harg11 x0 x3 x7 x8 x9) (harg3.unread x1) (harg4.unread x2)
        (k1_pay66, k1_pay67, k1_pay68) n) r
      = Run.upto (augScore (augm (row (kernelRun1_A.sl.r_12 (F := Ideal) c arg2 harg2 arg9 harg9 arg10 harg10 arg11 harg11 x0 x7 x8 x9) r)
          (sel (256 * (i 1).val + (ln r).val) (row (kernelRun1_A.sl.r_28 (F := Ideal) c i arg2 harg2 arg5 harg5 arg9 harg9 arg10 harg10 arg11 harg11 x0 x3 x7 x8 x9) r))) (row x1)) (row x2) n := by
  induction n with
  | zero =>
    rw [st_k1_t1_zero, Run.upto, rowRun, Run.mk.injEq]
    refine ⟨?_, ?_, funext fun d => ?_⟩
    · pointwise [k1_pay66]
      rfl
    · pointwise [k1_pay67]
    · pointwise [k1_pay68]
  | succ n ih =>
    have hk : n < (k1_t1_loop i).trips := by rw [trips1]; omega
    have h8 : n < 8 := by have := block_lt i; omega
    have hs := st_k1_t1_succ (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val)
        (kernelRun1_A.sl.r_12 c arg2 harg2 arg9 harg9 arg10 harg10 arg11 harg11 x0 x7 x8 x9) kernelRun1_A.sl.v193 (kernelRun1_A.sl.r_33 i)
        (kernelRun1_A.sl.r_44 c i arg2 harg2 arg5 harg5 arg9 harg9 arg10 harg10 arg11 harg11 x0 x3 x7 x8 x9) (kernelRun1_A.sl.r_45 c i arg2 harg2 arg5 harg5 arg9 harg9 arg10 harg10 arg11 harg11 x0 x3 x7 x8 x9) (harg3.unread x1) (harg4.unread x2)
        (k1_pay66, k1_pay67, k1_pay68) ⟨n, hk⟩
    rw [hs]
    unfold tripR_k1_t1 trip_k1_t1
    dsimp only
    simp only [View.readAt_eq_ld, harg3.read_unread, harg4.read_unread]
    rw [trip_row, ih (by omega), Run.upto, dif_pos h8, aug_row]
    congr 1
    · funext y
      refine Finset.sum_congr rfl fun e _ => congrArg (_ * ·) ?_
      exact ld_rows x1 _ (256 * n) (off3_eq i ⟨n, hk⟩) _ y e (by omega) e.isLt
    · funext y d
      exact ld_rows x2 _ (256 * n) (off4_eq i ⟨n, hk⟩) _ y d (by omega) d.isLt

/-- The three carried values after both loops, the second of which makes no trip. -/
theorem loops_eq : (kernelRun1_A.sl.r_46 (F := Ideal) c i arg2 harg2 arg3 harg3 arg4 harg4 arg5 harg5 arg6 harg6 arg7 harg7 arg8 harg8 arg9 harg9 arg10 harg10 arg11 harg11 arg12 harg12 arg13 harg13 x0 x1 x2 x3 x7 x8 x9, kernelRun1_A.sl.r_47 (F := Ideal) c i arg2 harg2 arg3 harg3 arg4 harg4 arg5 harg5 arg6 harg6 arg7 harg7 arg8 harg8 arg9 harg9 arg10 harg10 arg11 harg11 arg12 harg12 arg13 harg13 x0 x1 x2 x3 x7 x8 x9,
      kernelRun1_A.sl.r_48 (F := Ideal) c i arg2 harg2 arg3 harg3 arg4 harg4 arg5 harg5 arg6 harg6 arg7 harg7 arg8 harg8 arg9 harg9 arg10 harg10 arg11 harg11 arg12 harg12 arg13 harg13 x0 x1 x2 x3 x7 x8 x9) =
    (st_k1_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val)
        (kernelRun1_A.sl.r_12 c arg2 harg2 arg9 harg9 arg10 harg10 arg11 harg11 x0 x7 x8 x9) kernelRun1_A.sl.v193 (kernelRun1_A.sl.r_33 i)
        (kernelRun1_A.sl.r_44 c i arg2 harg2 arg5 harg5 arg9 harg9 arg10 harg10 arg11 harg11 x0 x3 x7 x8 x9) (kernelRun1_A.sl.r_45 c i arg2 harg2 arg5 harg5 arg9 harg9 arg10 harg10 arg11 harg11 x0 x3 x7 x8 x9) (harg3.unread x1) (harg4.unread x2)
        (k1_pay66, k1_pay67, k1_pay68) (i 1).val) := by
  unfold kernelRun1_A.sl.r_46 kernelRun1_A.sl.r_47 kernelRun1_A.sl.r_48
  have h1 : Scf.trips (k1_t1_loop i).lb (k1_t1_loop i).ub (k1_t1_loop i).st = (i 1).val := trips1 i
  have h2 : Scf.trips (k1_t2_loop i).lb (k1_t2_loop i).ub (k1_t2_loop i).st = 0 := trips2 i
  rw [h1, h2, st_k1_t2_zero]

/-- The selected branch of a row. -/
theorem r50_at (r : Fin 3072) (d : Fin 64) :
    kernelRun1_A.sl.r_50 (F := Ideal) c i arg2 harg2 arg3 harg3 arg4 harg4 arg5 harg5 arg6 harg6 arg7 harg7 arg8 harg8 arg9 harg9 arg10 harg10 arg11 harg11 arg12 harg12 arg13 harg13 x0 x1 x2 x3 x7 x8 x9 (ix2 r d) =
      Ideal.div
        (((Run.upto (augScore (augm (row (kernelRun1_A.sl.r_12 (F := Ideal) c arg2 harg2 arg9 harg9 arg10 harg10 arg11 harg11 x0 x7 x8 x9) r)
          (sel (256 * (i 1).val + (ln r).val) (blockMask (256 * (i 1).val + (ln r).val)
            (blockScore (row (kernelRun1_A.sl.r_12 (F := Ideal) c arg2 harg2 arg9 harg9 arg10 harg10 arg11 harg11 x0 x7 x8 x9) r) (row x3))))) (row x1)) (row x2) (i 1).val).step
          (fun y => if 256 * (i 1).val + y.val ≤ 256 * (i 1).val + (ln r).val then
            augScore (augm (row (kernelRun1_A.sl.r_12 (F := Ideal) c arg2 harg2 arg9 harg9 arg10 harg10 arg11 harg11 x0 x7 x8 x9) r)
          (sel (256 * (i 1).val + (ln r).val) (blockMask (256 * (i 1).val + (ln r).val)
            (blockScore (row (kernelRun1_A.sl.r_12 (F := Ideal) c arg2 harg2 arg9 harg9 arg10 harg10 arg11 harg11 x0 x7 x8 x9) r) (row x3))))) (row x1) (tok (i 1).val (block_lt i) y) else ⊥)
          (fun y => row x2 (tok (i 1).val (block_lt i) y))).acc d)
        ((Run.upto (augScore (augm (row (kernelRun1_A.sl.r_12 (F := Ideal) c arg2 harg2 arg9 harg9 arg10 harg10 arg11 harg11 x0 x7 x8 x9) r)
          (sel (256 * (i 1).val + (ln r).val) (blockMask (256 * (i 1).val + (ln r).val)
            (blockScore (row (kernelRun1_A.sl.r_12 (F := Ideal) c arg2 harg2 arg9 harg9 arg10 harg10 arg11 harg11 x0 x7 x8 x9) r) (row x3))))) (row x1)) (row x2) (i 1).val).step
          (fun y => if 256 * (i 1).val + y.val ≤ 256 * (i 1).val + (ln r).val then
            augScore (augm (row (kernelRun1_A.sl.r_12 (F := Ideal) c arg2 harg2 arg9 harg9 arg10 harg10 arg11 harg11 x0 x7 x8 x9) r)
          (sel (256 * (i 1).val + (ln r).val) (blockMask (256 * (i 1).val + (ln r).val)
            (blockScore (row (kernelRun1_A.sl.r_12 (F := Ideal) c arg2 harg2 arg9 harg9 arg10 harg10 arg11 harg11 x0 x7 x8 x9) r) (row x3))))) (row x1) (tok (i 1).val (block_lt i) y) else ⊥)
          (fun y => row x2 (tok (i 1).val (block_lt i) y))).l := by
  have hl := loop_row c i arg2 harg2 arg3 harg3 arg4 harg4 arg5 harg5 arg6 harg6 arg7 harg7 arg8 harg8 arg9 harg9 arg10 harg10 arg11 harg11 arg12 harg12 arg13 harg13 x0 x1 x2 x3 x7 x8 x9 r (i 1).val le_rfl
  rw [← loops_eq] at hl
  have ha := aug_row c i arg2 harg2 arg5 harg5 arg9 harg9 arg10 harg10 arg11 harg11 x0 x3 x7 x8 x9 r
  rw [r28_row] at hl ha
  unfold kernelRun1_A.sl.r_50
  simp only [View.readAt_eq_ld, harg4.read_unread]
  refine (pay82_at (i 1).val (block_lt i) (kernelRun1_A.sl.r_13 i) r _ (place_lt i r) (r13_at i r 0)
    (kernelRun1_A.sl.r_46 (F := Ideal) c i arg2 harg2 arg3 harg3 arg4 harg4 arg5 harg5 arg6 harg6 arg7 harg7 arg8 harg8 arg9 harg9 arg10 harg10 arg11 harg11 arg12 harg12 arg13 harg13 x0 x1 x2 x3 x7 x8 x9, kernelRun1_A.sl.r_47 (F := Ideal) c i arg2 harg2 arg3 harg3 arg4 harg4 arg5 harg5 arg6 harg6 arg7 harg7 arg8 harg8 arg9 harg9 arg10 harg10 arg11 harg11 arg12 harg12 arg13 harg13 x0 x1 x2 x3 x7 x8 x9,
      kernelRun1_A.sl.r_48 (F := Ideal) c i arg2 harg2 arg3 harg3 arg4 harg4 arg5 harg5 arg6 harg6 arg7 harg7 arg8 harg8 arg9 harg9 arg10 harg10 arg11 harg11 arg12 harg12 arg13 harg13 x0 x1 x2 x3 x7 x8 x9) _ _ d).trans ?_
  rw [hl]
  have hx : ∀ y, kernelRun1_A.sl.r_49 (F := Ideal) c i arg2 harg2 arg3 harg3 arg5 harg5 arg9 harg9 arg10 harg10 arg11 harg11 x0 x1 x3 x7 x8 x9 (ix2 r y)
      = augScore (augm (row (kernelRun1_A.sl.r_12 (F := Ideal) c arg2 harg2 arg9 harg9 arg10 harg10 arg11 harg11 x0 x7 x8 x9) r)
          (sel (256 * (i 1).val + (ln r).val) (blockMask (256 * (i 1).val + (ln r).val)
            (blockScore (row (kernelRun1_A.sl.r_12 (F := Ideal) c arg2 harg2 arg9 harg9 arg10 harg10 arg11 harg11 x0 x7 x8 x9) r) (row x3))))) (row x1) (tok (i 1).val (block_lt i) y) := fun y => by
    unfold kernelRun1_A.sl.r_49
    simp only [View.readAt_eq_ld, harg3.read_unread]
    rw [pay81_at, ha]
    refine Finset.sum_congr rfl fun e _ => congrArg (_ * ·) ?_
    exact ld_rows x1 _ (256 * (i 1).val) (off7_eq i) _ y e (by have := block_lt i; omega) e.isLt
  have hv : row (View.ld x2 (Rect.unit (k1_off8 i) S256x64.size (k1_off8_inb i))) = fun y => row x2 (tok (i 1).val (block_lt i) y) := by
    funext y d
    exact ld_rows x2 _ (256 * (i 1).val) (off8_eq i) _ y d (by have := block_lt i; omega) d.isLt
  simp only [hx]
  rw [hv]

/-- The gated sum of a row. -/
theorem r59_at (r : Fin 3072) (d : Fin 64) :
    kernelRun1_A.sl.r_59 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix2 r d) =
      attnRow (i 1).val (block_lt i) (256 * (i 1).val + (ln r).val)
        (rms (rope (row x8 (ln r)) (row x9 (ln r)) (fun e => x0 (ix3 (hd r) (ln r) e))) (row x7 0))
        (x10 (ix1 (hd r))) (row x3) (row x4) (row x1) (row x2) (row x5) (row x6 0) d := by
  have hq : row (kernelRun1_A.sl.r_12 (F := Ideal) c arg2 harg2 arg9 harg9 arg10 harg10 arg11 harg11 x0 x7 x8 x9) r
      = rms (rope (row x8 (ln r)) (row x9 (ln r)) (fun e => x0 (ix3 (hd r) (ln r) e))) (row x7 0) :=
    funext fun d => r12_at c arg2 harg2 arg9 harg9 arg10 harg10 arg11 harg11 x0 x7 x8 x9 r d
  unfold kernelRun1_A.sl.r_59 kernelRun1_A.sl.r_52 kernelRun1_A.sl.r_54 kernelRun1_A.sl.r_55 kernelRun1_A.sl.r_56
    kernelRun1_A.sl.r_57 kernelRun1_A.sl.r_58
  simp only [View.readAt_eq_ld, harg4.read_unread, harg7.read_unread, harg8.read_unread, ld_all]
  refine (pay94_at (kernelRun1_A.sl.v462 i) (BitVec.ofNat 32 (i 1).val) _ _ _ _ _ _ _ _ _ _ _ r d).trans ?_
  rw [r50_at, r26_at, hq]
  unfold kernelRun1_A.sl.r_29 kernelRun1_A.sl.r_27 kernelRun1_A.sl.r_51 kernelRun1_A.sl.r_53
  simp only [View.readAt_eq_ld, harg3.read_unread, harg5.read_unread, harg6.read_unread, ld_all]
  rw [pay23_at _ _ _ x3 x4 r _ (place_lt i r) (r13_at i r 0) d, r26_at, hq, v462_eq]
  refine congrArg (mix _ _ _ _ _) ?_
  have h88 : row (k1_pay88 (BitVec.ofNat 32 (i 1).val)
      (kernelRun1_A.sl.r_12 (F := Ideal) c arg2 harg2 arg9 harg9 arg10 harg10 arg11 harg11 x0 x7 x8 x9)
      (kernelRun1_A.sl.r_13 i) (k1_pay83 (View.ld x1 (Rect.unit (k1_off9 i) S256x64.size (k1_off9_inb i))))) r
      = fun y => if 256 * (i 1).val + y.val ≤ 256 * (i 1).val + (ln r).val then
          keyScore (rms (rope (row x8 (ln r)) (row x9 (ln r)) (fun e => x0 (ix3 (hd r) (ln r) e))) (row x7 0))
            (fun y e => row x1 (tok (i 1).val (block_lt i) y) ⟨e.val, by omega⟩) y else ⊥ := by
    funext y
    refine (pay88_at (i 1).val (block_lt i) _ _ _ r _ (place_lt i r) (r13_at i r 0) y).trans ?_
    rw [hq]
    refine if_congr Iff.rfl (congrArg (fun k => keyScore _ k y) ?_) rfl
    funext y e
    exact ld_rows x1 _ (256 * (i 1).val) (off9_eq i) _ y e (by have := block_lt i; omega) (by omega)
  have h89 : row (k1_pay89 (BitVec.ofNat 32 (i 1).val)
      (kernelRun1_A.sl.r_12 (F := Ideal) c arg2 harg2 arg9 harg9 arg10 harg10 arg11 harg11 x0 x7 x8 x9)
      (kernelRun1_A.sl.r_13 i) (BitVec.ofNat 32 ((i 1).val - 1))
      (k1_pay85 (View.ld x1 (Rect.unit (k1_off10 i) S256x64.size (k1_off10_inb i))))) r
      = fun y => if 0 < (i 1).val ∧ 256 * (i 1).val + (ln r).val - (256 * ((i 1).val - 1) + y.val) < 256 then
          keyScore (rms (rope (row x8 (ln r)) (row x9 (ln r)) (fun e => x0 (ix3 (hd r) (ln r) e))) (row x7 0))
            (fun y e => row x1 (tok ((i 1).val - 1) (by have := block_lt i; omega) y) ⟨e.val, by omega⟩) y else ⊥ := by
    funext y
    refine (pay89_at (i 1).val ((i 1).val - 1) (block_lt i) _ _ _ r _ (place_lt i r) (r13_at i r 0) y (by omega)).trans ?_
    rw [hq]
    refine if_congr Iff.rfl (congrArg (fun k => keyScore _ k y) ?_) rfl
    funext y e
    exact ld_rows x1 _ (256 * ((i 1).val - 1)) (off10_eq i) _ y e (by have := block_lt i; omega) (by omega)
  have hv1 : (fun j => View.ld x2 (Rect.unit (k1_off8 i) S256x64.size (k1_off8_inb i)) (ix2 j d))
      = fun y => row x2 (tok (i 1).val (block_lt i) y) d := by
    funext y
    exact ld_rows x2 _ (256 * (i 1).val) (off8_eq i) _ y d (by have := block_lt i; omega) d.isLt
  have hv0 : (fun j => View.ld x2 (Rect.unit (k1_off11 i) S256x64.size (k1_off11_inb i)) (ix2 j d))
      = fun y => row x2 (tok ((i 1).val - 1) (by have := block_lt i; omega) y) d := by
    funext y
    exact ld_rows x2 _ (256 * ((i 1).val - 1)) (off11_eq i) _ y d (by have := block_lt i; omega) d.isLt
  have e := congr (congr (congrFun (congr (congrArg sink2 h88) h89) (x10 (ix1 (hd r)))) hv1) hv0
  exact e

end Body

end Cert.KernelIdeal.Val
-- ==== Proof.K1Out.lean ====
module

public import proofs.«01_k».proof.Proof.K1Body

@[expose] public section

set_option maxRecDepth 16384

/-! The block that the attention call writes at a point of its grid: the rows of the gated sum, head by head. -/

noncomputable section

namespace Cert.KernelIdeal.Val

open Idealize.ShloMosaic Idealize.ShloMosaic.TcCoe Idealize.ShloMosaic.Tactic Cert.KernelIdeal Cert.KernelIdeal.Gen Nsa

/-- A head's rows cut out of the stack. -/
theorem cut_at (X : FVec Ideal S3072x64 .f32) (o : ℕ) (sl : S3072x64.Slices ![o, 0] S256x64)
    (sc : S256x64.ShapeCasts S1x256x64) (x : S1x256x64.Idx) (h : o + (x 1).val < 3072) :
    shapeCast S1x256x64 (extractStridedSlice S256x64 ![o, 0] X sl) sc x = X (ix2 ⟨o + (x 1).val, h⟩ (x 2)) := by
  idx_vars x
  pointwise

theorem ix2_congr {n m : ℕ} (a a' : Fin n) (b b' : Fin m) (ha : a.val = a'.val) (hb : b.val = b'.val) :
    ix2 a b = ix2 a' b' := by
  obtain rfl := Fin.ext ha
  obtain rfl := Fin.ext hb
  rfl

/-- The twelve heads' rows, each stored at its own head, read back. -/
theorem heads_at (X : FVec Ideal S3072x64 .f32) (h : Fin 12) (y : Fin 256) (d : Fin 64) :
    View.canon (Val := Elt Ideal) (s := S12x256x64) (e := .f32) [⟨Rect.unit ![11, 0, 0] S1x256x64.size inb_S12x256x64_S1x256x64_11_0_0, k1_pay3 X⟩,
      ⟨Rect.unit ![10, 0, 0] S1x256x64.size inb_S12x256x64_S1x256x64_10_0_0, k1_pay2 X⟩,
      ⟨Rect.unit ![9, 0, 0] S1x256x64.size inb_S12x256x64_S1x256x64_9_0_0, k1_pay1 (extractStridedSlice S256x64 ![2304, 0] X slices_S3072x64_o2304_0_S256x64)⟩,
      ⟨Rect.unit ![8, 0, 0] S1x256x64.size inb_S12x256x64_S1x256x64_8_0_0, k1_pay104 X⟩,
      ⟨Rect.unit ![7, 0, 0] S1x256x64.size inb_S12x256x64_S1x256x64_7_0_0, k1_pay103 X⟩,
      ⟨Rect.unit ![6, 0, 0] S1x256x64.size inb_S12x256x64_S1x256x64_6_0_0, k1_pay102 X⟩,
      ⟨Rect.unit ![5, 0, 0] S1x256x64.size inb_S12x256x64_S1x256x64_5_0_0, k1_pay101 X⟩,
      ⟨Rect.unit ![4, 0, 0] S1x256x64.size inb_S12x256x64_S1x256x64_4_0_0, k1_pay100 X⟩,
      ⟨Rect.unit ![3, 0, 0] S1x256x64.size inb_S12x256x64_S1x256x64_3_0_0, k1_pay99 X⟩,
      ⟨Rect.unit ![2, 0, 0] S1x256x64.size inb_S12x256x64_S1x256x64_2_0_0, k1_pay98 X⟩,
      ⟨Rect.unit ![1, 0, 0] S1x256x64.size inb_S12x256x64_S1x256x64_1_0_0, k1_pay97 (extractStridedSlice S256x64 ![256, 0] X slices_S3072x64_o256_0_S256x64)⟩,
      ⟨Rect.unit ![0, 0, 0] S1x256x64.size inb_S12x256x64_S1x256x64_0_0_0, shapeCast S1x256x64 (extractStridedSlice S256x64 ![0, 0] X slices_S3072x64_o0_0_S256x64) shapeCasts_S256x64_S1x256x64⟩] (ix3 h y d) = X (ix2 ⟨256 * h.val + y.val, by omega⟩ d) := by
  canon_tiles x hx
  all_goals
    have e0 : h.val = _ := hx0
    have e1 : y.val = _ := hx1
    have e2 : d.val = _ := hx2
    refine (cut_at _ _ _ _ x (by omega)).trans ?_
    refine congrArg X ?_
    exact ix2_congr _ _ _ _ (show _ + (x 1).val = 256 * h.val + y.val by omega) (show (x 2).val = d.val by omega)

variable (c : Dev nD) (i : grid1.Coords) (arg2 : Memref sig .tc .vmem S12x256x64 .f32) (harg2 : arg2.IsWhole) (arg3 : Memref sig .tc .vmem S2048x128 .bf16) (harg3 : arg3.IsWhole) (arg4 : Memref sig .tc .vmem S2048x64 .bf16) (harg4 : arg4.IsWhole) (arg5 : Memref sig .tc .vmem S64x64 .f32) (harg5 : arg5.IsWhole) (arg6 : Memref sig .tc .vmem S64x64 .f32) (harg6 : arg6.IsWhole) (arg7 : Memref sig .tc .vmem S64x8 .f32) (harg7 : arg7.IsWhole) (arg8 : Memref sig .tc .vmem S1x8 .f32) (harg8 : arg8.IsWhole) (arg9 : Memref sig .tc .vmem S1x64 .f32) (harg9 : arg9.IsWhole) (arg10 : Memref sig .tc .vmem S256x16 .f32) (harg10 : arg10.IsWhole) (arg11 : Memref sig .tc .vmem S256x16 .f32) (harg11 : arg11.IsWhole) (arg12 : Memref sig .tc .smem S12 .f32) (harg12 : arg12.IsWhole) (arg13 : Memref sig .tc .vmem S12x256x64 .f32) (harg13 : arg13.IsWhole) (x0 : Vec Ideal S12x256x64 .f32) (x1 : Vec Ideal S2048x128 .bf16) (x2 : Vec Ideal S2048x64 .bf16) (x3 : Vec Ideal S64x64 .f32) (x4 : Vec Ideal S64x64 .f32) (x5 : Vec Ideal S64x8 .f32) (x6 : Vec Ideal S1x8 .f32) (x7 : Vec Ideal S1x64 .f32) (x8 : Vec Ideal S256x16 .f32) (x9 : Vec Ideal S256x16 .f32) (x10 : Vec Ideal S12 .f32)

theorem out1_at (h : Fin 12) (y : Fin 256) (d : Fin 64) :
    out1_A_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix3 h y d)
      = kernelRun1_A.sl.r_59 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix2 ⟨256 * h.val + y.val, by omega⟩ d) := by
  refine (congrFun (View.read_writes_eq_canon _ _ _ (cover1_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)) _).trans ?_
  unfold kernelRun1_A
  exact heads_at (kernelRun1_A.sl.r_59 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10) h y d

end Cert.KernelIdeal.Val
-- ==== Proof.R1Blk.lean ====
module

public import proofs.«01_k».proof.Proof.K1Out
public import Idealize.ShloMosaic.Lib.Pipeline.ValueKit

@[expose] public section

set_option maxRecDepth 16384

/-! The array that the attention call leaves, of the arrays that it reads. -/

noncomputable section

namespace Cert.KernelIdeal.Val

open Idealize.ShloMosaic Idealize.ShloMosaic.TcCoe Idealize.ShloMosaic.Tactic Cert.KernelIdeal Cert.KernelIdeal.Gen Nsa

/-- The attention call's array at head `h`, token `t` and channel `d`. -/
def attnArr (q : S12x2048x64.Idx → EReal) (ke : S2048x128.Idx → EReal) (v : S2048x64.Idx → EReal) (kc vc : S64x64.Idx → EReal)
    (wg : S64x8.Idx → EReal) (bg : S1x8.Idx → EReal) (qn : S1x64.Idx → EReal) (cs sn : S2048x16.Idx → EReal)
    (sk : S12.Idx → EReal) (h : Fin 12) (t : Fin 2048) (d : Fin 64) : EReal :=
  attnRow (t.val / 256) (by omega) t.val
    (rms (rope (row cs t) (row sn t) (fun e => q (ix3 h t e))) (row qn 0))
    (sk (ix1 h)) (row kc) (row vc) (row ke) (row v) (row wg) (row bg 0) d

variable (V : (c : Dev nD) → (b : Ref sig .tc) → Buf (Elt Ideal) ((c : Thread nD τ).loc b)) (c : Dev nD)

theorem place1 : ∀ t : Fin cfg1.N, (grid1.coords t 1).val = t.val := by decide +kernel

theorem blk1_0 (t : Fin cfg1.N) (h : Fin 12) (y : Fin 256) (e : Fin 64) :
    iblk1 V c 0 t (ix3 h y e) = V c main_v59_0 (ix3 h (tok (grid1.coords t 1).val (block_lt _) y) e) := by
  have hi : ∀ t : Fin cfg1.N, (cfg1.win 0).index t = ![0, (grid1.coords t 1).val, 0] := by decide +kernel
  unfold iblk1
  blk_ext [hi t, tok]

theorem blk1_8 (t : Fin cfg1.N) (y : Fin 256) (e : Fin 16) :
    iblk1 V c 8 t (ix2 y e) = V c main_v46 (ix2 (tok (grid1.coords t 1).val (block_lt _) y) e) := by
  have hi : ∀ t : Fin cfg1.N, (cfg1.win 8).index t = ![(grid1.coords t 1).val, 0] := by decide +kernel
  unfold iblk1
  blk_ext [hi t, tok]

theorem blk1_9 (t : Fin cfg1.N) (y : Fin 256) (e : Fin 16) :
    iblk1 V c 9 t (ix2 y e) = V c main_v47 (ix2 (tok (grid1.coords t 1).val (block_lt _) y) e) := by
  have hi : ∀ t : Fin cfg1.N, (cfg1.win 9).index t = ![(grid1.coords t 1).val, 0] := by decide +kernel
  unfold iblk1
  blk_ext [hi t, tok]

theorem blk1_1 (t : Fin cfg1.N) : iblk1 V c 1 t = V c main_v59_1 := by
  have hi : ∀ t : Fin cfg1.N, (cfg1.win 1).index t = ![0, 0] := by decide +kernel
  funext y
  unfold iblk1
  blk_ext [hi t]

theorem blk1_2 (t : Fin cfg1.N) : iblk1 V c 2 t = V c main_v59_2 := by
  have hi : ∀ t : Fin cfg1.N, (cfg1.win 2).index t = ![0, 0] := by decide +kernel
  funext y
  unfold iblk1
  blk_ext [hi t]

theorem blk1_3 (t : Fin cfg1.N) : iblk1 V c 3 t = V c main_v59_3 := by
  have hi : ∀ t : Fin cfg1.N, (cfg1.win 3).index t = ![0, 0] := by decide +kernel
  funext y
  unfold iblk1
  blk_ext [hi t]

theorem blk1_4 (t : Fin cfg1.N) : iblk1 V c 4 t = V c main_v59_4 := by
  have hi : ∀ t : Fin cfg1.N, (cfg1.win 4).index t = ![0, 0] := by decide +kernel
  funext y
  unfold iblk1
  blk_ext [hi t]

theorem blk1_5 (t : Fin cfg1.N) : iblk1 V c 5 t = V c main_v14 := by
  have hi : ∀ t : Fin cfg1.N, (cfg1.win 5).index t = ![0, 0] := by decide +kernel
  funext y
  unfold iblk1
  blk_ext [hi t]

theorem blk1_6 (t : Fin cfg1.N) : iblk1 V c 6 t = V c main_v19 := by
  have hi : ∀ t : Fin cfg1.N, (cfg1.win 6).index t = ![0, 0] := by decide +kernel
  funext y
  unfold iblk1
  blk_ext [hi t]

theorem blk1_7 (t : Fin cfg1.N) : iblk1 V c 7 t = V c main_v10 := by
  have hi : ∀ t : Fin cfg1.N, (cfg1.win 7).index t = ![0, 0] := by decide +kernel
  funext y
  unfold iblk1
  blk_ext [hi t]

theorem blk1_10 (t : Fin cfg1.N) : iblk1 V c 10 t = V c main_arg9 := by
  have hi : ∀ t : Fin cfg1.N, (cfg1.win 10).index t = ![0] := by decide +kernel
  funext y
  unfold iblk1
  blk_ext [hi t]

theorem attnRow_eq {a a' : ℕ} {ha : a < 8} {ha' : a' < 8} {t t' : ℕ} {q q' : Fin 64 → EReal} {sk sk' : EReal}
    {kc kc' vc vc' : Fin 64 → Fin 64 → EReal} {ke ke' : Fin 2048 → Fin 128 → EReal} {v v' : Fin 2048 → Fin 64 → EReal}
    {wg wg' : Fin 64 → Fin 8 → EReal} {bg bg' : Fin 8 → EReal} (d : Fin 64)
    (e1 : a = a') (e2 : t = t') (e3 : q = q') (e4 : sk = sk') (e5 : kc = kc') (e6 : vc = vc') (e7 : ke = ke') (e8 : v = v')
    (e9 : wg = wg') (e10 : bg = bg') :
    attnRow a ha t q sk kc vc ke v wg bg d = attnRow a' ha' t' q' sk' kc' vc' ke' v' wg' bg' d := by
  subst e1 e2 e3 e4 e5 e6 e7 e8 e9 e10
  rfl

theorem outs1_at (t : Fin cfg1.N) (h : Fin 12) (y : Fin 256) (d : Fin 64) :
    outsAt1 V c t (ix3 h y d) = attnArr (V c main_v59_0) (V c main_v59_1) (V c main_v59_2)
      (V c main_v59_3) (V c main_v59_4) (V c main_v14) (V c main_v19) (V c main_v10) (V c main_v46) (V c main_v47)
      (V c main_arg9) h (tok (grid1.coords t 1).val (block_lt _) y) d := by
  unfold outsAt1
  refine (out1_at ..).trans ((r59_at ..).trans ?_)
  have hh : hd ⟨256 * h.val + y.val, by omega⟩ = h := Fin.ext (by simp only [hd]; omega)
  have hl : ln ⟨256 * h.val + y.val, by omega⟩ = y := Fin.ext (by simp only [ln]; omega)
  have hb := block_lt (grid1.coords t)
  rw [hh, hl]
  unfold attnArr
  refine attnRow_eq d ?_ rfl ?_ ?_ ?_ ?_ ?_ ?_ ?_ ?_
  · simp only [tok]; omega
  · have e8 : row (iblk1 V c 8 t) y = row (V c main_v46) (tok (grid1.coords t 1).val (block_lt _) y) :=
      funext fun e => blk1_8 V c t y e
    have e9 : row (iblk1 V c 9 t) y = row (V c main_v47) (tok (grid1.coords t 1).val (block_lt _) y) :=
      funext fun e => blk1_9 V c t y e
    have e0 : (fun e => iblk1 V c 0 t (ix3 h y e)) = fun e => V c main_v59_0 (ix3 h (tok (grid1.coords t 1).val (block_lt _) y) e) :=
      funext fun e => blk1_0 V c t h y e
    have e7 : row (iblk1 V c 7 t) 0 = row (V c main_v10) 0 := congrArg (row · 0) (blk1_7 V c t)
    exact congr (congrArg rms (congr (congr (congrArg rope e8) e9) e0)) e7
  · exact congrFun (blk1_10 V c t) _
  · exact congrArg row (blk1_3 V c t)
  · exact congrArg row (blk1_4 V c t)
  · exact congrArg row (blk1_1 V c t)
  · exact congrArg row (blk1_2 V c t)
  · exact congrArg row (blk1_5 V c t)
  · exact congrArg (row · 0) (blk1_6 V c t)

end Cert.KernelIdeal.Val
-- ==== Proof.R1.lean ====
module

public import proofs.«01_k».proof.Proof.R1Blk
public import Idealize.ShloMosaic.Lib.Pipeline.ValueKit

@[expose] public section

set_option maxRecDepth 16384

/-! The array that the attention call leaves, of the arrays that it reads. -/

noncomputable section

namespace Cert.KernelIdeal.Val

open Idealize.ShloMosaic Idealize.ShloMosaic.TcCoe Idealize.ShloMosaic.Tactic Cert.KernelIdeal Cert.KernelIdeal.Gen Nsa

variable (V : (c : Dev nD) → (b : Ref sig .tc) → Buf (Elt Ideal) ((c : Thread nD τ).loc b)) (c : Dev nD)

set_option maxHeartbeats 1000000 in
theorem arr1 : (dat1 V c).arrAt 11 cfg1.N = fun j => attnArr (V c main_v59_0) (V c main_v59_1) (V c main_v59_2)
    (V c main_v59_3) (V c main_v59_4) (V c main_v14) (V c main_v19) (V c main_v10) (V c main_v46) (V c main_v47)
    (V c main_arg9) (j 0) (j 1) (j 2) := by
  have hi : ∀ t : Fin cfg1.N, (cfg1.win 11).index t = ![0, (grid1.coords t 1).val, 0] := by decide +kernel
  refine (dat1 V c).arrAt_eq_of_covers 11 _ (by decide +kernel) fun t hf y => ?_
  blk_simp [hi t]
  rw [after1_11]
  idx_vars y
  refine (outs1_at ..).trans ?_
  refine congr (congr (congrArg (attnArr _ _ _ _ _ _ _ _ _ _ _) (Fin.ext ?_)) (Fin.ext ?_)) (Fin.ext ?_)
  · blk_simp [hi t]
  · blk_simp [hi t]
    show 256 * (grid1.coords t 1).val + y1.val = _
    omega
  · blk_simp [hi t]

end Cert.KernelIdeal.Val
-- ==== Proof.K2Body.lean ====
module

public import proofs.«01_k».proof.Proof.Gen.KernelIdeal.Frame
public import proofs.«01_k».proof.Proof.K1Sel
public import Idealize.ShloMosaic.Lib.Pipeline.ValueKit

@[expose] public section

set_option maxRecDepth 16384

/-! The output call: the block that it writes at a point of its grid, and the array that it leaves. -/

noncomputable section

namespace Cert.KernelIdeal.Val

open Idealize.ShloMosaic Idealize.ShloMosaic.TcCoe Idealize.ShloMosaic.Tactic Cert.KernelIdeal Cert.KernelIdeal.Gen Nsa

/-- Six heads' blocks side by side, through two matrices. -/
def halfOut (f : Fin 6 → FVec Ideal S256x64 .f32) (w : Vec Ideal S1x384x1024 .bf16) (u : Vec Ideal S1024x768 .bf16) : FVec Ideal S256x768 .f32 :=
  have v24 : FVec Ideal S256x384 .f32 := concatenate S256x384 1 (List.ofFn fun n : Fin 6 => (⟨S256x64, f n⟩ : (s : Shape) × (s.Idx → Ideal .f32))) concatenates_S256x64_S256x64_S256x64_S256x64_S256x64_S256x64_S256x384_d1
  have v25 : FVec Ideal S256x384 .bf16 := truncf .bf16 v24 bitsLt_bf16_f32
  have v29 : FVec Ideal S384x1024 .bf16 := shapeCast S384x1024 w shapeCasts_S1x384x1024_S384x1024
  have cst : FVec Ideal S256x1024 .f32 := constant S256x1024 .f32 0x00000000#32
  have v30 : FVec Ideal S256x1024 .f32 := matmul dot_S256x384_S384x1024_S256x1024_1_0_0_1_n_n none v25 v29 cst
  have v34 : FVec Ideal S256x1024 .bf16 := truncf .bf16 v30 bitsLt_bf16_f32
  have v36 : FVec Ideal S1024x768 .bf16 := shapeCast S1024x768 u shapeCasts_S1024x768_S1024x768
  have cst_33 : FVec Ideal S256x768 .f32 := constant S256x768 .f32 0x00000000#32
  have v37 : FVec Ideal S256x768 .f32 := matmul dot_S256x1024_S1024x768_S256x768_1_0_0_1_n_n none v34 v36 cst_33
  v37

theorem side_at (f : Fin 6 → FVec Ideal S256x64 .f32)
    (hc : Shape.Concatenates ((List.ofFn fun n : Fin 6 => (⟨S256x64, f n⟩ : (s : Shape) × (s.Idx → Ideal .f32))).map (·.1)) S256x384 1)
    (r : Fin 256) (c : Fin 384) :
    concatenate S256x384 1 (List.ofFn fun n : Fin 6 => (⟨S256x64, f n⟩ : (s : Shape) × (s.Idx → Ideal .f32))) hc (ix2 r c)
      = f ⟨c.val / 64, by omega⟩ (ix2 r ⟨c.val % 64, by omega⟩) := by
  refine concatenate_ofFn_apply (t := S256x384) (s₁ := S256x64) 1 f _ rfl 64 rfl (ix2 r c) ⟨c.val / 64, by omega⟩ rfl (ix2 r ⟨c.val % 64, by omega⟩) rfl fun b hb => ?_
  match b with
  | 0 => rfl
  | 1 => exact absurd rfl hb

theorem halfOut_at (f : Fin 6 → FVec Ideal S256x64 .f32) (w : Vec Ideal S1x384x1024 .bf16) (u : Vec Ideal S1024x768 .bf16) (r : Fin 256) (j : Fin 768) :
    halfOut f w u (ix2 r j)
      = ∑ m : Fin 1024, (∑ c : Fin 384, f ⟨c.val / 64, by omega⟩ (ix2 r ⟨c.val % 64, by omega⟩) * w (ix3 0 c m)) * u (ix2 m j) := by
  unfold halfOut
  generalize hX : concatenate S256x384 1 (List.ofFn fun n : Fin 6 => (⟨S256x64, f n⟩ : (s : Shape) × (s.Idx → Ideal .f32))) concatenates_S256x64_S256x64_S256x64_S256x64_S256x64_S256x64_S256x384_d1 = X
  have hx : ∀ c, X (ix2 r c) = f ⟨c.val / 64, by omega⟩ (ix2 r ⟨c.val % 64, by omega⟩) := fun c => by
    rw [← hX]
    exact side_at f _ r c
  simp only [← hx]
  pointwise

/-- One head's block of a load. -/
def headOf (x0 : Vec Ideal S12x256x64 .f32) (n : Fin 12) : FVec Ideal S256x64 .f32 := fun j => x0 (ix3 n (j 0) (j 1))

theorem flat_at (X : Vec Ideal S1x256x64 .f32) (r : Fin 256) (d : Fin 64) :
    shapeCast S256x64 X shapeCasts_S1x256x64_S256x64 (ix2 r d) = X (ix3 0 r d) := by
  pointwise

theorem head_ld1 (x0 : Vec Ideal S12x256x64 .f32) (n : Fin 12)
    (inb : ∀ a, (![n.val, 0, 0] : Fin 3 → ℕ) a + S1x256x64.size a ≤ S12x256x64.size a) (r : Fin 256) (d : Fin 64) :
    View.ld x0 (Rect.unit (s := S12x256x64) ![n.val, 0, 0] S1x256x64.size inb) (ix3 0 r d) = x0 (ix3 n r d) := by
  refine View.ld_unit_apply_of x0 _ _ inb _ _ fun a => ?_
  match a with
  | 0 => rfl
  | 1 => exact (Nat.zero_add _).symm
  | 2 => exact (Nat.zero_add _).symm

theorem head_ld (x0 : Vec Ideal S12x256x64 .f32) (n : Fin 12)
    (inb : ∀ a, (![n.val, 0, 0] : Fin 3 → ℕ) a + S1x256x64.size a ≤ S12x256x64.size a) :
    shapeCast S256x64 (View.ld x0 (Rect.unit (s := S12x256x64) ![n.val, 0, 0] S1x256x64.size inb)) shapeCasts_S1x256x64_S256x64 = headOf x0 n := by
  funext y
  obtain ⟨r, d, rfl⟩ : ∃ r d, y = ix2 r d := ⟨y 0, y 1, by ext a; fin_cases a <;> rfl⟩
  exact (flat_at _ r d).trans (head_ld1 x0 n inb r d)

theorem w_ld (x1 : Vec Ideal S2x384x1024 .bf16) (n : Fin 2) (inb) (c : Fin 384) (m : Fin 1024) :
    View.ld x1 (Rect.unit (s := S2x384x1024) ![n.val, 0, 0] S1x384x1024.size inb) (ix3 0 c m) = x1 (ix3 n c m) := by
  refine View.ld_unit_apply_of x1 _ _ inb _ _ fun a => ?_
  fin_cases a <;> simp

theorem u_ld (x2 : Vec Ideal S2048x768 .bf16) (o : ℕ) (inb) (m : Fin 1024) (j : Fin 768) (h : o + m.val < 2048) :
    View.ld x2 (Rect.unit (s := S2048x768) ![o, 0] S1024x768.size inb) (ix2 m j) = x2 (ix2 ⟨o + m.val, h⟩ j) := by
  refine View.ld_unit_apply_of x2 _ _ inb _ _ fun a => ?_
  fin_cases a <;> simp

/-- The output row of a token: each half of the heads through its matrix, then both through theirs. -/
def outRow (o : Fin 12 → Fin 64 → EReal) (w : Fin 2 → Fin 384 → Fin 1024 → EReal) (u : Fin 2048 → Fin 768 → EReal) (j : Fin 768) : EReal :=
  ∑ m : Fin 1024, (∑ c : Fin 384, o ⟨c.val / 64, by omega⟩ ⟨c.val % 64, by omega⟩ * w 0 c m) * u ⟨0 + m.val, by omega⟩ j
    + ∑ m : Fin 1024, (∑ c : Fin 384, o ⟨6 + c.val / 64, by omega⟩ ⟨c.val % 64, by omega⟩ * w 1 c m) * u ⟨1024 + m.val, by omega⟩ j

theorem out2_3_at (x0 : Vec Ideal S12x256x64 .f32) (x1 : Vec Ideal S2x384x1024 .bf16) (x2 : Vec Ideal S2048x768 .bf16) (r : Fin 256) (j : Fin 768) :
    out2_3 x0 x1 x2 (ix2 r j) = outRow (fun h d => x0 (ix3 h r d)) (fun g c m => x1 (ix3 g c m)) (row x2) j := by
  unfold out2_3
  rw [View.canon_unit_zero (funext fun a => by fin_cases a <;> rfl)]
  have h : ∀ (X : FVec Ideal S256x768 .f32), X = addf (halfOut (fun n => headOf x0 ⟨n.val, by omega⟩) (View.ld x1 r2_12) (View.ld x2 r2_14))
      (halfOut (fun n => headOf x0 ⟨6 + n.val, by omega⟩) (View.ld x1 r2_13) (View.ld x2 r2_15)) →
      X (ix2 r j) = outRow (fun h d => x0 (ix3 h r d)) (fun g c m => x1 (ix3 g c m)) (row x2) j := fun X hX => by
    rw [hX]
    show halfOut _ _ _ (ix2 r j) + halfOut _ _ _ (ix2 r j) = _
    rw [halfOut_at, halfOut_at]
    unfold outRow
    refine congr (congrArg _ ?_) ?_
    · refine Finset.sum_congr rfl fun m _ => congr (congrArg _ (Finset.sum_congr rfl fun c _ => congrArg _ ?_)) ?_
      · exact w_ld x1 0 _ c m
      · exact u_ld x2 0 _ m j _
    · refine Finset.sum_congr rfl fun m _ => congr (congrArg _ (Finset.sum_congr rfl fun c _ => congrArg _ ?_)) ?_
      · exact w_ld x1 1 _ c m
      · exact u_ld x2 1024 _ m j _
  refine h _ ?_
  unfold k2_pay1 k2_pay2 k2_pay3 k2_pay4 k2_pay5 k2_pay6 k2_pay7 k2_pay8 k2_pay9 k2_pay10 k2_pay11 k2_pay12
  dsimp only
  have hl := head_ld x0
  rw [show shapeCast S256x64 (View.ld x0 r2_0) shapeCasts_S1x256x64_S256x64 = _ from hl 0 _,
    show shapeCast S256x64 (View.ld x0 r2_1) shapeCasts_S1x256x64_S256x64 = _ from hl 1 _,
    show shapeCast S256x64 (View.ld x0 r2_2) shapeCasts_S1x256x64_S256x64 = _ from hl 2 _,
    show shapeCast S256x64 (View.ld x0 r2_3) shapeCasts_S1x256x64_S256x64 = _ from hl 3 _,
    show shapeCast S256x64 (View.ld x0 r2_4) shapeCasts_S1x256x64_S256x64 = _ from hl 4 _,
    show shapeCast S256x64 (View.ld x0 r2_5) shapeCasts_S1x256x64_S256x64 = _ from hl 5 _,
    show shapeCast S256x64 (View.ld x0 r2_6) shapeCasts_S1x256x64_S256x64 = _ from hl 6 _,
    show shapeCast S256x64 (View.ld x0 r2_7) shapeCasts_S1x256x64_S256x64 = _ from hl 7 _,
    show shapeCast S256x64 (View.ld x0 r2_8) shapeCasts_S1x256x64_S256x64 = _ from hl 8 _,
    show shapeCast S256x64 (View.ld x0 r2_9) shapeCasts_S1x256x64_S256x64 = _ from hl 9 _,
    show shapeCast S256x64 (View.ld x0 r2_10) shapeCasts_S1x256x64_S256x64 = _ from hl 10 _,
    show shapeCast S256x64 (View.ld x0 r2_11) shapeCasts_S1x256x64_S256x64 = _ from hl 11 _]
  rfl

end Cert.KernelIdeal.Val
-- ==== Proof.R2.lean ====
module

public import proofs.«01_k».proof.Proof.K2Body
public import Idealize.ShloMosaic.Lib.Pipeline.ValueKit

@[expose] public section

set_option maxRecDepth 16384

/-! The array that the output call leaves, of the arrays that it reads. -/

noncomputable section

namespace Cert.KernelIdeal.Val

open Idealize.ShloMosaic Idealize.ShloMosaic.TcCoe Idealize.ShloMosaic.Tactic Cert.KernelIdeal Cert.KernelIdeal.Gen Nsa

/-- The output call's array. -/
def outArr (o : S12x2048x64.Idx → EReal) (w : S2x384x1024.Idx → EReal) (u : S2048x768.Idx → EReal) (t : Fin 2048) : Fin 768 → EReal :=
  outRow (fun h d => o (ix3 h t d)) (fun g c m => w (ix3 g c m)) (row u)

/-- Row `y` of the chunk of 256 tokens at a point of the grid. -/
def chunk2 (t : Fin cfg2.N) (y : Fin 256) : Fin 2048 := ⟨256 * (grid2.coords t 0).val + y.val, by
  have h : (grid2.coords t 0).val < 8 := (grid2.coords t 0).isLt
  omega⟩

variable (V : (c : Dev nD) → (b : Ref sig .tc) → Buf (Elt Ideal) ((c : Thread nD τ).loc b)) (c : Dev nD)

theorem blk2_0 (t : Fin cfg2.N) (h : Fin 12) (y : Fin 256) (e : Fin 64) :
    iblk2 V c 0 t (ix3 h y e) = V c main_v60 (ix3 h (chunk2 t y) e) := by
  have hi : ∀ t : Fin cfg2.N, (cfg2.win 0).index t = ![0, (grid2.coords t 0).val, 0] := by decide +kernel
  unfold iblk2
  blk_ext [hi t, chunk2]

theorem blk2_1 (t : Fin cfg2.N) : iblk2 V c 1 t = V c main_v62 := by
  have hi : ∀ t : Fin cfg2.N, (cfg2.win 1).index t = ![0, 0, 0] := by decide +kernel
  funext y
  unfold iblk2
  blk_ext [hi t]

theorem blk2_2 (t : Fin cfg2.N) : iblk2 V c 2 t = V c main_v64 := by
  have hi : ∀ t : Fin cfg2.N, (cfg2.win 2).index t = ![0, 0] := by decide +kernel
  funext y
  unfold iblk2
  blk_ext [hi t]

set_option maxHeartbeats 1000000 in
theorem arr2 : (dat2 V c).arrAt 3 cfg2.N = fun j => outArr (V c main_v60) (V c main_v62) (V c main_v64) (j 0) (j 1) := by
  have hi : ∀ t : Fin cfg2.N, (cfg2.win 3).index t = ![(grid2.coords t 0).val, 0] := by decide +kernel
  refine (dat2 V c).arrAt_eq_of_covers 3 _ (by decide +kernel) fun t hf y => ?_
  blk_simp [hi t]
  rw [after2_3]
  idx_vars y
  refine (out2_3_at ..).trans ?_
  rw [blk2_1, blk2_2]
  simp only [blk2_0]
  show outArr (V c main_v60) (V c main_v62) (V c main_v64) (chunk2 t y0) y1 = _
  refine congr (congrArg (outArr (V c main_v60) (V c main_v62) (V c main_v64)) (Fin.ext ?_)) (Fin.ext ?_)
  · blk_simp [hi t]
    show 256 * (grid2.coords t 0).val + y0.val = _
    omega
  · blk_simp [hi t]

end Cert.KernelIdeal.Val
-- ==== Proof.MathSoft.lean ====
module

public import proofs.«01_k».proof.Proof.Row

@[expose] public section

/-!
Sums and maxima of extended reals as a softmax needs them: a factor that is a nonnegative real passes a sum, terms may be
taken chunk by chunk, and a running softmax is the softmax of what it has seen.
-/

noncomputable section

namespace Nsa

open Idealize.ShloMosaic

/-- A real number, as an extended real. -/
def IsReal (x : EReal) : Prop := ∃ r : ℝ, x = (r : EReal)

theorem IsReal.lt_top {x : EReal} (h : IsReal x) : x < ⊤ := by
  obtain ⟨r, rfl⟩ := h
  exact EReal.coe_lt_top r

theorem IsReal.bot_lt {x : EReal} (h : IsReal x) : ⊥ < x := by
  obtain ⟨r, rfl⟩ := h
  exact EReal.bot_lt_coe r

theorem isReal_of {x : EReal} (h : ⊥ < x) (h' : x < ⊤) : IsReal x :=
  ⟨x.toReal, (EReal.coe_toReal h'.ne h.ne').symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} {s : Finset ι} {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A factor that is a nonnegative real passes a sum. -/
theorem sum_mul_nonneg {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- Division by a positive number is multiplication by a nonnegative real. -/
theorem div_eq_mul (y : EReal) (hy : 0 < y) : ∃ r : ℝ, 0 ≤ r ∧ ∀ x, Ideal.div x y = x * (r : EReal) := by
  induction y with
  | bot => exact absurd hy (by simp)
  | top =>
    refine ⟨0, le_refl _, fun x => ?_⟩
    simp [Ideal.div]
  | coe a =>
    have ha : 0 < a := EReal.coe_pos.1 hy
    exact ⟨1 / a, by positivity, fun x => Ideal.div_coe ha.ne' x⟩

theorem div_sum {ι : Type} (s : Finset ι) (e v : ι → EReal) (y : EReal) (hy : 0 < y) :
    Ideal.div (∑ i ∈ s, e i * v i) y = ∑ i ∈ s, Ideal.div (e i) y * v i := by
  obtain ⟨r, hr, h⟩ := div_eq_mul y hy
  rw [h, sum_mul_nonneg _ _ r hr]
  refine Finset.sum_congr rfl fun i _ => ?_
  rw [h, mul_right_comm]

theorem exp_nonneg (x : EReal) : 0 ≤ Ideal.exp x := by
  induction x with
  | bot => simp
  | top => simp
  | coe r => rw [Ideal.exp_coe]; exact EReal.coe_nonneg.2 (Real.exp_pos r).le

theorem exp_pos {x : EReal} (h : ⊥ < x) : 0 < Ideal.exp x := by
  induction x with
  | bot => exact absurd h (lt_irrefl _)
  | top => simp
  | coe r => rw [Ideal.exp_coe]; exact EReal.coe_pos.2 (Real.exp_pos r)

theorem bot_lt_sub {x y : EReal} (hx : ⊥ < x) (hy : y < ⊤) : ⊥ < x - y := by
  rw [sub_eq_add_neg]
  refine bot_lt_iff_ne_bot.2 fun h => ?_
  rcases EReal.add_eq_bot_iff.1 h with h | h
  · exact hx.ne' h
  · exact hy.ne (by rwa [EReal.neg_eq_bot_iff] at h)

/-! ## Maxima -/

theorem fmax_ge {n : ℕ} (f : Fin n → EReal) (j : Fin n) : f j ≤ fmax f := by
  rw [fmax_eq_sup]
  exact Finset.le_sup (Finset.mem_univ j)

theorem fmax_bound {n : ℕ} {f : Fin n → EReal} {M : EReal} (h : ∀ j, f j ≤ M) : fmax f ≤ M := by
  rw [fmax_eq_sup]
  exact Finset.sup_le fun j _ => h j

theorem fmax_lt_top {n : ℕ} {f : Fin n → EReal} (h : ∀ j, f j < ⊤) : fmax f < ⊤ := by
  rw [fmax_eq_sup, Finset.sup_lt_iff (by simp)]
  exact fun j _ => h j

/-! ## The softmax with a sink -/

theorem sink_den_pos {n : ℕ} (x : Fin n → EReal) (sk : EReal) (hx : ∀ j, x j < ⊤) (hs : sk < ⊤) (hj : ∃ j, ⊥ < x j) :
    0 < ∑ j, Ideal.exp (x j - max (fmax x) sk) + Ideal.exp (sk - max (fmax x) sk) := by
  have hm : max (fmax x) sk < ⊤ := max_lt (fmax_lt_top hx) hs
  obtain ⟨j, hj⟩ := hj
  exact (exp_pos (bot_lt_sub hj hm)).trans_le ((Finset.single_le_sum (f := fun j => Ideal.exp (x j - max (fmax x) sk))
    (fun j _ => exp_nonneg _) (Finset.mem_univ j)).trans (le_add_of_nonneg_right (exp_nonneg _)))

/-- The division first or last. -/
theorem sinkAttn_eq {n : ℕ} (x : Fin n → EReal) (sk : EReal) (v : Fin n → EReal) (hx : ∀ j, x j < ⊤) (hs : sk < ⊤) (hj : ∃ j, ⊥ < x j) :
    sinkAttn x sk v = sinkAttn' x sk v :=
  div_sum _ _ _ _ (sink_den_pos x sk hx hs hj)

/-! ## Chunks -/

theorem tok_div (k : ℕ) (hk : k < 8) (y : Fin 256) : (tok k hk y).val / 256 = k := by
  have h := y.isLt
  show (256 * k + y.val) / 256 = k
  omega

theorem eq_tok (k : ℕ) (hk : k < 8) (j : Fin 2048) (h : j.val / 256 = k) : ∃ y, tok k hk y = j := by
  refine ⟨⟨j.val % 256, Nat.mod_lt _ (by omega)⟩, Fin.ext ?_⟩
  show 256 * k + j.val % 256 = j.val
  omega

theorem tok_inj (k : ℕ) (hk : k < 8) {y z : Fin 256} (h : tok k hk y = tok k hk z) : y = z := by
  have h' : 256 * k + y.val = 256 * k + z.val := congrArg Fin.val h
  exact Fin.ext (by omega)

/-- Terms that differ in one chunk, where the first are zero: their sums differ by the chunk's. -/
theorem sum_chunk (k : ℕ) (hk : k < 8) (g g' : Fin 2048 → EReal) (h : ∀ j, j.val / 256 ≠ k → g' j = g j) (h0 : ∀ y, g (tok k hk y) = 0) :
    ∑ j, g' j = ∑ j, g j + ∑ y, g' (tok k hk y) := by
  have e : ∀ j, g' j = g j + if j.val / 256 = k then g' j else 0 := fun j => by
    split
    · next hj =>
      obtain ⟨y, rfl⟩ := eq_tok k hk j hj
      rw [h0, zero_add]
    · next hj => rw [add_zero, h j hj]
  rw [Finset.sum_congr rfl fun j _ => e j, Finset.sum_add_distrib, ← Finset.sum_filter]
  refine congrArg (_ + ·) (Finset.sum_nbij' (fun j => (⟨j.val % 256, Nat.mod_lt _ (by omega)⟩ : Fin 256)) (fun y => tok k hk y) ?_ ?_ ?_ ?_ ?_)
  · exact fun _ _ => Finset.mem_univ _
  · exact fun y _ => Finset.mem_filter.2 ⟨Finset.mem_univ _, tok_div k hk y⟩
  · intro j hj
    have hj' : j.val / 256 = k := (Finset.mem_filter.1 hj).2
    exact Fin.ext (by show 256 * k + j.val % 256 = j.val; omega)
  · exact fun y _ => Fin.ext (by show (256 * k + y.val) % 256 = y.val; omega)
  · intro j hj
    have hj' : j.val / 256 = k := (Finset.mem_filter.1 hj).2
    exact congrArg g' (Fin.ext (by show j.val = 256 * k + j.val % 256; omega))

/-- Scores that differ in one chunk, where the first are minus infinity: the maximum. -/
theorem fmax_chunk (k : ℕ) (hk : k < 8) (z z' : Fin 2048 → EReal) (h : ∀ j, j.val / 256 ≠ k → z' j = z j) (h0 : ∀ y, z (tok k hk y) = ⊥) :
    fmax z' = max (fmax z) (fmax fun y => z' (tok k hk y)) := by
  refine le_antisymm (fmax_bound fun j => ?_) (max_le (fmax_bound fun j => ?_) (fmax_bound fun y => fmax_ge z' _))
  · by_cases hj : j.val / 256 = k
    · obtain ⟨y, rfl⟩ := eq_tok k hk j hj
      exact (fmax_ge (fun y => z' (tok k hk y)) y).trans (le_max_right _ _)
    · rw [h j hj]
      exact (fmax_ge z j).trans (le_max_left _ _)
  · by_cases hj : j.val / 256 = k
    · obtain ⟨y, rfl⟩ := eq_tok k hk j hj
      rw [h0]
      exact bot_le
    · rw [← h j hj]
      exact fmax_ge z' j

/-! ## The running softmax -/

/-- The softmax of scores, undivided. -/
def total (z : Fin 2048 → EReal) (v : Fin 2048 → Fin 64 → EReal) : Run where
  m := fmax z
  l := ∑ j, Ideal.exp (z j - fmax z)
  acc d := ∑ j, Ideal.exp (z j - fmax z) * v j d

theorem exp_shift {x m m' : EReal} (h : x ≤ m) (h' : m ≤ m') (ht : m' < ⊤) :
    Ideal.exp (x - m) * Ideal.exp (m - m') = Ideal.exp (x - m') := by
  induction x with
  | bot =>
    rw [EReal.bot_sub, EReal.bot_sub, Ideal.exp_bot, zero_mul]
  | top => exact absurd (h.trans_lt (h'.trans_lt ht)) (lt_irrefl _)
  | coe a =>
    obtain ⟨b, rfl⟩ := isReal_of ((EReal.bot_lt_coe a).trans_le h) (h'.trans_lt ht)
    obtain ⟨c, rfl⟩ := isReal_of ((EReal.bot_lt_coe b).trans_le h') ht
    rw [← EReal.coe_sub, ← EReal.coe_sub, ← EReal.coe_sub, Ideal.exp_coe, Ideal.exp_coe, Ideal.exp_coe, ← EReal.coe_mul, ← Real.exp_add]
    congr 2
    ring

/-- The factor of a running softmax is a nonnegative real. -/
theorem exp_factor {m m' : EReal} (h : m ≤ m') (ht : m' < ⊤) : ∃ r : ℝ, 0 ≤ r ∧ Ideal.exp (m - m') = (r : EReal) := by
  induction m with
  | bot => exact ⟨0, le_refl _, by rw [EReal.bot_sub, Ideal.exp_bot, EReal.coe_zero]⟩
  | top => exact absurd h (not_le.2 ht)
  | coe a =>
    obtain ⟨c, rfl⟩ := isReal_of ((EReal.bot_lt_coe a).trans_le h) ht
    exact ⟨Real.exp (a - c), (Real.exp_pos _).le, by rw [← EReal.coe_sub, Ideal.exp_coe]⟩

theorem exp_bot_sub (m : EReal) : Ideal.exp (⊥ - m) = 0 := by rw [EReal.bot_sub, Ideal.exp_bot]

theorem total_step (k : ℕ) (hk : k < 8) (z z' : Fin 2048 → EReal) (v : Fin 2048 → Fin 64 → EReal)
    (h : ∀ j, j.val / 256 ≠ k → z' j = z j) (h0 : ∀ y, z (tok k hk y) = ⊥) (ht : ∀ j, z' j < ⊤) :
    (total z v).step (fun y => z' (tok k hk y)) (fun y => v (tok k hk y)) = total z' v := by
  have hm := fmax_chunk k hk z z' h h0
  have hle : fmax z ≤ fmax z' := hm ▸ le_max_left _ _
  have hlt : fmax z' < ⊤ := fmax_lt_top ht
  obtain ⟨r, hr, he⟩ := exp_factor hle hlt
  unfold Run.step total
  simp only [← hm]
  refine congr (congr (congrArg Run.mk rfl) ?_) (funext fun d => ?_)
  · rw [he, sum_mul_nonneg _ _ r hr, ← he]
    refine Eq.symm ((sum_chunk k hk (fun j => Ideal.exp (z j - fmax z')) _ (fun j hj => by simp only [h j hj]) fun y => by
      simp only [h0, exp_bot_sub]).trans ?_)
    refine congrArg (· + _) (Finset.sum_congr rfl fun j _ => (exp_shift (fmax_ge z j) hle hlt).symm)
  · rw [he, sum_mul_nonneg _ _ r hr, ← he]
    refine Eq.symm ((sum_chunk k hk (fun j => Ideal.exp (z j - fmax z') * v j d) _ (fun j hj => by simp only [h j hj]) fun y => by
      simp only [h0, exp_bot_sub, zero_mul]).trans ?_)
    refine congrArg (· + _) (Finset.sum_congr rfl fun j _ => ?_)
    rw [mul_right_comm, exp_shift (fmax_ge z j) hle hlt]

/-- The scores of the first `k` chunks. -/
def cut (x : Fin 2048 → EReal) (k : ℕ) (j : Fin 2048) : EReal := if j.val / 256 < k then x j else ⊥

theorem cut_lt (x : Fin 2048 → EReal) (hx : ∀ j, x j < ⊤) (k : ℕ) (j : Fin 2048) : cut x k j < ⊤ := by
  unfold cut
  split
  · exact hx j
  · exact bot_lt_top

theorem upto_eq (x : Fin 2048 → EReal) (v : Fin 2048 → Fin 64 → EReal) (hx : ∀ j, x j < ⊤) (k : ℕ) (hk : k ≤ 8) :
    Run.upto x v k = total (cut x k) v := by
  induction k with
  | zero =>
    have e : cut x 0 = fun _ => ⊥ := funext fun j => if_neg (Nat.not_lt_zero _)
    have em : fmax (fun _ : Fin 2048 => (⊥ : EReal)) = ⊥ := le_bot_iff.1 (fmax_bound fun _ => le_refl _)
    rw [e]
    unfold Run.upto total
    simp only [em, exp_bot_sub, zero_mul, Finset.sum_const_zero]
  | succ k ih =>
    have hk' : k < 8 := hk
    rw [Run.upto, dif_pos hk', ih (by omega), ← total_step k hk' (cut x k) (cut x (k + 1)) v]
    · refine congrArg (fun f => Run.step _ f _) (funext fun y => ?_)
      unfold cut
      rw [tok_div, if_pos (by omega)]
    · intro j hj
      unfold cut
      by_cases h : j.val / 256 < k
      · rw [if_pos h, if_pos (by omega)]
      · rw [if_neg h, if_neg (by omega)]
    · intro y
      unfold cut
      rw [tok_div, if_neg (by omega)]
    · exact cut_lt x hx _

/-- Scores of the tokens up to `t`. -/
def upTo (t : ℕ) (x : Fin 2048 → EReal) (j : Fin 2048) : EReal := if j.val ≤ t then x j else ⊥

theorem upTo_lt (x : Fin 2048 → EReal) (hx : ∀ j, x j < ⊤) (t : ℕ) (j : Fin 2048) : upTo t x j < ⊤ := by
  unfold upTo
  split
  · exact hx j
  · exact bot_lt_top

/-- The running softmax, after the chunk of the token itself. -/
theorem last_step (x : Fin 2048 → EReal) (v : Fin 2048 → Fin 64 → EReal) (hx : ∀ j, x j < ⊤) (t a : ℕ) (ha : a < 8) (hat : t / 256 = a) :
    (Run.upto x v a).step (fun y => if 256 * a + y.val ≤ t then x (tok a ha y) else ⊥) (fun y => v (tok a ha y)) = total (upTo t x) v := by
  rw [upto_eq x v hx a ha.le, ← total_step a ha (cut x a) (upTo t x) v]
  · rfl
  · intro j hj
    unfold cut upTo
    by_cases h : j.val / 256 < a
    · rw [if_pos h, if_pos (by omega)]
    · rw [if_neg h, if_neg (by omega)]
  · intro y
    unfold cut
    rw [tok_div, if_neg (by omega)]
  · exact upTo_lt x hx t

/-- The softmax of scores without a sink, the division first. -/
def attn' {n : ℕ} (x : Fin n → EReal) (v : Fin n → EReal) : EReal :=
  ∑ j, Ideal.div (Ideal.exp (x j - fmax x)) (∑ j, Ideal.exp (x j - fmax x)) * v j

theorem total_div (z : Fin 2048 → EReal) (v : Fin 2048 → Fin 64 → EReal) (hz : ∀ j, z j < ⊤) (j₀ : Fin 2048) (h : ⊥ < z j₀) (d : Fin 64) :
    Ideal.div ((total z v).acc d) (total z v).l = attn' z fun j => v j d := by
  refine div_sum Finset.univ (fun j => Ideal.exp (z j - fmax z)) (fun j => v j d) _ (lt_of_lt_of_le (exp_pos (bot_lt_sub h (fmax_lt_top hz))) ?_)
  exact Finset.single_le_sum (f := fun j => Ideal.exp (z j - fmax z)) (fun j _ => exp_nonneg _) (Finset.mem_univ j₀)

/-- The scores inside the window. -/
def windowed (t : ℕ) (s : Fin 2048 → EReal) (j : Fin 2048) : EReal := if j.val ≤ t ∧ t - j.val < 256 then s j else ⊥

/-- The three branches, weighted by gates of which each is divided. -/
def mix' (g0 g1 g2 a b c : EReal) : EReal :=
  Ideal.div (Ideal.logistic g0) (max (Ideal.logistic g0 + Ideal.logistic g1 + Ideal.logistic g2) (Ideal.ofBits .f32 897988541#32)) * a
    + Ideal.div (Ideal.logistic g1) (max (Ideal.logistic g0 + Ideal.logistic g1 + Ideal.logistic g2) (Ideal.ofBits .f32 897988541#32)) * b
    + Ideal.div (Ideal.logistic g2) (max (Ideal.logistic g0 + Ideal.logistic g1 + Ideal.logistic g2) (Ideal.ofBits .f32 897988541#32)) * c

end Nsa
-- ==== Proof.MathRow.lean ====
module

public import proofs.«01_k».proof.Proof.MathSoft
public import proofs.«01_k».proof.Proof.MathSel

@[expose] public section

/-!
The identities between the two ways of computing a row: gates divided first or last, a window of two chunks, a query with
penalties appended, a running softmax over the selected blocks, block means by an averaging matrix.
-/

noncomputable section

namespace Nsa

open Idealize.ShloMosaic

/-! ## Gates -/

theorem mix_eq (g0 g1 g2 a b c : EReal) : mix g0 g1 g2 a b c = mix' g0 g1 g2 a b c := by
  obtain ⟨e, he, hb⟩ := ofBits_eps
  have hG : 0 < max (Ideal.logistic g0 + Ideal.logistic g1 + Ideal.logistic g2) (Ideal.ofBits .f32 897988541#32) := by
    rw [hb]
    exact lt_max_of_lt_right (EReal.coe_pos.2 he)
  obtain ⟨r, hr, h⟩ := div_eq_mul _ hG
  unfold mix mix'
  rw [h, h, h, h, EReal.right_distrib_of_nonneg_of_ne_top (EReal.coe_nonneg.2 hr) (EReal.coe_ne_top r),
    EReal.right_distrib_of_nonneg_of_ne_top (EReal.coe_nonneg.2 hr) (EReal.coe_ne_top r), mul_right_comm, mul_right_comm _ b, mul_right_comm _ c]

/-! ## The window -/

/-- The window's scores in the token's own chunk. -/
def win1 (a : ℕ) (ha : a < 8) (t : ℕ) (s : Fin 2048 → EReal) (y : Fin 256) : EReal := if 256 * a + y.val ≤ t then s (tok a ha y) else ⊥

/-- The window's scores in the chunk before. -/
def win0 (a : ℕ) (ha : a < 8) (t : ℕ) (s : Fin 2048 → EReal) (y : Fin 256) : EReal :=
  if 0 < a ∧ t - (256 * (a - 1) + y.val) < 256 then s (tok (a - 1) (by omega) y) else ⊥

/-- The window's scores without the token's own chunk. -/
def earlier (a : ℕ) (t : ℕ) (s : Fin 2048 → EReal) (j : Fin 2048) : EReal := if j.val / 256 = a then ⊥ else windowed t s j

section Window

variable (a : ℕ) (ha : a < 8) (t : ℕ) (hat : t / 256 = a) (s : Fin 2048 → EReal)

include hat

theorem windowed_tok (y : Fin 256) : windowed t s (tok a ha y) = win1 a ha t s y := by
  have hy := y.isLt
  unfold windowed win1
  have e : (tok a ha y).val = 256 * a + y.val := rfl
  rw [e]
  by_cases h : 256 * a + y.val ≤ t
  · rw [if_pos ⟨h, by omega⟩, if_pos h]
  · rw [if_neg (fun h' => h h'.1), if_neg h]

theorem before_tok (y : Fin 256) (h : 0 < a) : earlier a t s (tok (a - 1) (by omega) y) = win0 a ha t s y := by
  have hy := y.isLt
  have e : (tok (a - 1) (by omega) y).val = 256 * (a - 1) + y.val := rfl
  unfold earlier windowed win0
  rw [e, if_neg (by omega)]
  by_cases h' : t - (256 * (a - 1) + y.val) < 256
  · rw [if_pos ⟨by omega, h'⟩, if_pos ⟨h, h'⟩]
  · rw [if_neg (fun h'' => h' h''.2), if_neg (fun h'' => h' h''.2)]

theorem before_bot (j : Fin 2048) (hj : j.val / 256 ≠ a - 1 ∨ a = 0) : earlier a t s j = ⊥ := by
  unfold earlier windowed
  by_cases h : j.val / 256 = a
  · rw [if_pos h]
  · rw [if_neg h, if_neg]
    omega

theorem win0_bot (h : a = 0) (y : Fin 256) : win0 a ha t s y = ⊥ := if_neg (by omega)

/-- A sum over the window's scores is a sum over its two chunks. -/
theorem sum_window (φ : EReal → Fin 2048 → EReal) (hφ : ∀ j, φ ⊥ j = 0) :
    ∑ j, φ (windowed t s j) j
      = ∑ y, φ (win0 a ha t s y) (tok (a - 1) (by omega) y) + ∑ y, φ (win1 a ha t s y) (tok a ha y) := by
  rw [sum_chunk a ha (fun j => φ (earlier a t s j) j) (fun j => φ (windowed t s j) j)]
  · refine congr (congrArg _ ?_) (Finset.sum_congr rfl fun y _ => by rw [windowed_tok a ha t hat])
    by_cases h : 0 < a
    · rw [sum_chunk (a - 1) (by omega) (fun _ => 0) (fun j => φ (earlier a t s j) j)]
      · rw [Finset.sum_const_zero, zero_add]
        exact Finset.sum_congr rfl fun y _ => by rw [before_tok a ha t hat s y h]
      · exact fun j hj => by rw [before_bot a t hat s j (Or.inl hj), hφ]
      · exact fun _ => rfl
    · have h0 : a = 0 := by omega
      rw [Finset.sum_eq_zero fun j _ => by rw [before_bot a t hat s j (Or.inr h0), hφ],
        Finset.sum_eq_zero fun y _ => by rw [win0_bot a ha t hat s h0, hφ]]
  · intro j hj
    have e : earlier a t s j = windowed t s j := if_neg hj
    rw [e]
  · intro y
    have e : earlier a t s (tok a ha y) = ⊥ := if_pos (tok_div a ha y)
    rw [e, hφ]

theorem fmax_window : fmax (windowed t s) = max (fmax (win1 a ha t s)) (fmax (win0 a ha t s)) := by
  refine le_antisymm (fmax_bound fun j => ?_) (max_le (fmax_bound fun y => ?_) (fmax_bound fun y => ?_))
  · by_cases hj : j.val / 256 = a
    · obtain ⟨y, rfl⟩ := eq_tok a ha j hj
      rw [windowed_tok a ha t hat]
      exact (fmax_ge (win1 a ha t s) y).trans (le_max_left _ _)
    · have e : windowed t s j = earlier a t s j := (if_neg hj).symm
      rw [e]
      by_cases h : j.val / 256 ≠ a - 1 ∨ a = 0
      · rw [before_bot a t hat s j h]
        exact bot_le
      · obtain ⟨y, hy⟩ := eq_tok (a - 1) (by omega) j (by omega)
        rw [← hy]
        rw [before_tok a ha t hat s y (by omega)]
        exact (fmax_ge (win0 a ha t s) y).trans (le_max_right _ _)
  · rw [← windowed_tok a ha t hat]
    exact fmax_ge (windowed t s) _
  · by_cases h : 0 < a
    · rw [← before_tok a ha t hat s y h]
      refine le_trans ?_ (fmax_ge (windowed t s) (tok (a - 1) (by omega) y))
      unfold earlier
      split
      · exact bot_le
      · exact le_refl _
    · rw [win0_bot a ha t hat s (by omega)]
      exact bot_le

theorem windowed_lt (hs : ∀ j, s j < ⊤) (j : Fin 2048) : windowed t s j < ⊤ := by
  unfold windowed
  split
  · exact hs j
  · exact bot_lt_top

/-- The window in two chunks under one softmax is the softmax of the window. -/
theorem sink2_eq (hs : ∀ j, s j < ⊤) (sk : EReal) (hk : sk < ⊤) (hj : ∃ j, ⊥ < windowed t s j) (v : Fin 2048 → EReal) :
    sink2 (win1 a ha t s) (win0 a ha t s) sk (fun y => v (tok a ha y)) (fun y => v (tok (a - 1) (by omega) y))
      = sinkAttn' (windowed t s) sk v := by
  rw [← sinkAttn_eq _ _ _ (windowed_lt a t hat s hs) hk hj]
  unfold sink2 sinkAttn
  rw [← fmax_window a ha t hat s,
    sum_window a ha t hat s (fun x j => Ideal.exp (x - max (fmax (windowed t s)) sk) * v j) (fun j => by simp only [exp_bot_sub, zero_mul]),
    sum_window a ha t hat s (fun x _ => Ideal.exp (x - max (fmax (windowed t s)) sk)) (fun j => by simp only [exp_bot_sub])]

end Window

/-! ## The selective branch -/

/-- A query's scores against the keys. -/
def rowScore (q : Fin 64 → EReal) (K : Fin 2048 → Fin 64 → EReal) (j : Fin 2048) : EReal :=
  (∑ e, q e * K j e) * Ideal.ofBits .f32 1040187392#32

theorem rowScore_real (q : Fin 64 → EReal) (K : Fin 2048 → Fin 64 → EReal) (hq : ∀ d, IsReal (q d)) (hK : ∀ j d, IsReal (K j d)) (j : Fin 2048) :
    IsReal (rowScore q K j) :=
  (IsReal.sum fun d _ => (hq d).mul (hK j d)).mul ⟨_, ofBits_eighth⟩

theorem blockScore_real (q : Fin 64 → EReal) (K : Fin 64 → Fin 64 → EReal) (hq : ∀ d, IsReal (q d)) (hK : ∀ j d, IsReal (K j d)) (j : Fin 64) :
    IsReal (blockScore q K j) :=
  (IsReal.sum fun d _ => (hq d).mul (hK j d)).mul ⟨_, ofBits_eighth⟩

/-- The keys with the indicators of their blocks appended. -/
structure Extended (ke : Fin 2048 → Fin 128 → EReal) (K : Fin 2048 → Fin 64 → EReal) : Prop where
  lo : ∀ j (d : Fin 64), ke j ⟨d.val, by omega⟩ = K j d
  hi : ∀ j (b : Fin 64), ke j ⟨64 + b.val, by omega⟩ = if j.val / 32 = b.val then 1 else 0

open Classical in
theorem augScore_eq (q : Fin 64 → EReal) (S : Fin 64 → Prop) (ke : Fin 2048 → Fin 128 → EReal) (K : Fin 2048 → Fin 64 → EReal)
    (h : Extended ke K) (j : Fin 2048) :
    augScore (augm q S) ke j = if S ⟨j.val / 32, by omega⟩ then rowScore q K j else ⊥ := by
  unfold augScore
  have e := Fin.sum_univ_add (a := 64) (b := 64) (fun e : Fin (64 + 64) => augm q S e * ke j e)
  refine e.trans ?_
  have e1 : ∑ i : Fin 64, augm q S (Fin.castAdd 64 i) * ke j (Fin.castAdd 64 i) = rowScore q K j := by
    unfold rowScore
    rw [ofBits_eighth, sum_mul_nonneg _ _ _ (by norm_num)]
    refine Finset.sum_congr rfl fun d _ => ?_
    have hu : augm q S (Fin.castAdd 64 d) = q d * Ideal.ofBits .f32 1040187392#32 := dif_pos d.isLt
    have hk : ke j (Fin.castAdd 64 d) = K j d := h.lo j d
    rw [hu, hk, ofBits_eighth, mul_right_comm]
  have e2 : ∑ i : Fin 64, augm q S (Fin.natAdd 64 i) * ke j (Fin.natAdd 64 i) = if S ⟨j.val / 32, by omega⟩ then 0 else ⊥ := by
    have hu : ∀ b : Fin 64, augm q S (Fin.natAdd 64 b) = if S b then 0 else ⊥ := fun b => by
      have hb : ¬ (Fin.natAdd 64 b).val < 64 := by simp
      have eb : (⟨(Fin.natAdd 64 b).val - 64, by have := (Fin.natAdd 64 b).isLt; omega⟩ : Fin 64) = b := Fin.ext (by simp)
      unfold augm
      rw [dif_neg hb, eb]
    have hk : ∀ b : Fin 64, ke j (Fin.natAdd 64 b) = if j.val / 32 = b.val then 1 else 0 := fun b => h.hi j b
    rw [Finset.sum_eq_single (⟨j.val / 32, by omega⟩ : Fin 64)]
    · rw [hu, hk, if_pos rfl, mul_one]
    · intro b _ hb
      rw [hk, if_neg (fun h' => hb (Fin.ext h'.symm)), mul_zero]
    · exact fun h' => absurd (Finset.mem_univ _) h'
  rw [e1, e2]
  split
  · rw [add_zero]
  · rw [EReal.add_bot]

open Classical in
/-- Scores of the tokens of the selected blocks. -/
def selected (t : ℕ) (x : Fin 64 → EReal) (s : Fin 2048 → EReal) (j : Fin 2048) : EReal :=
  if place x ⟨j.val / 32, by omega⟩ < 16 ∧ j.val ≤ t then s j else ⊥

/-- Some block of the first sixteen begins at or earlier the token. -/
theorem exists_place {t : ℕ} {s : Fin 64 → EReal} (ht : t < 2048) (hs : ∀ b, s b ≠ ⊥)
    (hd : 543 ≤ t → ∀ b c : Fin 64, b < c → 32 * c.val + 31 ≤ t → s b ≠ s c) :
    ∃ j : Fin 2048, place (blockMask t s) ⟨j.val / 32, by omega⟩ < 16 ∧ j.val ≤ t := by
  obtain ⟨b, hb, h⟩ := exists_sel (t := t) hs
  have e : (⟨32 * b.val / 32, by omega⟩ : Fin 64) = b := Fin.ext (by simp)
  exact ⟨⟨32 * b.val, by omega⟩, by rw [e]; exact (sel_iff hs hd b hb).1 h, hb⟩

/-- The running softmax over the augmented scores is the softmax of the selected tokens. -/
theorem select_eq (a : ℕ) (ha : a < 8) (t : ℕ) (ht : t < 2048) (hat : t / 256 = a) (q : Fin 64 → EReal) (s : Fin 64 → EReal)
    (ke : Fin 2048 → Fin 128 → EReal) (K v : Fin 2048 → Fin 64 → EReal) (h : Extended ke K)
    (hr : ∀ j, IsReal (rowScore q K j)) (hs : ∀ b, s b ≠ ⊥) (hd : 543 ≤ t → ∀ b c : Fin 64, b < c → 32 * c.val + 31 ≤ t → s b ≠ s c) (d : Fin 64) :
    Ideal.div
      (((Run.upto (augScore (augm q (sel t (blockMask t s))) ke) v a).step
        (fun y => if 256 * a + y.val ≤ t then augScore (augm q (sel t (blockMask t s))) ke (tok a ha y) else ⊥)
        (fun y => v (tok a ha y))).acc d)
      ((Run.upto (augScore (augm q (sel t (blockMask t s))) ke) v a).step
        (fun y => if 256 * a + y.val ≤ t then augScore (augm q (sel t (blockMask t s))) ke (tok a ha y) else ⊥)
        (fun y => v (tok a ha y))).l
      = attn' (selected t (blockMask t s) (rowScore q K)) fun j => v j d := by
  classical
  have hX := funext (augScore_eq q (sel t (blockMask t s)) ke K h)
  rw [hX, last_step _ v _ t a ha hat]
  · have e : upTo t (fun j : Fin 2048 => if sel t (blockMask t s) ⟨j.val / 32, by omega⟩ then rowScore q K j else ⊥)
        = selected t (blockMask t s) (rowScore q K) := by
      funext j
      unfold upTo selected
      by_cases hj : j.val ≤ t
      · rw [if_pos hj]
        have hi := sel_iff hs hd ⟨j.val / 32, by omega⟩ (by show 32 * (j.val / 32) ≤ t; omega)
        show (if sel t (blockMask t s) ⟨j.val / 32, by omega⟩ then rowScore q K j else ⊥) = _
        by_cases hS : sel t (blockMask t s) ⟨j.val / 32, by omega⟩
        · rw [if_pos hS, if_pos ⟨hi.1 hS, hj⟩]
        · rw [if_neg hS, if_neg fun h' => hS (hi.2 h'.1)]
      · rw [if_neg hj, if_neg fun h' => hj h'.2]
    rw [e]
    obtain ⟨j, hj⟩ := exists_place ht hs hd
    refine total_div _ v (fun j => ?_) j ?_ d
    · unfold selected
      split
      · exact (hr j).lt_top
      · exact bot_lt_top
    · unfold selected
      rw [if_pos hj]
      exact (hr j).bot_lt
  · intro j
    show (if sel t (blockMask t s) ⟨j.val / 32, by omega⟩ then rowScore q K j else ⊥) < ⊤
    split
    · exact (hr j).lt_top
    · exact bot_lt_top

/-! ## Norms -/

theorem sq_nonneg' (x : EReal) : 0 ≤ x * x := by
  induction x with
  | bot => simp
  | top => simp
  | coe r => rw [← EReal.coe_mul]; exact EReal.coe_nonneg.2 (mul_self_nonneg r)

/-- A normed row is real wherever its weights are. -/
theorem rms_real (x w : Fin 64 → EReal) (hw : ∀ d, IsReal (w d)) (d : Fin 64) : IsReal (rms x w d) := by
  obtain ⟨e, he, hb⟩ := ofBits_eps
  unfold rms rfac
  refine IsReal.mul ?_ (hw d)
  rw [hb, ofBits_64, Ideal.div_coe (by norm_num)]
  by_cases hx : ∀ e, IsReal (x e)
  · have hS : IsReal (∑ e, x e * x e) := IsReal.sum fun e _ => (hx e).mul (hx e)
    have h0 : 0 ≤ ∑ e, x e * x e := Finset.sum_nonneg fun e _ => sq_nonneg' (x e)
    obtain ⟨r, hr⟩ := hS
    rw [hr] at h0 ⊢
    have hr0 : 0 ≤ r := EReal.coe_nonneg.1 h0
    refine (hx d).mul ?_
    have hp : 0 < r * (1 / 64) + e := add_pos_of_nonneg_of_pos (mul_nonneg hr0 (by norm_num)) he
    rw [← EReal.coe_mul, ← EReal.coe_add, Ideal.rsqrt_coe, if_neg (not_lt.2 hp.le), if_neg hp.ne']
    exact ⟨_, rfl⟩
  · obtain ⟨i, hi⟩ := not_forall.1 hx
    have hsq : x i * x i = ⊤ := by
      generalize x i = z at hi
      induction z with
      | bot => simp
      | top => simp
      | coe r => exact absurd ⟨r, rfl⟩ hi
    have hT : ∑ e, x e * x e = ⊤ := top_le_iff.1 (hsq ▸ Finset.single_le_sum (f := fun e => x e * x e) (fun e _ => sq_nonneg' (x e)) (Finset.mem_univ i))
    rw [hT, EReal.top_mul_coe_of_pos (by norm_num), EReal.top_add_coe, Ideal.rsqrt_top, mul_zero]
    exact ⟨0, rfl⟩

/-! ## Block means -/

theorem mean_eq (c : ℕ) (hc : c < 8) (f : Fin 256 → EReal) :
    ∑ y : Fin 256, (if y.val / 32 = c then Ideal.div 1 (Ideal.ofBits .f32 0x42000000#32) else 0) * f y
      = Ideal.div (∑ y : Fin 32, f ⟨32 * c + y.val, by omega⟩) (Ideal.ofBits .f32 0x42000000#32) := by
  rw [ofBits_32, Ideal.div_coe (by norm_num), Ideal.div_coe (by norm_num), one_mul, sum_mul_nonneg _ _ _ (by norm_num)]
  rw [Finset.sum_congr rfl fun y _ => (by split <;> simp [mul_comm] :
    (if y.val / 32 = c then (((1 / 32 : ℝ)) : EReal) else 0) * f y = if y.val / 32 = c then f y * ((1 / 32 : ℝ) : EReal) else 0), ← Finset.sum_filter]
  refine Finset.sum_nbij' (fun j => (⟨j.val % 32, Nat.mod_lt _ (by omega)⟩ : Fin 32)) (fun y => (⟨32 * c + y.val, by omega⟩ : Fin 256)) ?_ ?_ ?_ ?_ ?_
  · exact fun _ _ => Finset.mem_univ _
  · exact fun y _ => Finset.mem_filter.2 ⟨Finset.mem_univ _, by show (32 * c + y.val) / 32 = c; omega⟩
  · intro j hj
    have hj' : j.val / 32 = c := (Finset.mem_filter.1 hj).2
    exact Fin.ext (by show 32 * c + j.val % 32 = j.val; omega)
  · exact fun y _ => Fin.ext (by show (32 * c + y.val) % 32 = y.val; omega)
  · intro j hj
    have hj' : j.val / 32 = c := (Finset.mem_filter.1 hj).2
    refine congrArg (fun z => f z * _) (Fin.ext ?_)
    show j.val = 32 * c + j.val % 32
    omega

theorem div_eight (x : EReal) : Ideal.div x (Ideal.ofBits .f32 0x41000000#32) = x * Ideal.ofBits .f32 1040187392#32 := by
  rw [ofBits_eight, ofBits_eighth, Ideal.div_coe (by norm_num)]

theorem div_32_real {x : EReal} (h : IsReal x) : IsReal (Ideal.div x (Ideal.ofBits .f32 0x42000000#32)) := by
  rw [ofBits_32, Ideal.div_coe (by norm_num)]
  exact h.mul ⟨_, rfl⟩

end Nsa

end
-- ==== Proof.Ref1.lean ====
module

public import proofs.«01_k».proof.Proof.Gen.ReferenceIdeal.Read
public import proofs.«01_k».proof.Proof.K0Body

@[expose] public section

set_option maxRecDepth 16384

/-! The reference's projections, norms and rotations, read at an index. -/

noncomputable section

namespace Cert.ReferenceIdeal.Val

open Idealize.ShloMosaic Idealize.ShloMosaic.TcCoe Idealize.ShloMosaic.Tactic Cert.ReferenceIdeal Cert.ReferenceIdeal.Read Nsa
open Cert.KernelIdeal.Val (rowDot)

/-- The projected queries of a head and a token. -/
def qLin (x0 : S1x2048x768.Idx → EReal) (x1 : S384x768.Idx → EReal) (x2 : S768x384.Idx → EReal) (h : Fin 12) (t : Fin 2048) (d : Fin 64) : EReal :=
  rowDot (rowDot (fun k => x0 (ix3 0 t k)) (fun k u => x1 (ix2 u k))) (fun k u => x2 (ix2 u k)) ⟨h.val * 64 + d.val, by omega⟩

theorem v6_at (x0 : S1x2048x768.Idx → EReal) (x1 : S384x768.Idx → EReal) (x2 : S768x384.Idx → EReal) (h : Fin 12) (t : Fin 2048) (d : Fin 64) :
    val_main_v6 (F := Ideal) x0 x1 x2 (ix3 h t d) = qLin x0 x1 x2 h t d := by
  pointwise [val_main_v6, val_main_v5, val_main_v4, val_main_v3, val_main_v2, val_main_v1, val_main_v0]
  rfl

theorem v60_at (x0 : S1x2048x768.Idx → EReal) (x1 : S384x768.Idx → EReal) (x2 : S768x384.Idx → EReal) (h : Fin 12) (t : Fin 2048) (d : Fin 64) :
    val_main_v60 (F := Ideal) x0 x1 x2 (ix3 h t d)
      = rope (fun i => val_main_v24 (F := Ideal) (ix2 t i)) (fun i => val_main_v42 (F := Ideal) (ix2 t i)) (fun e => val_main_v6 (F := Ideal) x0 x1 x2 (ix3 h t e)) d := by
  unfold rope
  pointwise [val_main_v60, val_main_v51, val_main_v47, val_main_v50, val_main_v43, val_main_v44, val_main_v45, val_main_v46, val_main_v48, val_main_v49,
    val_main_v52, val_main_v53, val_main_v54, val_main_v55, val_main_v56, val_main_v57, val_main_v58, val_main_v59]
  split
  · rfl
  · split
    · split
      · rw [show (⟨16 + (d.val - 16), by omega⟩ : Fin 64) = d from Fin.ext (by simp only; omega)]
      · omega
    · split
      · omega
      · rw [show (⟨32 + (d.val - 16 - 16), by omega⟩ : Fin 64) = d from Fin.ext (by simp only; omega)]

theorem v73_at (x0 : S1x2048x768.Idx → EReal) (x1 : S384x768.Idx → EReal) (x2 : S768x384.Idx → EReal) (x5 : S64.Idx → EReal) (h : Fin 12) (t : Fin 2048) (d : Fin 64) :
    val_main_v73 (F := Ideal) x0 x1 x2 x5 (ix3 h t d)
      = rms (fun e => val_main_v60 (F := Ideal) x0 x1 x2 (ix3 h t e)) (fun e => x5 (ix1 e)) d := by
  pointwise [val_main_v73, val_main_v72, val_main_v71, val_main_v70, val_main_v69, val_main_v68, val_main_v67, val_main_v66, val_main_v65, val_main_v64, val_main_v63, val_main_v62, val_main_v61, val_main_cst_9, val_main_cst_10, val_main_cst_11]
  rfl

theorem v75_at (x0 : S1x2048x768.Idx → EReal) (x3 : S64x768.Idx → EReal) (t : Fin 2048) (d : Fin 64) :
    val_main_v75 (F := Ideal) x0 x3 (ix2 t d) = rowDot (fun k => x0 (ix3 0 t k)) (fun k u => x3 (ix2 u k)) d := by
  pointwise [val_main_v75, val_main_v74, val_main_v0]
  rfl

theorem v136_at (x0 : S1x2048x768.Idx → EReal) (x4 : S64x768.Idx → EReal) (t : Fin 2048) (d : Fin 64) :
    val_main_v136 (F := Ideal) x0 x4 (ix2 t d) = rowDot (fun k => x0 (ix3 0 t k)) (fun k u => x4 (ix2 u k)) d := by
  pointwise [val_main_v136, val_main_v135, val_main_v0]
  rfl

theorem v121_at (x0 : S1x2048x768.Idx → EReal) (x3 : S64x768.Idx → EReal) (t : Fin 2048) (d : Fin 64) :
    val_main_v121 (F := Ideal) x0 x3 (ix2 t d)
      = rope (fun i => val_main_v93 (F := Ideal) (ix2 t i)) (fun i => val_main_v111 (F := Ideal) (ix2 t i)) (fun e => val_main_v75 (F := Ideal) x0 x3 (ix2 t e)) d := by
  unfold rope
  pointwise [val_main_v121, val_main_v112, val_main_v113, val_main_v114, val_main_v115, val_main_v116, val_main_v117, val_main_v118, val_main_v119, val_main_v120]
  split
  · rfl
  · split
    · split
      · rw [show (⟨16 + (d.val - 16), by omega⟩ : Fin 64) = d from Fin.ext (by simp only; omega)]
      · omega
    · split
      · omega
      · rw [show (⟨32 + (d.val - 16 - 16), by omega⟩ : Fin 64) = d from Fin.ext (by simp only; omega)]

theorem v134_at (x0 : S1x2048x768.Idx → EReal) (x3 : S64x768.Idx → EReal) (x6 : S64.Idx → EReal) (t : Fin 2048) (d : Fin 64) :
    val_main_v134 (F := Ideal) x0 x3 x6 (ix2 t d)
      = rms (fun e => val_main_v121 (F := Ideal) x0 x3 (ix2 t e)) (fun e => x6 (ix1 e)) d := by
  pointwise [val_main_v134, val_main_v133, val_main_v132, val_main_v131, val_main_v130, val_main_v129, val_main_v128, val_main_v127, val_main_v126, val_main_v125, val_main_v124, val_main_v123, val_main_v122, val_main_cst_22, val_main_cst_23, val_main_cst_24]
  rfl

theorem v140_at (x0 : S1x2048x768.Idx → EReal) (x3 : S64x768.Idx → EReal) (x6 : S64.Idx → EReal) (b d : Fin 64) :
    val_main_v140 (F := Ideal) x0 x3 x6 (ix2 b d)
      = Ideal.div (∑ y : Fin 32, val_main_v134 (F := Ideal) x0 x3 x6 (ix2 ⟨b.val * 32 + y.val, by omega⟩ d)) (Ideal.ofBits .f32 1107296256#32) := by
  pointwise [val_main_v140, val_main_v139, val_main_v138, val_main_v137, val_main_cst_25, val_main_cst_26]

theorem v144_at (x0 : S1x2048x768.Idx → EReal) (x4 : S64x768.Idx → EReal) (b d : Fin 64) :
    val_main_v144 (F := Ideal) x0 x4 (ix2 b d)
      = Ideal.div (∑ y : Fin 32, val_main_v136 (F := Ideal) x0 x4 (ix2 ⟨b.val * 32 + y.val, by omega⟩ d)) (Ideal.ofBits .f32 1107296256#32) := by
  pointwise [val_main_v144, val_main_v143, val_main_v142, val_main_v141, val_main_cst_27, val_main_cst_28]

theorem v164_at (x0 : S1x2048x768.Idx → EReal) (x1 : S384x768.Idx → EReal) (x2 : S768x384.Idx → EReal) (x3 : S64x768.Idx → EReal) (x5 x6 : S64.Idx → EReal)
    (h : Fin 12) (t : Fin 2048) (b : Fin 64) :
    val_main_v164 (F := Ideal) x0 x1 x2 x3 x5 x6 (ix3 h t b)
      = Ideal.div (∑ d, val_main_v73 (F := Ideal) x0 x1 x2 x5 (ix3 h t d) * val_main_v140 (F := Ideal) x0 x3 x6 (ix2 b d)) (Ideal.ofBits .f32 0x41000000#32) := by
  pointwise [val_main_v164, val_main_v163, val_main_v162, val_main_cst_32]

theorem v214_at (x0 : S1x2048x768.Idx → EReal) (x1 : S384x768.Idx → EReal) (x2 : S768x384.Idx → EReal) (x3 : S64x768.Idx → EReal) (x5 x6 : S64.Idx → EReal)
    (h : Fin 12) (t j : Fin 2048) :
    val_main_v214 (F := Ideal) x0 x1 x2 x3 x5 x6 (ix3 h t j)
      = Ideal.div (∑ d, val_main_v73 (F := Ideal) x0 x1 x2 x5 (ix3 h t d) * val_main_v134 (F := Ideal) x0 x3 x6 (ix2 j d)) (Ideal.ofBits .f32 0x41000000#32) := by
  pointwise [val_main_v214, val_main_v213, val_main_v212, val_main_cst_40]

end Cert.ReferenceIdeal.Val

end
-- ==== Proof.Ref2.lean ====
module

public import proofs.«01_k».proof.Proof.Gen.ReferenceIdeal.Read
public import proofs.«01_k».proof.Proof.Row
public import proofs.«01_k».proof.Proof.MathSel
public import proofs.«01_k».proof.Proof.MathSoft
public import Idealize.ShloMosaic.Lib.WordCmp
public import Idealize.ShloMosaic.Lib.Routing.OpsOrder

@[expose] public section

set_option maxRecDepth 16384

/-! The reference's three branches and its gates, read at an index. -/

noncomputable section

namespace Cert.ReferenceIdeal.Val

open Idealize.ShloMosaic Idealize.ShloMosaic.TcCoe Idealize.ShloMosaic.Tactic Cert.ReferenceIdeal Cert.ReferenceIdeal.Read Nsa

variable (x0 : S1x2048x768.Idx → EReal) (x1 : S384x768.Idx → EReal) (x2 : S768x384.Idx → EReal) (x3 x4 : S64x768.Idx → EReal) (x5 x6 : S64.Idx → EReal)
  (x7 : S3x64.Idx → EReal) (x8 : S3.Idx → EReal) (x9 : S12.Idx → EReal) (x10 : S2x1024x384.Idx → EReal) (x11 : S768x2048.Idx → EReal)

/-! ## Bits -/

theorem and_iff (a b : BitVec 1) : IntOp.andi a b = 1#1 ↔ a = 1#1 ∧ b = 1#1 := by revert a b; decide
theorem or_iff (a b : BitVec 1) : IntOp.ori a b = 1#1 ↔ a = 1#1 ∨ b = 1#1 := by revert a b; decide
theorem not_iff' (a : BitVec 1) : ~~~a = 1#1 ↔ ¬ a = 1#1 := by revert a; decide

open Classical in
theorem select_iff {c : BitVec 1} {P : Prop} (h : c = 1#1 ↔ P) (x y : EReal) : Scalar.select c x y = if P then x else y := by
  unfold Scalar.select
  by_cases hP : P
  · exact (if_pos (h.2 hP)).trans (if_pos hP).symm
  · exact (if_neg fun h' => hP (h.1 h')).trans (if_neg hP).symm

theorem maximumf_eq (a b : EReal) : FloatOps.maximumf (F := Ideal) (φ := .f32) a b = max a b := rfl

/-! ## The compressed branch -/

theorem last_word (b : Fin 64) : IntOp.subi (IntOp.muli (IntOp.addi (BitVec.ofNat 32 b.val) 1#32) 32#32) 1#32 = BitVec.ofNat 32 (32 * b.val + 31) := by
  revert b
  decide +kernel

theorem valid_at (t : Fin 2048) (b : Fin 64) : val_main_v159 (F := Ideal) (ix2 t b) = 1#1 ↔ 32 * b.val + 31 ≤ t.val := by
  pointwise [val_main_v159, val_main_v158, val_main_v157, val_main_v156, val_main_v155, val_main_v154, val_main_v153, val_main_v152, val_main_v151, val_main_v150,
    val_main_v149, val_main_v146, val_main_v145, val_main_c, val_main_c_29, val_main_c_30]
  rw [last_word]
  exact WordCmp.cmpi_sle_ofNat_eq_one_iff (by have := b.isLt; omega) (by have := t.isLt; omega)

theorem any_at (t : Fin 2048) : val_main_v160 (F := Ideal) (ix1 t) = 1#1 ↔ 31 ≤ t.val := by
  pointwise [val_main_v160, val_main_c_31]
  rw [Routing.fold_ori]
  constructor
  · rintro ⟨b, -, hb⟩
    have := (valid_at t b).1 hb
    omega
  · exact fun h => ⟨0, Finset.mem_univ _, (valid_at t 0).2 (by simpa using h)⟩

theorem v170_at (h : Fin 12) (t : Fin 2048) (b : Fin 64) : val_main_v170 (F := Ideal) x0 x1 x2 x3 x5 x6 (ix3 h t b)
    = if 32 * b.val + 31 ≤ t.val ∨ ¬ 31 ≤ t.val then val_main_v164 (F := Ideal) x0 x1 x2 x3 x5 x6 (ix3 h t b) else ⊥ := by
  pointwise [val_main_v170, val_main_v169, val_main_v168, val_main_cst_33, val_main_v167, val_main_v166, val_main_v165, val_main_v161]
  rw [ofBits_ninf]
  refine (select_iff (P := 32 * b.val + 31 ≤ t.val ∨ ¬ 31 ≤ t.val) ?_ _ _).trans (by congr)
  rw [or_iff, not_iff', valid_at, any_at]

theorem v172_at (h : Fin 12) (t : Fin 2048) : val_main_v172 (F := Ideal) x0 x1 x2 x3 x5 x6 (ix2 h t)
    = fmax fun b : Fin 64 => val_main_v170 (F := Ideal) x0 x1 x2 x3 x5 x6 (ix3 h t b) := by
  unfold fmax
  pointwise [val_main_v172, val_main_cst_34]

theorem v175_at (h : Fin 12) (t : Fin 2048) : val_main_v175 (F := Ideal) x0 x1 x2 x3 x5 x6 x9 (ix3 h t 0)
    = max (fmax fun b : Fin 64 => val_main_v170 (F := Ideal) x0 x1 x2 x3 x5 x6 (ix3 h t b)) (x9 (ix1 h)) := by
  have e1 : idx_main_v173 (ix3 h t 0) = ix2 h t := by
    ext a
    fin_cases a <;> rfl
  have e2 : idx_main_v171 (idx_main_v174 (ix3 h t 0)) = ix1 h := by
    ext a
    fin_cases a
    rfl
  rw [val_main_v175_apply, val_main_v174_apply, val_main_v173_apply, val_main_v171_apply, e1, e2, v172_at, maximumf_eq]

theorem v178_at (h : Fin 12) (t : Fin 2048) (b : Fin 64) : val_main_v178 (F := Ideal) x0 x1 x2 x3 x5 x6 x9 (ix3 h t b)
    = Ideal.exp (val_main_v170 (F := Ideal) x0 x1 x2 x3 x5 x6 (ix3 h t b) - val_main_v175 (F := Ideal) x0 x1 x2 x3 x5 x6 x9 (ix3 h t 0)) := by
  pointwise [val_main_v178, val_main_v177, val_main_v176]

theorem v185_at (h : Fin 12) (t : Fin 2048) (b : Fin 64) : val_main_v185 (F := Ideal) x0 x1 x2 x3 x5 x6 x9 (ix3 h t b)
    = ∑ b : Fin 64, val_main_v178 (F := Ideal) x0 x1 x2 x3 x5 x6 x9 (ix3 h t b)
      + Ideal.exp (x9 (ix1 h) - val_main_v175 (F := Ideal) x0 x1 x2 x3 x5 x6 x9 (ix3 h t 0)) := by
  pointwise [val_main_v185, val_main_v184, val_main_v183, val_main_v182, val_main_v181, val_main_v180, val_main_v179, val_main_cst_35, val_main_v171]

theorem v190_at (h : Fin 12) (t : Fin 2048) (d : Fin 64) : val_main_v190 (F := Ideal) x0 x1 x2 x3 x4 x5 x6 x9 (ix3 h t d)
    = if 31 ≤ t.val then sinkAttn' (blockMask t (fun b => val_main_v164 (F := Ideal) x0 x1 x2 x3 x5 x6 (ix3 h t b))) (x9 (ix1 h))
        (fun b => val_main_v144 (F := Ideal) x0 x4 (ix2 b d)) else 0 := by
  pointwise [val_main_v190, val_main_v189, val_main_v188, val_main_cst_36, val_main_v187, val_main_v186, val_main_v161]
  refine (select_iff (any_at t) _ _).trans ?_
  by_cases ht : 31 ≤ t.val
  · rw [if_pos ht, if_pos ht]
    have e : (fun b : Fin 64 => val_main_v170 (F := Ideal) x0 x1 x2 x3 x5 x6 (ix3 h t b))
        = blockMask t (fun b => val_main_v164 (F := Ideal) x0 x1 x2 x3 x5 x6 (ix3 h t b)) := funext fun b => by
      rw [v170_at]
      unfold blockMask
      by_cases hb : 32 * b.val + 31 ≤ t.val
      · rw [if_pos (Or.inl hb), if_pos hb]
      · rw [if_neg (by omega), if_neg hb]
    unfold sinkAttn'
    simp only [v178_at, v185_at, v175_at, ← e]
  · rw [if_neg ht, if_neg ht]

/-! ## The selective branch -/

theorem v193_at (h : Fin 12) (t : Fin 2048) (b : Fin 64) : val_main_v193 (F := Ideal) x0 x1 x2 x3 x5 x6 (ix3 h t b)
    = blockMask t (fun b => val_main_v164 (F := Ideal) x0 x1 x2 x3 x5 x6 (ix3 h t b)) b := by
  unfold blockMask
  pointwise [val_main_v193, val_main_v192, val_main_v191, val_main_cst_37]
  rw [ofBits_ninf]
  exact (select_iff (valid_at t b) _ _).trans (by congr)

/-- The indices of the greatest entries of a row, by the stable sort. -/
theorem topK_row {A B n k : ℕ} (gt : EReal → EReal → BitVec 1) (x : (⟨3, ![A, B, n]⟩ : Shape).Idx → EReal)
    (hf : (⟨3, ![A, B, n]⟩ : Shape).Slices (fun _ => 0) ⟨3, ![A, B, k]⟩) (h : Fin A) (t : Fin B) (r : Fin k) (hr : r.val < n) :
    (Host.topK ⟨3, ![A, B, k]⟩ 2 gt x hf).2 (ix3 h t r)
      = BitVec.ofNat 32 (sortedFrom (fun a b : Fin n => gt (x (ix3 h t a)) (x (ix3 h t b)) == 1#1) ⟨r.val, hr⟩).val := by
  have e : ∀ (J : (⟨3, ![A, B, n]⟩ : Shape).Idx) (k : Fin n), J 0 = h → J 1 = t → J.along (2 : Fin 3) k = ix3 h t k := by
    rintro J k rfl rfl
    ext a
    fin_cases a <;> rfl
  unfold Host.topK Host.sort2 extractStridedSlice
  simp only [show (2 : ℕ) < (⟨3, ![A, B, n]⟩ : Shape).rank from (by decide : 2 < 3), dif_pos]
  refine congrArg (BitVec.ofNat 32) (congrArg Fin.val (?_ : (_ : Fin n) = _))
  refine (Function.update_self _ _ _).trans ?_
  have h0 : (⟨0 + h.val, by omega⟩ : Fin A) = h := Fin.ext (Nat.zero_add _)
  have h1 : (⟨0 + t.val, by omega⟩ : Fin B) = t := Fin.ext (Nat.zero_add _)
  refine congr (congrArg sortedFrom (funext fun a => funext fun b => ?_)) (Fin.ext (Nat.zero_add _))
  exact congrArg₂ (fun u v => gt (x u) (x v) == 1#1) (e _ a h0 h1) (e _ b h0 h1)

theorem gt_iff (a b : EReal) : (FloatOps.cmpfTotal (F := Ideal) (φ := .f32) .gt a b == 1#1) = true ↔ b < a := by
  show (BitVec.ofBool (decide (b < a)) == 1#1) = true ↔ _
  by_cases h : b < a <;> simp [h]

theorem fold_index (f : Fin 16 → BitVec 32) (R : Fin 64 → Fin 64 → Bool) (b : Fin 64) (hf : ∀ r : Fin 16, f r = BitVec.ofNat 32 (sortedFrom R ⟨r.val, by omega⟩).val) :
    Finset.fold IntOp.ori (0#1) (fun r => IntOp.cmpi .eq (f r) (BitVec.ofNat 32 b.val)) Finset.univ = 1#1
      ↔ ∃ r : Fin 64, r.val < 16 ∧ sortedFrom R r = b := by
  rw [Routing.fold_ori]
  have e : ∀ r : Fin 16, IntOp.cmpi .eq (f r) (BitVec.ofNat 32 b.val) = 1#1 ↔ sortedFrom R ⟨r.val, by omega⟩ = b := fun r => by
    rw [hf]
    refine (WordCmp.cmpi_eq_ofNat_eq_one_iff ?_ (by have := b.isLt; omega)).trans Fin.ext_iff.symm
    generalize sortedFrom R _ = z
    have := z.isLt
    omega
  constructor
  · rintro ⟨r, -, hr⟩
    exact ⟨⟨r.val, by omega⟩, r.isLt, (e r).1 hr⟩
  · rintro ⟨r, hr, h⟩
    exact ⟨⟨r.val, hr⟩, Finset.mem_univ _, (e ⟨r.val, hr⟩).2 h⟩

theorem v209_at (h : Fin 12) (t j : Fin 2048) : val_main_v209 (F := Ideal) x0 x1 x2 x3 x5 x6 (ix3 h t j) = 1#1
    ↔ place (blockMask t (fun b => val_main_v164 (F := Ideal) x0 x1 x2 x3 x5 x6 (ix3 h t b))) ⟨j.val / 32, by omega⟩ < 16 ∧ j.val ≤ t.val := by
  pointwise [val_main_v209, val_main_v208, val_main_v207, val_main_v206, val_main_v205, val_main_v204, val_main_v203, val_main_v202, val_main_v201, val_main_v200, val_main_c_38, val_main_v199, val_main_v198, val_main_v197, val_main_v196, val_main_v195, val_main_v194, val_main_v146, val_main_v145, val_main_v148, val_main_v147]
  have hx : (fun b : Fin 64 => val_main_v193 (F := Ideal) x0 x1 x2 x3 x5 x6 (ix3 h t b))
      = blockMask t (fun b => val_main_v164 (F := Ideal) x0 x1 x2 x3 x5 x6 (ix3 h t b)) := funext fun b => v193_at x0 x1 x2 x3 x5 x6 h t b
  rw [and_iff, WordCmp.cmpi_sle_ofNat_eq_one_iff (by have := j.isLt; omega) (by have := t.isLt; omega), ← hx]
  refine and_congr_left fun _ => ?_
  refine (fold_index (fun r => val_main_indices (F := Ideal) x0 x1 x2 x3 x5 x6 (ix3 h t r))
    (fun a b : Fin 64 => FloatOps.cmpfTotal (F := Ideal) (φ := .f32) .gt (val_main_v193 (F := Ideal) x0 x1 x2 x3 x5 x6 (ix3 h t a))
      (val_main_v193 (F := Ideal) x0 x1 x2 x3 x5 x6 (ix3 h t b)) == 1#1) ⟨j.val / 32, by omega⟩ fun r => ?_).trans ?_
  · unfold val_main_indices
    exact topK_row _ _ _ h t r _
  · exact first_iff (fun b : Fin 64 => val_main_v193 (F := Ideal) x0 x1 x2 x3 x5 x6 (ix3 h t b)) _ (fun a b => gt_iff _ _) _

theorem v216_at (h : Fin 12) (t j : Fin 2048) : val_main_v216 (F := Ideal) x0 x1 x2 x3 x5 x6 (ix3 h t j)
    = Scalar.select (val_main_v209 (F := Ideal) x0 x1 x2 x3 x5 x6 (ix3 h t j)) (val_main_v214 (F := Ideal) x0 x1 x2 x3 x5 x6 (ix3 h t j)) ⊥ := by
  rw [← ofBits_ninf]
  pointwise [val_main_v216, val_main_v215, val_main_cst_41]

theorem v217_at (h : Fin 12) (t : Fin 2048) : val_main_v217 (F := Ideal) x0 x1 x2 x3 x5 x6 (ix2 h t)
    = fmax fun j : Fin 2048 => val_main_v216 (F := Ideal) x0 x1 x2 x3 x5 x6 (ix3 h t j) := by
  unfold fmax
  pointwise [val_main_v217, val_main_cst_42]

theorem v221_at (h : Fin 12) (t j : Fin 2048) : val_main_v221 (F := Ideal) x0 x1 x2 x3 x5 x6 (ix3 h t j)
    = Ideal.exp (val_main_v216 (F := Ideal) x0 x1 x2 x3 x5 x6 (ix3 h t j) - val_main_v217 (F := Ideal) x0 x1 x2 x3 x5 x6 (ix2 h t)) := by
  have e : idx_main_v218 (idx_main_v219 (ix3 h t j)) = ix2 h t := by
    ext a
    fin_cases a <;> rfl
  rw [val_main_v221_apply, val_main_v220_apply, val_main_v219_apply, val_main_v218_apply, e]
  generalize val_main_v216 (F := Ideal) x0 x1 x2 x3 x5 x6 (ix3 h t j) = y
  generalize val_main_v217 (F := Ideal) x0 x1 x2 x3 x5 x6 (ix2 h t) = z
  rfl

theorem v224_at (h : Fin 12) (t j : Fin 2048) : val_main_v224 (F := Ideal) x0 x1 x2 x3 x5 x6 (ix3 h t j)
    = ∑ j : Fin 2048, val_main_v221 (F := Ideal) x0 x1 x2 x3 x5 x6 (ix3 h t j) := by
  pointwise [val_main_v224, val_main_v223, val_main_v222, val_main_cst_43]

theorem v226_at (h : Fin 12) (t : Fin 2048) (d : Fin 64) : val_main_v226 (F := Ideal) x0 x1 x2 x3 x4 x5 x6 (ix3 h t d)
    = attn' (fun j => val_main_v216 (F := Ideal) x0 x1 x2 x3 x5 x6 (ix3 h t j)) (fun j => val_main_v136 (F := Ideal) x0 x4 (ix2 j d)) := by
  have e : ∀ j : Fin 2048, Ideal.exp (val_main_v216 (F := Ideal) x0 x1 x2 x3 x5 x6 (ix3 h t j) - fmax fun j => val_main_v216 (F := Ideal) x0 x1 x2 x3 x5 x6 (ix3 h t j))
      = val_main_v221 (F := Ideal) x0 x1 x2 x3 x5 x6 (ix3 h t j) := fun j => by rw [v221_at, v217_at]
  unfold attn'
  rw [Finset.sum_congr rfl fun j _ => e j]
  pointwise [val_main_v226, val_main_v225]
  exact Finset.sum_congr rfl fun j _ => by rw [e, v224_at]

theorem v210_at (h : Fin 12) (t : Fin 2048) : val_main_v210 (F := Ideal) x0 x1 x2 x3 x5 x6 (ix2 h t) = 1#1
    ↔ ∃ j, val_main_v209 (F := Ideal) x0 x1 x2 x3 x5 x6 (ix3 h t j) = 1#1 := by
  pointwise [val_main_v210, val_main_c_39]
  rw [Routing.fold_ori]
  simp

theorem v229_at (h : Fin 12) (t : Fin 2048) (d : Fin 64) (ha : ∃ j, val_main_v209 (F := Ideal) x0 x1 x2 x3 x5 x6 (ix3 h t j) = 1#1) :
    val_main_v229 (F := Ideal) x0 x1 x2 x3 x4 x5 x6 (ix3 h t d) = val_main_v226 (F := Ideal) x0 x1 x2 x3 x4 x5 x6 (ix3 h t d) := by
  pointwise [val_main_v229, val_main_v228, val_main_v227, val_main_v211, val_main_cst_44]
  exact (select_iff (v210_at x0 x1 x2 x3 x5 x6 h t) _ _).trans (if_pos ha)

/-! ## The window -/

theorem v238_at (t j : Fin 2048) : val_main_v238 (F := Ideal) (ix2 t j) = 1#1 ↔ j.val ≤ t.val ∧ t.val - j.val < 256 := by
  pointwise [val_main_v238, val_main_v237, val_main_v236, val_main_v235, val_main_v234, val_main_v233, val_main_v232, val_main_v231, val_main_v230, val_main_c_45, val_main_v146, val_main_v145, val_main_v148, val_main_v147]
  rw [and_iff, WordCmp.cmpi_sle_ofNat_eq_one_iff (by have := j.isLt; omega) (by have := t.isLt; omega)]
  refine and_congr_right fun hj => ?_
  have e : IntOp.subi (BitVec.ofNat 32 t.val) (BitVec.ofNat 32 j.val) = BitVec.ofNat 32 (t.val - j.val) := by
    have := t.isLt
    show BitVec.ofNat 32 t.val - BitVec.ofNat 32 j.val = _
    apply BitVec.eq_of_toNat_eq
    rw [BitVec.toNat_sub, BitVec.toNat_ofNat, BitVec.toNat_ofNat, BitVec.toNat_ofNat]
    omega
  rw [e]
  exact WordCmp.cmpi_slt_ofNat_eq_one_iff (by have := t.isLt; omega) (by omega)

theorem v241_at (h : Fin 12) (t j : Fin 2048) : val_main_v241 (F := Ideal) x0 x1 x2 x3 x5 x6 (ix3 h t j)
    = windowed t (fun j => val_main_v214 (F := Ideal) x0 x1 x2 x3 x5 x6 (ix3 h t j)) j := by
  unfold windowed
  pointwise [val_main_v241, val_main_v240, val_main_v239, val_main_cst_46]
  rw [ofBits_ninf]
  exact (select_iff (v238_at t j) _ _).trans (by congr)

theorem v243_at (h : Fin 12) (t : Fin 2048) : val_main_v243 (F := Ideal) x0 x1 x2 x3 x5 x6 (ix2 h t)
    = fmax fun b : Fin 2048 => val_main_v241 (F := Ideal) x0 x1 x2 x3 x5 x6 (ix3 h t b) := by
  unfold fmax
  pointwise [val_main_v243, val_main_cst_47]

theorem v246_at (h : Fin 12) (t : Fin 2048) : val_main_v246 (F := Ideal) x0 x1 x2 x3 x5 x6 x9 (ix3 h t 0)
    = max (fmax fun b : Fin 2048 => val_main_v241 (F := Ideal) x0 x1 x2 x3 x5 x6 (ix3 h t b)) (x9 (ix1 h)) := by
  have e1 : idx_main_v244 (ix3 h t 0) = ix2 h t := by
    ext a
    fin_cases a <;> rfl
  have e2 : idx_main_v242 (idx_main_v245 (ix3 h t 0)) = ix1 h := by
    ext a
    fin_cases a
    rfl
  rw [val_main_v246_apply, val_main_v245_apply, val_main_v244_apply, val_main_v242_apply, e1, e2, v243_at, maximumf_eq]

theorem v249_at (h : Fin 12) (t : Fin 2048) (b : Fin 2048) : val_main_v249 (F := Ideal) x0 x1 x2 x3 x5 x6 x9 (ix3 h t b)
    = Ideal.exp (val_main_v241 (F := Ideal) x0 x1 x2 x3 x5 x6 (ix3 h t b) - val_main_v246 (F := Ideal) x0 x1 x2 x3 x5 x6 x9 (ix3 h t 0)) := by
  pointwise [val_main_v249, val_main_v248, val_main_v247]

theorem v256_at (h : Fin 12) (t : Fin 2048) (b : Fin 2048) : val_main_v256 (F := Ideal) x0 x1 x2 x3 x5 x6 x9 (ix3 h t b)
    = ∑ b : Fin 2048, val_main_v249 (F := Ideal) x0 x1 x2 x3 x5 x6 x9 (ix3 h t b)
      + Ideal.exp (x9 (ix1 h) - val_main_v246 (F := Ideal) x0 x1 x2 x3 x5 x6 x9 (ix3 h t 0)) := by
  pointwise [val_main_v256, val_main_v255, val_main_v254, val_main_v253, val_main_v252, val_main_v251, val_main_v250, val_main_cst_48, val_main_v242]

theorem v258_at (h : Fin 12) (t : Fin 2048) (d : Fin 64) : val_main_v258 (F := Ideal) x0 x1 x2 x3 x4 x5 x6 x9 (ix3 h t d)
    = sinkAttn' (windowed t (fun j => val_main_v214 (F := Ideal) x0 x1 x2 x3 x5 x6 (ix3 h t j))) (x9 (ix1 h))
        (fun b => val_main_v136 (F := Ideal) x0 x4 (ix2 b d)) := by
  have e : (fun b : Fin 2048 => val_main_v241 (F := Ideal) x0 x1 x2 x3 x5 x6 (ix3 h t b))
      = windowed t (fun j => val_main_v214 (F := Ideal) x0 x1 x2 x3 x5 x6 (ix3 h t j)) := funext fun b => v241_at x0 x1 x2 x3 x5 x6 h t b
  unfold sinkAttn'
  rw [← e]
  pointwise [val_main_v258, val_main_v257]
  simp only [v249_at, v256_at, v246_at]

/-! ## The gates -/

theorem v268_at (h : Fin 12) (t : Fin 2048) (g : Fin 3) : val_main_v268 (F := Ideal) x0 x1 x2 x5 x7 x8 (ix3 h t g)
    = Ideal.logistic (∑ d, val_main_v73 (F := Ideal) x0 x1 x2 x5 (ix3 h t d) * x7 (ix2 g d) + x8 (ix1 g)) := by
  unfold Ideal.logistic
  pointwise [val_main_v268, val_main_v267, val_main_cst_50, val_main_v266, val_main_v265, val_main_cst_49, val_main_v264, val_main_v263, val_main_v262, val_main_v261, val_main_v260, val_main_v259]

theorem v274_at (h : Fin 12) (t : Fin 2048) (g : Fin 3) : val_main_v274 (F := Ideal) x0 x1 x2 x5 x7 x8 (ix3 h t g)
    = Ideal.div (val_main_v268 (F := Ideal) x0 x1 x2 x5 x7 x8 (ix3 h t g))
      (max (val_main_v268 (F := Ideal) x0 x1 x2 x5 x7 x8 (ix3 h t 0) + val_main_v268 (F := Ideal) x0 x1 x2 x5 x7 x8 (ix3 h t 1)
        + val_main_v268 (F := Ideal) x0 x1 x2 x5 x7 x8 (ix3 h t 2)) (Ideal.ofBits .f32 897988541#32)) := by
  pointwise [val_main_v274, val_main_v273, val_main_v272, val_main_v271, val_main_cst_52, val_main_v270, val_main_v269, val_main_cst_51]
  rw [Fin.sum_univ_three]

/-- The linear part of a gate. -/
def gate (q : Fin 64 → EReal) (w : S3x64.Idx → EReal) (b : S3.Idx → EReal) (g : Fin 3) : EReal := ∑ d, q d * w (ix2 g d) + b (ix1 g)

theorem v285_at (h : Fin 12) (t : Fin 2048) (d : Fin 64) : val_main_v285 (F := Ideal) x0 x1 x2 x3 x4 x5 x6 x7 x8 x9 (ix3 h t d)
    = mix' (gate (fun d => val_main_v73 (F := Ideal) x0 x1 x2 x5 (ix3 h t d)) x7 x8 0) (gate (fun d => val_main_v73 (F := Ideal) x0 x1 x2 x5 (ix3 h t d)) x7 x8 1)
        (gate (fun d => val_main_v73 (F := Ideal) x0 x1 x2 x5 (ix3 h t d)) x7 x8 2)
        (val_main_v190 (F := Ideal) x0 x1 x2 x3 x4 x5 x6 x9 (ix3 h t d)) (val_main_v229 (F := Ideal) x0 x1 x2 x3 x4 x5 x6 (ix3 h t d))
        (val_main_v258 (F := Ideal) x0 x1 x2 x3 x4 x5 x6 x9 (ix3 h t d)) := by
  pointwise [val_main_v285, val_main_v284, val_main_v283, val_main_v282, val_main_v281, val_main_v280, val_main_v279, val_main_v278, val_main_v277, val_main_v276, val_main_v275]
  simp only [v274_at, v268_at]
  rfl

theorem v293_at (t : Fin 2048) (d : Fin 768) : val_main_v293 (F := Ideal) x0 x1 x2 x3 x4 x5 x6 x7 x8 x9 x10 x11 (ix3 0 t d)
    = ∑ m : Fin 2048, (∑ c : Fin 384, x10 (ix3 ⟨m.val / 1024, by omega⟩ ⟨m.val % 1024, by omega⟩ c)
        * val_main_v285 (F := Ideal) x0 x1 x2 x3 x4 x5 x6 x7 x8 x9 (ix3 ⟨m.val / 1024 * 6 + c.val / 64, by omega⟩ t ⟨c.val % 64, by omega⟩)) * x11 (ix2 d m) := by
  pointwise [val_main_v293, val_main_v292, val_main_v291, val_main_v290, val_main_v289, val_main_v288, val_main_v287, val_main_v286]

end Cert.ReferenceIdeal.Val

end
-- ==== Proof.Attn.lean ====
module

public import proofs.«01_k».proof.Proof.MathRow
public import proofs.«01_k».proof.Proof.R1Blk
public import proofs.«01_k».proof.Proof.Ref1
public import proofs.«01_k».proof.Proof.Ref2

@[expose] public section

/-! A row of the attention call against the reference's mixed branches. -/

noncomputable section

namespace Cert.KernelIdeal.Val

open Idealize.ShloMosaic Idealize.ShloMosaic.TcCoe Idealize.ShloMosaic.Tactic Cert.ReferenceIdeal.Read Cert.ReferenceIdeal.Val Nsa

theorem attnRow_branches (t : ℕ) (ht : t < 2048) (a : ℕ) (ha : a < 8) (hat : t / 256 = a) (q : Fin 64 → EReal) (sk : EReal) (kc vc : Fin 64 → Fin 64 → EReal)
    (ke : Fin 2048 → Fin 128 → EReal) (K v : Fin 2048 → Fin 64 → EReal) (wg : Fin 64 → Fin 8 → EReal) (bg : Fin 8 → EReal) (d : Fin 64)
    (hE : Extended ke K) (hq : ∀ d, IsReal (q d)) (hK : ∀ j d, IsReal (K j d)) (hkc : ∀ b d, IsReal (kc b d)) (hsk : sk < ⊤)
    (hd : 543 ≤ t → ∀ b c : Fin 64, b < c → 32 * c.val + 31 ≤ t → blockScore q kc b ≠ blockScore q kc c) :
    attnRow a ha t q sk kc vc ke v wg bg d
      = mix' (gateLin q wg bg 0) (gateLin q wg bg 1) (gateLin q wg bg 2)
        (if 31 ≤ t then sinkAttn' (blockMask t (blockScore q kc)) sk (fun b => vc b d) else 0)
        (attn' (selected t (blockMask t (blockScore q kc)) (rowScore q K)) fun j => v j d)
        (sinkAttn' (windowed t (rowScore q K)) sk fun j => v j d) := by
  have hs := blockScore_real q kc hq hkc
  have hr := rowScore_real q K hq hK
  have hm : ∀ b, blockMask t (blockScore q kc) b < ⊤ := fun b => by
    unfold blockMask
    split
    · exact (hs b).lt_top
    · exact bot_lt_top
  have hlo : ∀ (c : ℕ) (hc : c < 8), (fun (y : Fin 256) (e : Fin 64) => ke (tok c hc y) ⟨e.val, by omega⟩) = fun y => K (tok c hc y) :=
    fun c hc => funext fun y => funext fun e => hE.lo _ e
  have e1 : (fun y : Fin 256 => if 256 * a + y.val ≤ t then keyScore q (fun y e => ke (tok a ha y) ⟨e.val, by omega⟩) y else ⊥)
      = Nsa.win1 a ha t (rowScore q K) := by rw [hlo]; rfl
  have e0 : (fun y : Fin 256 => if 0 < a ∧ t - (256 * (a - 1) + y.val) < 256 then
      keyScore q (fun y e => ke (tok (a - 1) (by omega) y) ⟨e.val, by omega⟩) y else ⊥) = Nsa.win0 a ha t (rowScore q K) := by rw [hlo]; rfl
  have ec : (if 31 ≤ t then sinkAttn (blockMask t (blockScore q kc)) sk (fun b => vc b d) else 0)
      = if 31 ≤ t then sinkAttn' (blockMask t (blockScore q kc)) sk (fun b => vc b d) else 0 := by
    by_cases h31 : 31 ≤ t
    · rw [if_pos h31, if_pos h31]
      exact sinkAttn_eq _ _ _ hm hsk ⟨0, (bot_lt_blockMask (fun b => (hs b).bot_lt.ne') 0).2 (by have : ((0 : Fin 64) : ℕ) = 0 := rfl; omega)⟩
    · rw [if_neg h31, if_neg h31]
  have hw : ∃ j, ⊥ < windowed t (rowScore q K) j := by
    refine ⟨⟨t, ht⟩, ?_⟩
    unfold windowed
    rw [if_pos ⟨le_refl t, by show t - t < 256; omega⟩]
    exact (hr _).bot_lt
  unfold attnRow
  rw [mix_eq, e1, e0, ec, sink2_eq a ha t hat (rowScore q K) (fun j => (hr j).lt_top) sk hsk hw (fun j => v j d),
    Nsa.select_eq a ha t ht hat q (blockScore q kc) ke K v hE hr (fun b => (hs b).bot_lt.ne') hd d]

section Reference

variable (x0 : S1x2048x768.Idx → EReal) (x1 : S384x768.Idx → EReal) (x2 : S768x384.Idx → EReal) (x3 x4 : S64x768.Idx → EReal) (x5 x6 : S64.Idx → EReal)
  (x7 : S3x64.Idx → EReal) (x8 : S3.Idx → EReal) (x9 : S12.Idx → EReal)

theorem v73_real (h5 : ∀ d, IsReal (x5 (ix1 d))) (h : Fin 12) (t : Fin 2048) (d : Fin 64) : IsReal (val_main_v73 (F := Ideal) x0 x1 x2 x5 (ix3 h t d)) := by
  rw [v73_at]
  exact rms_real _ _ h5 d

theorem v134_real (h6 : ∀ d, IsReal (x6 (ix1 d))) (t : Fin 2048) (d : Fin 64) : IsReal (val_main_v134 (F := Ideal) x0 x3 x6 (ix2 t d)) := by
  rw [v134_at]
  exact rms_real _ _ h6 d

theorem v140_real (h6 : ∀ d, IsReal (x6 (ix1 d))) (b d : Fin 64) : IsReal (val_main_v140 (F := Ideal) x0 x3 x6 (ix2 b d)) := by
  rw [v140_at]
  exact div_32_real (IsReal.sum fun y _ => v134_real x0 x3 x6 h6 _ d)

theorem score_eq (h : Fin 12) (t : Fin 2048) : (fun b => val_main_v164 (F := Ideal) x0 x1 x2 x3 x5 x6 (ix3 h t b))
    = blockScore (fun d => val_main_v73 (F := Ideal) x0 x1 x2 x5 (ix3 h t d)) (fun b d => val_main_v140 (F := Ideal) x0 x3 x6 (ix2 b d)) := by
  funext b
  rw [v164_at, div_eight]
  rfl

theorem scores_eq (h : Fin 12) (t : Fin 2048) : (fun j => val_main_v214 (F := Ideal) x0 x1 x2 x3 x5 x6 (ix3 h t j))
    = rowScore (fun d => val_main_v73 (F := Ideal) x0 x1 x2 x5 (ix3 h t d)) (fun j d => val_main_v134 (F := Ideal) x0 x3 x6 (ix2 j d)) := by
  funext j
  rw [v214_at, div_eight]
  rfl

theorem v216_row (h : Fin 12) (t : Fin 2048) : (fun j => val_main_v216 (F := Ideal) x0 x1 x2 x3 x5 x6 (ix3 h t j))
    = selected t (blockMask t (fun b => val_main_v164 (F := Ideal) x0 x1 x2 x3 x5 x6 (ix3 h t b)))
      (fun j => val_main_v214 (F := Ideal) x0 x1 x2 x3 x5 x6 (ix3 h t j)) := by
  funext j
  rw [v216_at]
  exact (select_iff (v209_at x0 x1 x2 x3 x5 x6 h t j) _ _).trans (by unfold selected; congr)

theorem attnArr_eq (q : S12x2048x64.Idx → EReal) (ke : S2048x128.Idx → EReal) (v : S2048x64.Idx → EReal) (kc vc : S64x64.Idx → EReal)
    (wg : S64x8.Idx → EReal) (bg : S1x8.Idx → EReal) (qn : S1x64.Idx → EReal) (cs sn : S2048x16.Idx → EReal) (sk : S12.Idx → EReal)
    (hq : ∀ h t d, q (ix3 h t d) = val_main_v6 (F := Ideal) x0 x1 x2 (ix3 h t d))
    (hlo : ∀ j (d : Fin 64), ke (ix2 j ⟨d.val, by omega⟩) = val_main_v134 (F := Ideal) x0 x3 x6 (ix2 j d))
    (hhi : ∀ j (b : Fin 64), ke (ix2 j ⟨64 + b.val, by omega⟩) = if j.val / 32 = b.val then 1 else 0)
    (hv : ∀ j d, v (ix2 j d) = val_main_v136 (F := Ideal) x0 x4 (ix2 j d))
    (hkc : ∀ b d, kc (ix2 b d) = val_main_v140 (F := Ideal) x0 x3 x6 (ix2 b d))
    (hvc : ∀ b d, vc (ix2 b d) = val_main_v144 (F := Ideal) x0 x4 (ix2 b d))
    (hwg : ∀ (d : Fin 64) (g : Fin 3), wg (ix2 d ⟨g.val, by omega⟩) = x7 (ix2 g d))
    (hbg : ∀ g : Fin 3, bg (ix2 0 ⟨g.val, by omega⟩) = x8 (ix1 g))
    (hqn : ∀ d, qn (ix2 0 d) = x5 (ix1 d))
    (hcs : ∀ t i, cs (ix2 t i) = val_main_v24 (F := Ideal) (ix2 t i)) (hsn : ∀ t i, sn (ix2 t i) = val_main_v42 (F := Ideal) (ix2 t i))
    (hsk : ∀ h, sk (ix1 h) = x9 (ix1 h))
    (h5 : ∀ d, IsReal (x5 (ix1 d))) (h6 : ∀ d, IsReal (x6 (ix1 d))) (h9 : ∀ h, x9 (ix1 h) < ⊤)
    (h : Fin 12) (t : Fin 2048) (d : Fin 64)
    (hd : 543 ≤ t.val → ∀ b c : Fin 64, b < c → 32 * c.val + 31 ≤ t.val → val_main_v164 (F := Ideal) x0 x1 x2 x3 x5 x6 (ix3 h t b) ≠ val_main_v164 (F := Ideal) x0 x1 x2 x3 x5 x6 (ix3 h t c)) :
    attnArr q ke v kc vc wg bg qn cs sn sk h t d = val_main_v285 (F := Ideal) x0 x1 x2 x3 x4 x5 x6 x7 x8 x9 (ix3 h t d) := by
  have eq : rms (rope (row cs t) (row sn t) (fun e => q (ix3 h t e))) (row qn 0) = fun d => val_main_v73 (F := Ideal) x0 x1 x2 x5 (ix3 h t d) := by
    funext d
    rw [v73_at]
    refine congrFun (congr (congrArg rms (funext fun e => ?_)) (funext hqn)) d
    rw [v60_at]
    exact congrFun (congr (congr (congrArg rope (funext (hcs t))) (funext (hsn t))) (funext (hq h t))) e
  have ekc : row kc = fun b d => val_main_v140 (F := Ideal) x0 x3 x6 (ix2 b d) := funext fun b => funext fun d => hkc b d
  have evc : row vc = fun b d => val_main_v144 (F := Ideal) x0 x4 (ix2 b d) := funext fun b => funext fun d => hvc b d
  have ev : row v = fun j d => val_main_v136 (F := Ideal) x0 x4 (ix2 j d) := funext fun b => funext fun d => hv b d
  have hE : Extended (row ke) (fun j d => val_main_v134 (F := Ideal) x0 x3 x6 (ix2 j d)) := ⟨hlo, hhi⟩
  have hg : ∀ g : Fin 3, gateLin (fun d => val_main_v73 (F := Ideal) x0 x1 x2 x5 (ix3 h t d)) (row wg) (row bg 0) ⟨g.val, by omega⟩
      = gate (fun d => val_main_v73 (F := Ideal) x0 x1 x2 x5 (ix3 h t d)) x7 x8 g := fun g => by
    unfold gateLin gate
    refine congr (congrArg _ (Finset.sum_congr rfl fun d _ => ?_)) (hbg g)
    exact congrArg (_ * ·) (hwg d g)
  have hs := score_eq x0 x1 x2 x3 x5 x6 h t
  have hd' : 543 ≤ t.val → ∀ b c : Fin 64, b < c → 32 * c.val + 31 ≤ t.val →
      blockScore (fun d => val_main_v73 (F := Ideal) x0 x1 x2 x5 (ix3 h t d)) (fun b d => val_main_v140 (F := Ideal) x0 x3 x6 (ix2 b d)) b
        ≠ blockScore (fun d => val_main_v73 (F := Ideal) x0 x1 x2 x5 (ix3 h t d)) (fun b d => val_main_v140 (F := Ideal) x0 x3 x6 (ix2 b d)) c := by
    rw [← hs]
    exact hd
  unfold attnArr
  rw [eq, ekc, evc, ev, hsk]
  rw [attnRow_branches t.val t.isLt (t.val / 256) _ rfl _ _ _ _ _ _ _ _ _ d hE (v73_real x0 x1 x2 x5 h5 h t) (fun j => v134_real x0 x3 x6 h6 j)
    (v140_real x0 x3 x6 h6) (h9 h) hd']
  rw [v285_at, v190_at, v258_at, ← hs, ← scores_eq]
  have h0 := hg 0
  have h1 := hg 1
  have h2 := hg 2
  have ha : ∃ j, val_main_v209 (F := Ideal) x0 x1 x2 x3 x5 x6 (ix3 h t j) = 1#1 := by
    have hne : ∀ b, val_main_v164 (F := Ideal) x0 x1 x2 x3 x5 x6 (ix3 h t b) ≠ ⊥ := fun b => by
      have e := congrFun hs b
      simp only at e
      rw [e]
      exact (blockScore_real _ _ (v73_real x0 x1 x2 x5 h5 h t) (v140_real x0 x3 x6 h6) b).bot_lt.ne'
    obtain ⟨j, hj⟩ := exists_place (t := t.val) t.isLt hne hd
    exact ⟨j, (v209_at x0 x1 x2 x3 x5 x6 h t j).2 hj⟩
  rw [v229_at x0 x1 x2 x3 x4 x5 x6 h t d ha, v226_at, v216_row]
  exact congrFun (congrFun (congrFun (congr (congr (congrArg mix' h0) h1) h2) _) _) _

end Reference

end Cert.KernelIdeal.Val

end
-- ==== Proof.Chain.lean ====
module

public import proofs.«01_k».proof.Proof.Host
public import proofs.«01_k».proof.Proof.R0
public import proofs.«01_k».proof.Proof.R1
public import proofs.«01_k».proof.Proof.R2
public import proofs.«01_k».proof.Proof.Attn

@[expose] public section

set_option maxRecDepth 16384

/-! The contents of the kernel's result buffer after the three calls, of the arguments. -/

noncomputable section

namespace Cert.KernelIdeal.Val

open Idealize.ShloMosaic Idealize.ShloMosaic.TcCoe Idealize.ShloMosaic.Tactic Cert.KernelIdeal Cert.KernelIdeal.Gen Nsa

variable (m : (l : Loc nD τ sig) → Buf (Elt Ideal) l) (ρ : Dev nD → PrngReg) (c : Dev nD)

/-! ## The buffers that the calls read -/

theorem V6_q : V6 m ρ c main_v59_0 = (dat0 (V5 m ρ) c).arrAt 10 cfg0.N := W6_arr m ρ c 10
theorem V6_ke : V6 m ρ c main_v59_1 = (dat0 (V5 m ρ) c).arrAt 11 cfg0.N := W6_arr m ρ c 11
theorem V6_v : V6 m ρ c main_v59_2 = (dat0 (V5 m ρ) c).arrAt 12 cfg0.N := W6_arr m ρ c 12
theorem V6_kc : V6 m ρ c main_v59_3 = (dat0 (V5 m ρ) c).arrAt 13 cfg0.N := W6_arr m ρ c 13
theorem V6_vc : V6 m ρ c main_v59_4 = (dat0 (V5 m ρ) c).arrAt 14 cfg0.N := W6_arr m ρ c 14
theorem V6_v14 : V6 m ρ c main_v14 = V5 m ρ c main_v14 := W6_of m ρ c main_v14 (by decide)
theorem V6_v19 : V6 m ρ c main_v19 = V5 m ρ c main_v19 := W6_of m ρ c main_v19 (by decide)
theorem V6_v10 : V6 m ρ c main_v10 = V5 m ρ c main_v10 := W6_of m ρ c main_v10 (by decide)
theorem V6_v46 : V6 m ρ c main_v46 = V5 m ρ c main_v46 := W6_of m ρ c main_v46 (by decide)
theorem V6_v47 : V6 m ρ c main_v47 = V5 m ρ c main_v47 := W6_of m ρ c main_v47 (by decide)
theorem V6_arg9 : V6 m ρ c main_arg9 = m ((c : Thread nD τ).loc main_arg9) := W6_args m ρ c main_arg9 (by decide)

theorem V8_v60 : V8 m ρ c main_v60 = (dat1 (V6 m ρ) c).arrAt 11 cfg1.N :=
  (W8_of m ρ c main_v60 (by decide)).trans (W7_arr m ρ c 11)

theorem v62_at (g : Fin 2) (x : Fin 384) (y : Fin 1024) : V8 m ρ c main_v62 (ix3 g x y) = m ((c : Thread nD τ).loc main_arg10) (ix3 g y x) := by
  show W8 m ρ c (Proc.devRef .tc main_v62) _ = _
  after_reads_simp
  rw [show W7 m ρ c (Proc.devRef .tc main_arg10) = m ((c : Thread nD τ).loc main_arg10) from W7_args m ρ c main_arg10 (by decide)]
  pointwise

theorem v64_at (x : Fin 2048) (y : Fin 768) : V8 m ρ c main_v64 (ix2 x y) = m ((c : Thread nD τ).loc main_arg11) (ix2 y x) := by
  show W8 m ρ c (Proc.devRef .tc main_v64) _ = _
  after_reads_simp
  rw [show W7 m ρ c (Proc.devRef .tc main_arg11) = m ((c : Thread nD τ).loc main_arg11) from W7_args m ρ c main_arg11 (by decide)]
  pointwise

theorem v66_at (t : Fin 2048) (d : Fin 768) : W10 m ρ c (Proc.devRef .tc main_v66) (ix3 0 t d) = (dat2 (V8 m ρ) c).arrAt 3 cfg2.N (ix2 t d) := by
  after_reads_simp
  rw [show W9 m ρ c (Proc.devRef .tc main_v65) = (dat2 (V8 m ρ) c).arrAt 3 cfg2.N from W9_arr m ρ c 3]
  pointwise

end Cert.KernelIdeal.Val

end
-- ==== Proof.Value.lean ====
module

public import proofs.«01_k».proof.Proof.Chain

@[expose] public section

set_option maxRecDepth 16384

/-! The kernel's result is the reference's, entry by entry. -/

noncomputable section

namespace Cert.KernelIdeal.Val

open Idealize.ShloMosaic Idealize.ShloMosaic.TcCoe Idealize.ShloMosaic.Tactic Cert.KernelIdeal Cert.KernelIdeal.Gen Nsa
open Cert.ReferenceIdeal.Read (val_main_v6 val_main_v24 val_main_v42 val_main_v93 val_main_v111 val_main_v134 val_main_v136 val_main_v140 val_main_v144 val_main_v164 val_main_v285 val_main_v293)

/-- The angles' cosines are the reference's, for the queries and for the keys. -/
theorem cos_q : Host.cos angle = val_main_v24 (F := Ideal) := rfl
theorem cos_k : Host.cos angle = val_main_v93 (F := Ideal) := rfl
theorem sin_q : Host.sin angle = val_main_v42 (F := Ideal) := rfl
theorem sin_k : Host.sin angle = val_main_v111 (F := Ideal) := rfl

variable (m : (l : Loc nD τ sig) → Buf (Elt Ideal) l) (ρ : Dev nD → PrngReg) (c : Dev nD)

/-- A launch argument's contents. -/
abbrev arg (r : Ref sig .tc) : Buf (Elt Ideal) ((c : Thread nD τ).loc r) := m ((c : Thread nD τ).loc r)

theorem q_at (h : Fin 12) (t : Fin 2048) (d : Fin 64) :
    V6 m ρ c main_v59_0 (ix3 h t d) = val_main_v6 (F := Ideal) (arg m c main_arg0) (arg m c main_arg1) (arg m c main_arg2) (ix3 h t d) := by
  rw [V6_q, arr0_10, Cert.ReferenceIdeal.Val.v6_at]
  unfold Cert.ReferenceIdeal.Val.qLin
  have e : (⟨64 * h.val + d.val, by omega⟩ : Fin 768) = ⟨h.val * 64 + d.val, by omega⟩ := Fin.ext (by simp only; omega)
  show rowDot (rowDot (row _ t) (row _)) (row _) ⟨64 * h.val + d.val, _⟩ = _
  rw [e]
  refine congrFun (congr (congrArg rowDot (congr (congrArg rowDot (funext fun k => host_v0_at m ρ c t k)) (funext fun k => funext fun u => host_v2_at m ρ c k u)))
    (funext fun k => funext fun u => host_v4_at m ρ c k u)) _

theorem key_at (t : Fin 2048) (d : Fin 64) :
    keyRow (V5 m ρ c main_v0) (V5 m ρ c main_v6) (V5 m ρ c main_v9) (V5 m ρ c main_v46) (V5 m ρ c main_v47) t d
      = val_main_v134 (F := Ideal) (arg m c main_arg0) (arg m c main_arg3) (arg m c main_arg6) (ix2 t d) := by
  rw [Cert.ReferenceIdeal.Val.v134_at, v46_eq, v47_eq]
  refine congrFun (congr (congrArg rms (funext fun e => ?_)) (funext fun y => host_v9_at m ρ c y)) d
  rw [Cert.ReferenceIdeal.Val.v121_at, ← cos_k, ← sin_k]
  refine congrFun (congrArg (rope _ _) (funext fun e => ?_)) e
  rw [Cert.ReferenceIdeal.Val.v75_at]
  exact congrFun (congr (congrArg rowDot (funext fun k => host_v0_at m ρ c t k)) (funext fun k => funext fun u => host_v6_at m ρ c k u)) e

theorem val_at (t : Fin 2048) (d : Fin 64) :
    rowsDot (V5 m ρ c main_v0) (V5 m ρ c main_v8) t d = val_main_v136 (F := Ideal) (arg m c main_arg0) (arg m c main_arg4) (ix2 t d) := by
  rw [Cert.ReferenceIdeal.Val.v136_at]
  exact congrFun (congr (congrArg rowDot (funext fun k => host_v0_at m ρ c t k)) (funext fun k => funext fun u => host_v8_at m ρ c k u)) d

/-- A block's mean out of its chunk's weighted sum. -/
theorem chunkMean_eq (k : Fin 2048 → Fin 64 → EReal) (b d : Fin 64) :
    chunkMean (V5 m ρ c main_v58) k b d
      = Ideal.div (∑ y : Fin 32, k ⟨b.val * 32 + y.val, by omega⟩ d) (Ideal.ofBits .f32 0x42000000#32) := by
  unfold chunkMean
  rw [Finset.sum_congr rfl fun y _ => congrArg (· * k (chunk ⟨b.val / 8, by omega⟩ y) d) (host_v58_at m ρ c ⟨b.val % 8, by omega⟩ y)]
  refine (mean_eq (b.val % 8) (by omega) fun y => k (chunk ⟨b.val / 8, by omega⟩ y) d).trans ?_
  congr 1
  refine Finset.sum_congr rfl fun y _ => congrArg (fun i => k i d) (Fin.ext ?_)
  show 256 * (b.val / 8) + (32 * (b.val % 8) + y.val) = b.val * 32 + y.val
  omega

theorem kc_at (b d : Fin 64) :
    V6 m ρ c main_v59_3 (ix2 b d) = val_main_v140 (F := Ideal) (arg m c main_arg0) (arg m c main_arg3) (arg m c main_arg6) (ix2 b d) := by
  rw [V6_kc, arr0_13, Cert.ReferenceIdeal.Val.v140_at]
  exact (chunkMean_eq m ρ c (keyRow (V5 m ρ c main_v0) (V5 m ρ c main_v6) (V5 m ρ c main_v9) (V5 m ρ c main_v46) (V5 m ρ c main_v47)) b d).trans
    (congrArg (Ideal.div · (Ideal.ofBits .f32 0x42000000#32)) (Finset.sum_congr rfl fun y _ => key_at m ρ c _ d))

theorem vc_at (b d : Fin 64) :
    V6 m ρ c main_v59_4 (ix2 b d) = val_main_v144 (F := Ideal) (arg m c main_arg0) (arg m c main_arg4) (ix2 b d) := by
  rw [V6_vc, arr0_14, Cert.ReferenceIdeal.Val.v144_at]
  exact (chunkMean_eq m ρ c (rowsDot (V5 m ρ c main_v0) (V5 m ρ c main_v8)) b d).trans
    (congrArg (Ideal.div · (Ideal.ofBits .f32 0x42000000#32)) (Finset.sum_congr rfl fun y _ => val_at m ρ c _ d))

theorem v_at (t : Fin 2048) (d : Fin 64) :
    V6 m ρ c main_v59_2 (ix2 t d) = val_main_v136 (F := Ideal) (arg m c main_arg0) (arg m c main_arg4) (ix2 t d) := by
  rw [V6_v, arr0_12]
  exact val_at m ρ c t d

theorem ke_lo (j : Fin 2048) (d : Fin 64) :
    V6 m ρ c main_v59_1 (ix2 j ⟨d.val, by omega⟩) = val_main_v134 (F := Ideal) (arg m c main_arg0) (arg m c main_arg3) (arg m c main_arg6) (ix2 j d) := by
  rw [V6_ke, arr0_11, ← key_at m ρ c j d]
  exact dif_pos d.isLt

theorem ke_hi (j : Fin 2048) (b : Fin 64) :
    V6 m ρ c main_v59_1 (ix2 j ⟨64 + b.val, by omega⟩) = if j.val / 32 = b.val then (1 : EReal) else 0 := by
  rw [V6_ke, arr0_11]
  refine (dif_neg (by show ¬ (64 + b.val < 64); omega)).trans ?_
  rw [← host_v28_at m ρ c j b]
  exact congrArg (fun i => V5 m ρ c main_v28 (ix2 j i)) (Fin.ext (by show 64 + b.val - 64 = b.val; omega))

/-- What a launch's arguments are asked for. -/
structure Ok : Prop where
  qn : ∀ d, IsReal (arg m c main_arg5 (ix1 d))
  kn : ∀ d, IsReal (arg m c main_arg6 (ix1 d))
  sink : ∀ h, @LT.lt EReal _ (arg m c main_arg9 (ix1 h)) ⊤
  distinct : ∀ (h : Fin 12) (t : Fin 2048), 543 ≤ t.val → ∀ a b : Fin 64, a < b → 32 * b.val + 31 ≤ t.val →
    val_main_v164 (F := Ideal) (arg m c main_arg0) (arg m c main_arg1) (arg m c main_arg2) (arg m c main_arg3) (arg m c main_arg5) (arg m c main_arg6) (ix3 h t a)
      ≠ val_main_v164 (F := Ideal) (arg m c main_arg0) (arg m c main_arg1) (arg m c main_arg2) (arg m c main_arg3) (arg m c main_arg5) (arg m c main_arg6) (ix3 h t b)

theorem attn_at (hm : Ok m c) (h : Fin 12) (t : Fin 2048) (d : Fin 64) :
    V8 m ρ c main_v60 (ix3 h t d)
      = val_main_v285 (F := Ideal) (arg m c main_arg0) (arg m c main_arg1) (arg m c main_arg2) (arg m c main_arg3) (arg m c main_arg4)
          (arg m c main_arg5) (arg m c main_arg6) (arg m c main_arg7) (arg m c main_arg8) (arg m c main_arg9) (ix3 h t d) := by
  rw [V8_v60, arr1]
  refine attnArr_eq _ _ _ _ _ _ _ _ _ _ _ _ _ _ _ _ _ _ _ _ _ (q_at m ρ c) (ke_lo m ρ c) (ke_hi m ρ c) (v_at m ρ c) (kc_at m ρ c) (vc_at m ρ c)
    (fun d g => ?_) (fun g => ?_) (fun d => ?_) (fun t i => ?_) (fun t i => ?_) (fun h => ?_) hm.qn hm.kn hm.sink h t d (hm.distinct h t)
  · rw [V6_v14]; exact host_v14_at m ρ c d g
  · rw [V6_v19]; exact host_v19_at m ρ c g
  · rw [V6_v10]; exact host_v10_at m ρ c d
  · rw [V6_v46, v46_eq, cos_q]
  · rw [V6_v47, v47_eq, sin_q]
  · rw [V6_arg9]

/-- The two groups' projections, added, are one sum over the 2048 columns. -/
theorem outRow_eq (o : Fin 12 → Fin 64 → EReal) (w : Fin 2 → Fin 384 → Fin 1024 → EReal) (u : Fin 2048 → Fin 768 → EReal) (d : Fin 768) :
    outRow o w u d
      = ∑ i : Fin 2048, (∑ e : Fin 384, w ⟨i.val / 1024, by omega⟩ e ⟨i.val % 1024, by omega⟩
          * o ⟨i.val / 1024 * 6 + e.val / 64, by omega⟩ ⟨e.val % 64, by omega⟩) * u i d := by
  unfold outRow
  refine Eq.symm ((Fin.sum_univ_add (a := 1024) (b := 1024) fun i : Fin (1024 + 1024) => (∑ e : Fin 384, w ⟨i.val / 1024, by omega⟩ e ⟨i.val % 1024, by omega⟩
          * o ⟨i.val / 1024 * 6 + e.val / 64, by omega⟩ ⟨e.val % 64, by omega⟩) * u i d).trans ?_)
  congr 1
  · refine Finset.sum_congr rfl fun i _ => ?_
    have h0 : i.val / 1024 = 0 := by omega
    have h1 : i.val % 1024 = i.val := by omega
    refine congr (congrArg _ (Finset.sum_congr rfl fun e _ => ?_)) (congrArg (fun k => u k d) (Fin.ext (by simp [Nat.add_comm])))
    rw [mul_comm]
    refine congr (congrArg _ (congrArg (fun k => o k _) (Fin.ext ?_))) (congr (congrArg (fun k => w k e) (Fin.ext ?_)) (Fin.ext ?_))
    · simp only [Fin.val_castAdd, h0]; omega
    · simp only [Fin.val_castAdd, h0]; rfl
    · simp only [Fin.val_castAdd, h1]
  · refine Finset.sum_congr rfl fun i _ => ?_
    have h0 : (1024 + i.val) / 1024 = 1 := by omega
    have h1 : (1024 + i.val) % 1024 = i.val := by omega
    refine congr (congrArg _ (Finset.sum_congr rfl fun e _ => ?_)) (congrArg (fun k => u k d) (Fin.ext (by simp [Nat.add_comm])))
    rw [mul_comm]
    refine congr (congrArg _ (congrArg (fun k => o k _) (Fin.ext ?_))) (congr (congrArg (fun k => w k e) (Fin.ext ?_)) (Fin.ext ?_))
    · simp only [Fin.val_natAdd, h0]
    · simp only [Fin.val_natAdd, h0]; rfl
    · simp only [Fin.val_natAdd, h1]

theorem result_at (hm : Ok m c) (t : Fin 2048) (d : Fin 768) :
    W10 m ρ c (Proc.devRef .tc main_v66) (ix3 0 t d)
      = val_main_v293 (F := Ideal) (arg m c main_arg0) (arg m c main_arg1) (arg m c main_arg2) (arg m c main_arg3) (arg m c main_arg4)
          (arg m c main_arg5) (arg m c main_arg6) (arg m c main_arg7) (arg m c main_arg8) (arg m c main_arg9) (arg m c main_arg10) (arg m c main_arg11) (ix3 0 t d) := by
  rw [v66_at, arr2, Cert.ReferenceIdeal.Val.v293_at]
  refine (outRow_eq _ _ _ d).trans (Finset.sum_congr rfl fun i _ => ?_)
  refine congr (congrArg _ (Finset.sum_congr rfl fun e _ => ?_)) (v64_at m ρ c i d)
  exact congr (congrArg _ (v62_at m ρ c _ e _)) (attn_at m ρ c hm _ t _)

/-- The kernel's result buffer holds the reference's result. -/
theorem result_eq (hm : Ok m c) :
    W10 m ρ c (Proc.devRef .tc main_v66)
      = val_main_v293 (F := Ideal) (arg m c main_arg0) (arg m c main_arg1) (arg m c main_arg2) (arg m c main_arg3) (arg m c main_arg4)
          (arg m c main_arg5) (arg m c main_arg6) (arg m c main_arg7) (arg m c main_arg8) (arg m c main_arg9) (arg m c main_arg10) (arg m c main_arg11) := by
  funext i
  have e : i = ix3 0 (i 1) (i 2) := by
    funext a
    fin_cases a
    · exact Subsingleton.elim (α := Fin 1) _ _
    · rfl
    · rfl
  rw [e]
  exact result_at m ρ c hm (i 1) (i 2)

end Cert.KernelIdeal.Val

end
-- ==== Proof.Pre.lean ====
module

public import proofs.«01_k».proof.Pre_distinct_scores
public import proofs.«01_k».proof.Proof.Gen.ReferenceIdeal.Read
public import proofs.«01_k».proof.Proof.Value
public import Idealize.ShloMosaic.Lib.ReduceAll

@[expose] public section

set_option maxRecDepth 16384

/-! The precondition's facts, and what it says of a launch's arguments. -/

noncomputable section

namespace Cert.Pre_distinct_scores

open Idealize.ShloMosaic Idealize.ShloMosaic.TcCoe Idealize.ShloMosaic.Tactic

theorem holds : Facts where
  shapeCasts_S1x2048x768_S2048x768 := Cert.ReferenceIdeal.Gen.shapeCasts_S1x2048x768_S2048x768
  transposes_S384x768_S768x384_1_0 := Cert.ReferenceIdeal.Gen.transposes_S384x768_S768x384_1_0
  transposes_S768x384_S384x768_1_0 := Cert.ReferenceIdeal.Gen.transposes_S768x384_S384x768_1_0
  shapeCasts_S2048x768_S2048x12x64 := Cert.ReferenceIdeal.Gen.shapeCasts_S2048x768_S2048x12x64
  transposes_S2048x12x64_S12x2048x64_1_0_2 := Cert.ReferenceIdeal.Gen.transposes_S2048x12x64_S12x2048x64_1_0_2
  bcast_S_S16 := Cert.ReferenceIdeal.Gen.bcast_S_S16
  bcast_S2048_S2048x1_0 := Cert.ReferenceIdeal.Gen.bcast_S2048_S2048x1_0
  bcast_S16_S1x16_1 := Cert.ReferenceIdeal.Gen.bcast_S16_S1x16_1
  bcast_S2048x1_S2048x16_0_1 := Cert.ReferenceIdeal.Gen.bcast_S2048x1_S2048x16_0_1
  bcast_S1x16_S2048x16_0_1 := Cert.ReferenceIdeal.Gen.bcast_S1x16_S2048x16_0_1
  slices_S12x2048x64_S12x2048x16_0_0_0 := Cert.ReferenceIdeal.Gen.slices_S12x2048x64_S12x2048x16_0_0_0
  slices_S12x2048x64_S12x2048x16_0_0_16 := Cert.ReferenceIdeal.Gen.slices_S12x2048x64_S12x2048x16_0_0_16
  bcast_S2048x16_S1x2048x16_1_2 := Cert.ReferenceIdeal.Gen.bcast_S2048x16_S1x2048x16_1_2
  bcast_S1x2048x16_S12x2048x16_0_1_2 := Cert.ReferenceIdeal.Gen.bcast_S1x2048x16_S12x2048x16_0_1_2
  slices_S12x2048x64_S12x2048x32_0_0_32 := Cert.ReferenceIdeal.Gen.slices_S12x2048x64_S12x2048x32_0_0_32
  concatenates_S12x2048x16_S12x2048x16_S12x2048x32_S12x2048x64_d2 := Cert.ReferenceIdeal.Gen.concatenates_S12x2048x16_S12x2048x16_S12x2048x32_S12x2048x64_d2
  reducesTo_S12x2048x64_S12x2048_d2 := Cert.ReferenceIdeal.Gen.reducesTo_S12x2048x64_S12x2048_d2
  h_S_ := Cert.ReferenceIdeal.Gen.h_S_
  bcast_S12x2048_S12x2048x1_0_1 := Cert.ReferenceIdeal.Gen.bcast_S12x2048_S12x2048x1_0_1
  bcast_S_S12x2048x1 := Cert.ReferenceIdeal.Gen.bcast_S_S12x2048x1
  bcast_S12x2048x1_S12x2048x64_0_1_2 := Cert.ReferenceIdeal.Gen.bcast_S12x2048x1_S12x2048x64_0_1_2
  bcast_S64_S1x1x64_2 := Cert.ReferenceIdeal.Gen.bcast_S64_S1x1x64_2
  bcast_S1x1x64_S12x2048x64_0_1_2 := Cert.ReferenceIdeal.Gen.bcast_S1x1x64_S12x2048x64_0_1_2
  transposes_S64x768_S768x64_1_0 := Cert.ReferenceIdeal.Gen.transposes_S64x768_S768x64_1_0
  slices_S2048x64_S2048x16_0_0 := Cert.ReferenceIdeal.Gen.slices_S2048x64_S2048x16_0_0
  slices_S2048x64_S2048x16_0_16 := Cert.ReferenceIdeal.Gen.slices_S2048x64_S2048x16_0_16
  slices_S2048x64_S2048x32_0_32 := Cert.ReferenceIdeal.Gen.slices_S2048x64_S2048x32_0_32
  concatenates_S2048x16_S2048x16_S2048x32_S2048x64_d1 := Cert.ReferenceIdeal.Gen.concatenates_S2048x16_S2048x16_S2048x32_S2048x64_d1
  reducesTo_S2048x64_S2048_d1 := Cert.ReferenceIdeal.Gen.reducesTo_S2048x64_S2048_d1
  bcast_S_S2048x1 := Cert.ReferenceIdeal.Gen.bcast_S_S2048x1
  bcast_S2048x1_S2048x64_0_1 := Cert.ReferenceIdeal.Gen.bcast_S2048x1_S2048x64_0_1
  bcast_S64_S1x64_1 := Cert.ReferenceIdeal.Gen.bcast_S64_S1x64_1
  bcast_S1x64_S2048x64_0_1 := Cert.ReferenceIdeal.Gen.bcast_S1x64_S2048x64_0_1
  shapeCasts_S2048x64_S64x32x64 := Cert.ReferenceIdeal.Gen.shapeCasts_S2048x64_S64x32x64
  reducesTo_S64x32x64_S64x64_d1 := Cert.ReferenceIdeal.Gen.reducesTo_S64x32x64_S64x64_d1
  bcast_S_S64x64 := Cert.ReferenceIdeal.Gen.bcast_S_S64x64
  bcast_S_S12x2048x64 := Cert.ReferenceIdeal.Gen.bcast_S_S12x2048x64
  bcast_S_S12x2048x64x64 := by decide
  bcast_S_S64 := by decide
  reducesTo_S64_S_d0 := by decide
  bcast_S_S12 := by decide
  reducesTo_S12_S_d0 := by decide
  bcast_S12x2048x64_S12x2048x64x1_0_1_2 := Cert.ReferenceIdeal.Gen.bcast_S12x2048x64_S12x2048x64x1_0_1_2
  bcast_S12x2048x64_S12x2048x1x64_0_1_3 := by decide
  bcast_S12x2048x64x1_S12x2048x64x64_0_1_2_3 := by decide
  bcast_S12x2048x1x64_S12x2048x64x64_0_1_2_3 := by decide
  reducesTo_S12x2048x64x64_S_d0_1_2_3 := by decide
  dot_S2048x768_S768x384_S2048x384_1_0_0_1_n_n_wf := Cert.ReferenceIdeal.Gen.dot_S2048x768_S768x384_S2048x384_1_0_0_1_n_n_wf
  dot_S2048x384_S384x768_S2048x768_1_0_0_1_n_n_wf := Cert.ReferenceIdeal.Gen.dot_S2048x384_S384x768_S2048x768_1_0_0_1_n_n_wf
  dot_S2048x768_S768x64_S2048x64_1_0_0_1_n_n_wf := Cert.ReferenceIdeal.Gen.dot_S2048x768_S768x64_S2048x64_1_0_0_1_n_n_wf
  dot_S12x2048x64_S64x64_S12x2048x64_2_1_01_0_n_n_wf := Cert.ReferenceIdeal.Gen.dot_S12x2048x64_S64x64_S12x2048x64_2_1_01_0_n_n_wf

/-! ## The last operations of the precondition -/

instance : Subsingleton S_.Idx := ⟨fun a b => funext fun i => i.elim0⟩

theorem ofBits_top : Ideal.ofBits .f32 0x7F800000#32 = ⊤ := by simp [Ideal.ofBits, Ideal.ieee]

/-- A number of size below infinity is a real. -/
theorem real_of_lt (x : EReal) (h : Ideal.cmp .olt (max x (-x)) (Ideal.ofBits .f32 0x7F800000#32) = 1#1) : Nsa.IsReal x := by
  rw [ofBits_top] at h
  have h' : max x (-x) < ⊤ := by
    by_contra hn
    simp [Ideal.cmp, hn] at h
  obtain ⟨h1, h2⟩ := max_lt_iff.1 h'
  refine Nsa.isReal_of (bot_lt_iff_ne_bot.2 fun e => ?_) h1
  rw [e] at h2
  exact absurd h2 (by simp)

/-- A number smaller than infinity. -/
theorem lt_top_of_lt (x : EReal) (h : Ideal.cmp .olt x (Ideal.ofBits .f32 0x7F800000#32) = 1#1) : x < ⊤ := by
  rw [ofBits_top] at h
  by_contra hn
  simp [Ideal.cmp, hn] at h

variable [Facts]

theorem lt_top_of_all {s : Shape} {ax : List (Fin s.rank)} (b : S_.BroadcastsInDim s (![] : Fin 0 → Fin s.rank)) (x : FVec Ideal s .f32) (r : s.ReducesTo ax S_) (hu : 0 < S_.numel) (j : S_.Idx)
    (h : Host.reduce IntOp.andi (cmpf .olt x (broadcastInDim s ![] b (constant S_ .f32 0x7F800000#32))) (constantI S_ 1 1#1) r hu j = 1#1) (i : s.Idx) :
    x i < ⊤ :=
  lt_top_of_lt (x i) (Host.reduce_andi_all _ _ _ _ j h i)

theorem real_of_all {s : Shape} {ax : List (Fin s.rank)} (b : S_.BroadcastsInDim s (![] : Fin 0 → Fin s.rank)) (x : FVec Ideal s .f32) (r : s.ReducesTo ax S_) (hu : 0 < S_.numel) (j : S_.Idx)
    (h : Host.reduce IntOp.andi (cmpf .olt (Host.absf x) (broadcastInDim s ![] b (constant S_ .f32 0x7F800000#32))) (constantI S_ 1 1#1) r hu j = 1#1) (i : s.Idx) :
    Nsa.IsReal (x i) :=
  real_of_lt (x i) (Host.reduce_andi_all _ _ _ _ j h i)

/-- Which pairs of blocks of a head and a token count. -/
def counted : IVec S12x2048x64x64 1 :=
  andi (andi (cmpi .slt (iotaInDim S12x2048x64x64 32 2) (iotaInDim S12x2048x64x64 32 3))
    (cmpi .sle
      (subi (muli (addi (iotaInDim S12x2048x64x64 32 3) (broadcastInDim S12x2048x64x64 ![] Facts.bcast_S_S12x2048x64x64 (constantI S_ 32 1#32)))
        (broadcastInDim S12x2048x64x64 ![] Facts.bcast_S_S12x2048x64x64 (constantI S_ 32 32#32)))
        (broadcastInDim S12x2048x64x64 ![] Facts.bcast_S_S12x2048x64x64 (constantI S_ 32 1#32)))
      (iotaInDim S12x2048x64x64 32 1)))
    (cmpi .sge (iotaInDim S12x2048x64x64 32 1) (broadcastInDim S12x2048x64x64 ![] Facts.bcast_S_S12x2048x64x64 (constantI S_ 32 543#32)))

theorem counted_at (h : Fin 12) (t : Fin 2048) (ht : 543 ≤ t.val) (a b : Fin 64) (hab : a < b) (hb : 32 * b.val + 31 ≤ t.val) : counted (ix4 h t a b) = 1#1 := by
  refine (Cert.ReferenceIdeal.Val.and_iff _ _).2 ⟨(Cert.ReferenceIdeal.Val.and_iff _ _).2 ⟨?_, ?_⟩, ?_⟩
  · show IntOp.cmpi .slt (BitVec.ofNat 32 a.val) (BitVec.ofNat 32 b.val) = 1#1
    exact (WordCmp.cmpi_slt_ofNat_eq_one_iff (w := 32) (by have := a.isLt; omega) (by have := b.isLt; omega)).2 hab
  · show IntOp.cmpi .sle (IntOp.subi (IntOp.muli (IntOp.addi (BitVec.ofNat 32 b.val) 1#32) 32#32) 1#32) (BitVec.ofNat 32 t.val) = 1#1
    rw [Cert.ReferenceIdeal.Val.last_word]
    exact (WordCmp.cmpi_sle_ofNat_eq_one_iff (w := 32) (by have := b.isLt; omega) (by have := t.isLt; omega)).2 hb
  · show IntOp.cmpi .sge (BitVec.ofNat 32 t.val) (BitVec.ofNat 32 543) = 1#1
    exact (WordCmp.cmpi_sge_ofNat_eq_one_iff (w := 32) (by have := t.isLt; omega) (by norm_num)).2 ht

theorem ne_of_all (s : FVec Ideal S12x2048x64 .f32) (cnt : IVec S12x2048x64x64 1) (h : Fin 12) (t : Fin 2048) (a b : Fin 64)
    (hc : cnt (ix4 h t a b) = 1#1)
    (e : ori (cmpf .une (broadcastInDim S12x2048x64x64 ![0, 1, 2, 3] Facts.bcast_S12x2048x64x1_S12x2048x64x64_0_1_2_3 (broadcastInDim S12x2048x64x1 ![0, 1, 2] Facts.bcast_S12x2048x64_S12x2048x64x1_0_1_2 s))
        (broadcastInDim S12x2048x64x64 ![0, 1, 2, 3] Facts.bcast_S12x2048x1x64_S12x2048x64x64_0_1_2_3 (broadcastInDim S12x2048x1x64 ![0, 1, 3] Facts.bcast_S12x2048x64_S12x2048x1x64_0_1_3 s)))
      (noti cnt) (ix4 h t a b) = 1#1) :
    s (ix3 h t a) ≠ s (ix3 h t b) := by
  intro hs
  rcases (Cert.ReferenceIdeal.Val.or_iff _ _).1 e with h1 | h2
  · have e1 : broadcastInDim S12x2048x64x64 ![0, 1, 2, 3] Facts.bcast_S12x2048x64x1_S12x2048x64x64_0_1_2_3
        (broadcastInDim S12x2048x64x1 ![0, 1, 2] Facts.bcast_S12x2048x64_S12x2048x64x1_0_1_2 s) (ix4 h t a b) = s (ix3 h t a) :=
      congrArg s (by ext k; fin_cases k <;> rfl)
    have e2 : broadcastInDim S12x2048x64x64 ![0, 1, 2, 3] Facts.bcast_S12x2048x1x64_S12x2048x64x64_0_1_2_3
        (broadcastInDim S12x2048x1x64 ![0, 1, 3] Facts.bcast_S12x2048x64_S12x2048x1x64_0_1_3 s) (ix4 h t a b) = s (ix3 h t b) :=
      congrArg s (by ext k; fin_cases k <;> rfl)
    have h1' : Ideal.cmp .une (broadcastInDim S12x2048x64x64 ![0, 1, 2, 3] Facts.bcast_S12x2048x64x1_S12x2048x64x64_0_1_2_3
        (broadcastInDim S12x2048x64x1 ![0, 1, 2] Facts.bcast_S12x2048x64_S12x2048x64x1_0_1_2 s) (ix4 h t a b))
        (broadcastInDim S12x2048x64x64 ![0, 1, 2, 3] Facts.bcast_S12x2048x1x64_S12x2048x64x64_0_1_2_3
        (broadcastInDim S12x2048x1x64 ![0, 1, 3] Facts.bcast_S12x2048x64_S12x2048x1x64_0_1_3 s) (ix4 h t a b)) = 1#1 := h1
    rw [e1, e2, hs] at h1'
    simp [Ideal.cmp] at h1'
  · have h2' : ~~~ cnt (ix4 h t a b) = 1#1 := h2
    exact (Cert.ReferenceIdeal.Val.not_iff' _).1 h2' hc

theorem part8 (x5 x6 : FVec Ideal S64 .f32) (x9 : FVec Ideal S12 .f32) (s : FVec Ideal S12x2048x64 .f32) (cnt : IVec S12x2048x64x64 1) (j : S_.Idx)
    (h : fn_part8 (F := Ideal) x6 x9 s cnt (Host.absf x5) (constant S_ .f32 0x7F800000#32) j = 1#1) :
    (∀ d, Nsa.IsReal (x5 d)) ∧ (∀ d, Nsa.IsReal (x6 d)) ∧ (∀ d, x9 d < ⊤)
      ∧ ∀ (h : Fin 12) (t : Fin 2048) (a b : Fin 64), cnt (ix4 h t a b) = 1#1 → s (ix3 h t a) ≠ s (ix3 h t b) := by
  obtain ⟨h1, h2⟩ := (Cert.ReferenceIdeal.Val.and_iff _ _).1 h
  obtain ⟨h3, h4⟩ := (Cert.ReferenceIdeal.Val.and_iff _ _).1 h1
  obtain ⟨h5, h6⟩ := (Cert.ReferenceIdeal.Val.and_iff _ _).1 h3
  exact ⟨fun d => real_of_all Facts.bcast_S_S64 x5 Facts.reducesTo_S64_S_d0 Facts.h_S_ j h5 d,
    fun d => real_of_all Facts.bcast_S_S64 x6 Facts.reducesTo_S64_S_d0 Facts.h_S_ j h6 d,
    fun d => lt_top_of_all Facts.bcast_S_S12 x9 Facts.reducesTo_S12_S_d0 Facts.h_S_ j h4 d,
    fun h t a b hc => ne_of_all s cnt h t a b hc (Host.reduce_andi_all _ _ _ _ j h2 (ix4 h t a b))⟩

open Cert.ReferenceIdeal.Read in
theorem fn_eq (x0 : FVec Ideal S1x2048x768 .f32) (x1 : FVec Ideal S384x768 .f32) (x2 : FVec Ideal S768x384 .f32) (x3 x4 : FVec Ideal S64x768 .f32)
    (x5 x6 : FVec Ideal S64 .f32) (x7 : FVec Ideal S3x64 .f32) (x8 : FVec Ideal S3 .f32) (x9 : FVec Ideal S12 .f32) (x10 : FVec Ideal S2x1024x384 .f32) (x11 : FVec Ideal S768x2048 .f32) :
    fn (F := Ideal) x0 x1 x2 x3 x4 x5 x6 x7 x8 x9 x10 x11 = fn_part7 (F := Ideal) x5 x6 x9 (val_main_v162 (F := Ideal) x0 x1 x2 x3 x5 x6) := rfl

end Cert.Pre_distinct_scores

namespace Cert.KernelIdeal.Val

open Idealize.ShloMosaic Idealize.ShloMosaic.TcCoe Cert.KernelIdeal Cert.KernelIdeal.Gen Cert.Pre_distinct_scores

variable [Cert.Pre_distinct_scores.Facts] (m : (l : Loc nD τ sig) → Buf (Elt Ideal) l) (c : Dev nD) (j : Cert.Pre_distinct_scores.S_.Idx)

/-- What the precondition says of a launch's arguments. -/
theorem ok_of_pre
    (h : Cert.Pre_distinct_scores.fn (F := Ideal) (arg m c main_arg0) (arg m c main_arg1) (arg m c main_arg2) (arg m c main_arg3) (arg m c main_arg4)
      (arg m c main_arg5) (arg m c main_arg6) (arg m c main_arg7) (arg m c main_arg8) (arg m c main_arg9) (arg m c main_arg10) (arg m c main_arg11) j = 1#1) :
    Ok m c := by
  rw [fn_eq] at h
  obtain ⟨h5, h6, h9, hs⟩ := part8 (arg m c main_arg5) (arg m c main_arg6) (arg m c main_arg9)
    (Cert.ReferenceIdeal.Read.val_main_v164 (F := Ideal) (arg m c main_arg0) (arg m c main_arg1) (arg m c main_arg2) (arg m c main_arg3) (arg m c main_arg5) (arg m c main_arg6))
    counted j h
  exact ⟨fun d => h5 (ix1 d), fun d => h6 (ix1 d), fun h => h9 (ix1 h),
    fun h t ht a b hab hb => hs h t a b (counted_at h t ht a b hab hb)⟩

end Cert.KernelIdeal.Val

end
-- ==== Proof.Launch.lean ====
module

public import proofs.«01_k».proof.Proof.Value

@[expose] public section

set_option maxRecDepth 16384

/-! The whole run of the kernel: it ends with the result buffer at its contents of the last segment, and the arguments as launched. -/

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (l : Loc nD τ sig) → Buf (Elt Ideal) l) (ρ : Dev nD → PrngReg)

local notation "𝕄" => MT nD τ sig Unit (Elt Ideal) ℕ (UR sig nD τ) ℕ

set_option backward.isDefEq.respectTransparency.types false in
/-- The run's final contents. -/
theorem run : θ_run defs (onTc (τ := τ) (main (F := Ideal))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v66 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Launch
public import Idealize.ShloMosaic.Adequacy
public import Idealize.ShloMosaic.Init

@[expose] public section

noncomputable section

namespace Cert.Proof

open Idealize.ShloMosaic Idealize.SL.Sem

/-- The kernel's run at the bit-exact instance ends, its arguments unchanged and its counters at zero. -/
theorem frame_kernel : Cert.quiescent_Kernel (hKernel := Cert.Kernel.Gen.facts) :=
  fun m ρ _ => Cert.Kernel.Gen.frame m ρ

/-- The same of the idealized kernel over the extended reals. -/
theorem frame_kernelIdeal : Cert.quiescent_KernelIdeal (hKernelIdeal := Cert.KernelIdeal.Gen.facts) :=
  fun m ρ _ => Cert.KernelIdeal.Gen.frame m ρ

/-- The reference runs and leaves its arguments; it declares no semaphore. -/
theorem frame_referenceIdeal : Cert.quiescent_ReferenceIdeal (hReferenceIdeal := Cert.ReferenceIdeal.Gen.facts) := by
  intro m ρ _
  exact (θ_run _ _ _).mono (fun r h => ⟨fun c => (h c).2, sem_eq_zero_of_no_sems (by decide) r.2⟩)
    (Cert.ReferenceIdeal.Value.run (F := Ideal) m ρ)

/-- The named constants are what the table says they are. -/
theorem preserves : Cert.preserves_Kernel_KernelIdeal :=
  ⟨IdealRules.named_const.statement Cert.KernelIdeal.κ "mask" .f32 0xF149F2CA#32 ⊥ rfl,
    IdealRules.named_const.statement Cert.KernelIdeal.κ "floor" .f32 0xEFA18F08#32 ⊥ rfl,
    IdealRules.named_const.statement Cert.KernelIdeal.κ "big" .f32 0x7149F2CA#32 ⊤ rfl⟩

/-- The two runs end with one result: the reference's own, of the arguments they share. -/
theorem agree : Cert.algebraic_KernelIdeal_ReferenceIdeal_pre_distinct_scores (hKernelIdeal := Cert.KernelIdeal.Gen.facts)
    (hReferenceIdeal := Cert.ReferenceIdeal.Gen.facts) (hPre_distinct_scores := Cert.Pre_distinct_scores.holds) := by
  letI := Cert.Pre_distinct_scores.holds
  intro m ρ m' ρ' hp hm
  refine ⟨fun c => Cert.KernelIdeal.Gen.W10 m ρ c (Proc.devRef .tc Cert.KernelIdeal.main_v66), Cert.KernelIdeal.Val.run m ρ, ?_⟩
  refine (θ_run _ _ _).mono (fun r h c => ⟨(h c).1.trans ?_, (h c).2⟩) (Cert.ReferenceIdeal.Value.run (F := Ideal) m' ρ')
  refine (Cert.ReferenceIdeal.Read.val_main_v293_eq (F := Ideal) (StableHlo.launchContents m' c)).trans ?_
  refine Eq.trans ?_ (Cert.KernelIdeal.Val.result_eq m ρ c (Cert.KernelIdeal.Val.ok_of_pre m c (fun k => k.elim0) (congrFun (hp c) _))).symm
  obtain ⟨h0, h1, h2, h3, h4, h5, h6, h7, h8, h9, h10, h11⟩ := hm c
  have g0 : StableHlo.launchContents m' c (Proc.devRef .tc Cert.ReferenceIdeal.main_arg0) = Cert.KernelIdeal.Val.arg m c Cert.KernelIdeal.main_arg0 := h0
  have g1 : StableHlo.launchContents m' c (Proc.devRef .tc Cert.ReferenceIdeal.main_arg1) = Cert.KernelIdeal.Val.arg m c Cert.KernelIdeal.main_arg1 := h1
  have g2 : StableHlo.launchContents m' c (Proc.devRef .tc Cert.ReferenceIdeal.main_arg2) = Cert.KernelIdeal.Val.arg m c Cert.KernelIdeal.main_arg2 := h2
  have g3 : StableHlo.launchContents m' c (Proc.devRef .tc Cert.ReferenceIdeal.main_arg3) = Cert.KernelIdeal.Val.arg m c Cert.KernelIdeal.main_arg3 := h3
  have g4 : StableHlo.launchContents m' c (Proc.devRef .tc Cert.ReferenceIdeal.main_arg4) = Cert.KernelIdeal.Val.arg m c Cert.KernelIdeal.main_arg4 := h4
  have g5 : StableHlo.launchContents m' c (Proc.devRef .tc Cert.ReferenceIdeal.main_arg5) = Cert.KernelIdeal.Val.arg m c Cert.KernelIdeal.main_arg5 := h5
  have g6 : StableHlo.launchContents m' c (Proc.devRef .tc Cert.ReferenceIdeal.main_arg6) = Cert.KernelIdeal.Val.arg m c Cert.KernelIdeal.main_arg6 := h6
  have g7 : StableHlo.launchContents m' c (Proc.devRef .tc Cert.ReferenceIdeal.main_arg7) = Cert.KernelIdeal.Val.arg m c Cert.KernelIdeal.main_arg7 := h7
  have g8 : StableHlo.launchContents m' c (Proc.devRef .tc Cert.ReferenceIdeal.main_arg8) = Cert.KernelIdeal.Val.arg m c Cert.KernelIdeal.main_arg8 := h8
  have g9 : StableHlo.launchContents m' c (Proc.devRef .tc Cert.ReferenceIdeal.main_arg9) = Cert.KernelIdeal.Val.arg m c Cert.KernelIdeal.main_arg9 := h9
  have g10 : StableHlo.launchContents m' c (Proc.devRef .tc Cert.ReferenceIdeal.main_arg10) = Cert.KernelIdeal.Val.arg m c Cert.KernelIdeal.main_arg10 := h10
  have g11 : StableHlo.launchContents m' c (Proc.devRef .tc Cert.ReferenceIdeal.main_arg11) = Cert.KernelIdeal.Val.arg m c Cert.KernelIdeal.main_arg11 := h11
  rw [g0, g1, g2, g3, g4, g5, g6, g7, g8, g9, g10, g11]

theorem claim : Cert.Claim :=
  ⟨Cert.Kernel.Gen.facts, Cert.KernelIdeal.Gen.facts, Cert.ReferenceIdeal.Gen.facts, Cert.Pre_distinct_scores.holds,
    frame_kernel, frame_kernelIdeal, fun m ρ _ => frame_kernelIdeal m ρ trivial, frame_referenceIdeal, fun m ρ _ => frame_referenceIdeal m ρ trivial, preserves, agree⟩

end Cert.Proof

end
